-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 512]⟩ ⟨2, ![64, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S8x512 : Shape := ⟨2, ![8, 512]⟩
abbrev S3x512x1024 : Shape := ⟨3, ![3, 512, 1024]⟩
abbrev S3x1024x512 : Shape := ⟨3, ![3, 1024, 512]⟩
abbrev S3x8x8x512 : Shape := ⟨4, ![3, 8, 8, 512]⟩
abbrev S2x1x8x512 : Shape := ⟨4, ![2, 1, 8, 512]⟩
abbrev S2x8x8x512 : Shape := ⟨4, ![2, 8, 8, 512]⟩
abbrev S3x2 : Shape := ⟨2, ![3, 2]⟩
abbrev S4 : Shape := ⟨1, ![4]⟩
abbrev S_ : Shape := ⟨0, ![]⟩
abbrev S3x8 : Shape := ⟨2, ![3, 8]⟩
abbrev S1 : Shape := ⟨1, ![1]⟩
abbrev S1x512x512 : Shape := ⟨3, ![1, 512, 512]⟩
abbrev S512x512 : Shape := ⟨2, ![512, 512]⟩
abbrev S8x8x512 : Shape := ⟨3, ![8, 8, 512]⟩
abbrev S1x8x8x512 : Shape := ⟨4, ![1, 8, 8, 512]⟩
abbrev S1x1 : Shape := ⟨2, ![1, 1]⟩
abbrev S1x1x8x512 : Shape := ⟨4, ![1, 1, 8, 512]⟩
abbrev S1x8x512 : Shape := ⟨3, ![1, 8, 512]⟩
abbrev S1x512x1024 : Shape := ⟨3, ![1, 512, 1024]⟩
abbrev S1x1024x512 : Shape := ⟨3, ![1, 1024, 512]⟩
abbrev S1x4x8x512 : Shape := ⟨4, ![1, 4, 8, 512]⟩
abbrev S4x8x512 : Shape := ⟨3, ![4, 8, 512]⟩
abbrev S32x512 : Shape := ⟨2, ![32, 512]⟩
abbrev S32x1024 : Shape := ⟨2, ![32, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S8x512, .f32⟩
  | .local _ .vmem, ⟨0, _⟩ => ⟨S8x512, .f32⟩
  | .local _ .vmem, ⟨1, _⟩ => ⟨S3x512x1024, .f32⟩
  | .local _ .vmem, ⟨2, _⟩ => ⟨S3x1024x512, .f32⟩
  | .local _ .vmem, ⟨3, _⟩ => ⟨S3x8x8x512, .bf16⟩
  | .local _ .vmem, ⟨4, _⟩ => ⟨S3x8x8x512, .bf16⟩
  | .local _ .vmem, ⟨5, _⟩ => ⟨S2x1x8x512, .bf16⟩
  | .local _ .vmem, ⟨6, _⟩ => ⟨S2x8x8x512, .bf16⟩
  | .local _ .vmem, ⟨7, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  (ofTc nBuf bufTy 1 108 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v24 : BitVec 1 := Scalar.cmpi .ne v2 c0_i32_20
  let v25 : BitVec 32 := Scalar.extui v24
  let c0_i32_21 : BitVec 32 := 0#32
  let v26 : BitVec 1 := Scalar.cmpi .ne v25 c0_i32_21
  v26

def k0_dev1 : Nat :=
  let c0_i32_483 : BitVec 32 := 0#32
  let c0_i32_481 : BitVec 32 := 0#32
  let c1_i32_482 : BitVec 32 := 1#32
  let v607 : BitVec 32 := Scalar.muli c0_i32_481 c1_i32_482
  let v608 : BitVec 32 := Scalar.addi c0_i32_483 v607
  v608.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v27 : BitVec 1 := Scalar.cmpi .ne v2 c1_i32_22
  let v28 : BitVec 32 := Scalar.extui v27
  let c0_i32_23 : BitVec 32 := 0#32
  let v29 : BitVec 1 := Scalar.cmpi .ne v28 c0_i32_23
  v29

def k0_dev2 : Nat :=
  let c0_i32_483 : BitVec 32 := 0#32
  let c1_i32_481 : BitVec 32 := 1#32
  let c1_i32_482 : BitVec 32 := 1#32
  let v607 : BitVec 32 := Scalar.muli c1_i32_481 c1_i32_482
  let v608 : BitVec 32 := Scalar.addi c0_i32_483 v607
  v608.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_24 : BitVec 32 := 2#32
  let v30 : BitVec 1 := Scalar.cmpi .ne v2 c2_i32_24
  let v31 : BitVec 32 := Scalar.extui v30
  let c0_i32_25 : BitVec 32 := 0#32
  let v32 : BitVec 1 := Scalar.cmpi .ne v31 c0_i32_25
  v32

def k0_dev3 : Nat :=
  let c0_i32_483 : BitVec 32 := 0#32
  let c2_i32_481 : BitVec 32 := 2#32
  let c1_i32_482 : BitVec 32 := 1#32
  let v607 : BitVec 32 := Scalar.muli c2_i32_481 c1_i32_482
  let v608 : BitVec 32 := Scalar.addi c0_i32_483 v607
  v608.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_26 : BitVec 32 := 3#32
  let v33 : BitVec 1 := Scalar.cmpi .ne v2 c3_i32_26
  let v34 : BitVec 32 := Scalar.extui v33
  let c0_i32_27 : BitVec 32 := 0#32
  let v35 : BitVec 1 := Scalar.cmpi .ne v34 c0_i32_27
  v35

def k0_dev4 : Nat :=
  let c0_i32_483 : BitVec 32 := 0#32
  let c3_i32_481 : BitVec 32 := 3#32
  let c1_i32_482 : BitVec 32 := 1#32
  let v607 : BitVec 32 := Scalar.muli c3_i32_481 c1_i32_482
  let v608 : BitVec 32 := Scalar.addi c0_i32_483 v607
  v608.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v36 : BitVec 1 := Scalar.cmpi .ne v2 c4_i32
  let v37 : BitVec 32 := Scalar.extui v36
  let c0_i32_28 : BitVec 32 := 0#32
  let v38 : BitVec 1 := Scalar.cmpi .ne v37 c0_i32_28
  v38

def k0_dev5 : Nat :=
  let c0_i32_483 : BitVec 32 := 0#32
  let c4_i32_481 : BitVec 32 := 4#32
  let c1_i32_482 : BitVec 32 := 1#32
  let v607 : BitVec 32 := Scalar.muli c4_i32_481 c1_i32_482
  let v608 : BitVec 32 := Scalar.addi c0_i32_483 v607
  v608.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v39 : BitVec 1 := Scalar.cmpi .ne v2 c5_i32
  let v40 : BitVec 32 := Scalar.extui v39
  let c0_i32_29 : BitVec 32 := 0#32
  let v41 : BitVec 1 := Scalar.cmpi .ne v40 c0_i32_29
  v41

def k0_dev6 : Nat :=
  let c0_i32_483 : BitVec 32 := 0#32
  let c5_i32_481 : BitVec 32 := 5#32
  let c1_i32_482 : BitVec 32 := 1#32
  let v607 : BitVec 32 := Scalar.muli c5_i32_481 c1_i32_482
  let v608 : BitVec 32 := Scalar.addi c0_i32_483 v607
  v608.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v42 : BitVec 1 := Scalar.cmpi .ne v2 c6_i32
  let v43 : BitVec 32 := Scalar.extui v42
  let c0_i32_30 : BitVec 32 := 0#32
  let v44 : BitVec 1 := Scalar.cmpi .ne v43 c0_i32_30
  v44

def k0_dev7 : Nat :=
  let c0_i32_483 : BitVec 32 := 0#32
  let c6_i32_481 : BitVec 32 := 6#32
  let c1_i32_482 : BitVec 32 := 1#32
  let v607 : BitVec 32 := Scalar.muli c6_i32_481 c1_i32_482
  let v608 : BitVec 32 := Scalar.addi c0_i32_483 v607
  v608.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v45 : BitVec 1 := Scalar.cmpi .ne v2 c7_i32
  let v46 : BitVec 32 := Scalar.extui v45
  let c0_i32_31 : BitVec 32 := 0#32
  let v47 : BitVec 1 := Scalar.cmpi .ne v46 c0_i32_31
  v47

def k0_dev8 : Nat :=
  let c0_i32_483 : BitVec 32 := 0#32
  let c7_i32_481 : BitVec 32 := 7#32
  let c1_i32_482 : BitVec 32 := 1#32
  let v607 : BitVec 32 := Scalar.muli c7_i32_481 c1_i32_482
  let v608 : BitVec 32 := Scalar.addi c0_i32_483 v607
  v608.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_78 : BitVec 32 := 0#32
  let v91 : BitVec 1 := Scalar.cmpi .ne v2 c0_i32_78
  let v92 : BitVec 32 := Scalar.extui v91
  let c0_i32_79 : BitVec 32 := 0#32
  let v93 : BitVec 1 := Scalar.cmpi .ne v92 c0_i32_79
  v93

def k0_off1 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off2 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev9 : Nat :=
  let c0_i32_487 : BitVec 32 := 0#32
  let c0_i32_485 : BitVec 32 := 0#32
  let c1_i32_486 : BitVec 32 := 1#32
  let v607 : BitVec 32 := Scalar.muli c0_i32_485 c1_i32_486
  let v608 : BitVec 32 := Scalar.addi c0_i32_487 v607
  v608.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_80 : BitVec 32 := 1#32
  let v94 : BitVec 1 := Scalar.cmpi .ne v2 c1_i32_80
  let v95 : BitVec 32 := Scalar.extui v94
  let c0_i32_81 : BitVec 32 := 0#32
  let v96 : BitVec 1 := Scalar.cmpi .ne v95 c0_i32_81
  v96

def k0_off3 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off4 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev10 : Nat :=
  let c0_i32_487 : BitVec 32 := 0#32
  let c1_i32_485 : BitVec 32 := 1#32
  let c1_i32_486 : BitVec 32 := 1#32
  let v607 : BitVec 32 := Scalar.muli c1_i32_485 c1_i32_486
  let v608 : BitVec 32 := Scalar.addi c0_i32_487 v607
  v608.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_82 : BitVec 32 := 2#32
  let v97 : BitVec 1 := Scalar.cmpi .ne v2 c2_i32_82
  let v98 : BitVec 32 := Scalar.extui v97
  let c0_i32_83 : BitVec 32 := 0#32
  let v99 : BitVec 1 := Scalar.cmpi .ne v98 c0_i32_83
  v99

def k0_off5 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off6 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev11 : Nat :=
  let c0_i32_487 : BitVec 32 := 0#32
  let c2_i32_485 : BitVec 32 := 2#32
  let c1_i32_486 : BitVec 32 := 1#32
  let v607 : BitVec 32 := Scalar.muli c2_i32_485 c1_i32_486
  let v608 : BitVec 32 := Scalar.addi c0_i32_487 v607
  v608.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_84 : BitVec 32 := 3#32
  let v100 : BitVec 1 := Scalar.cmpi .ne v2 c3_i32_84
  let v101 : BitVec 32 := Scalar.extui v100
  let c0_i32_85 : BitVec 32 := 0#32
  let v102 : BitVec 1 := Scalar.cmpi .ne v101 c0_i32_85
  v102

def k0_off7 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off8 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev12 : Nat :=
  let c0_i32_487 : BitVec 32 := 0#32
  let c3_i32_485 : BitVec 32 := 3#32
  let c1_i32_486 : BitVec 32 := 1#32
  let v607 : BitVec 32 := Scalar.muli c3_i32_485 c1_i32_486
  let v608 : BitVec 32 := Scalar.addi c0_i32_487 v607
  v608.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_86 : BitVec 32 := 4#32
  let v103 : BitVec 1 := Scalar.cmpi .ne v2 c4_i32_86
  let v104 : BitVec 32 := Scalar.extui v103
  let c0_i32_87 : BitVec 32 := 0#32
  let v105 : BitVec 1 := Scalar.cmpi .ne v104 c0_i32_87
  v105

def k0_off9 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off10 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev13 : Nat :=
  let c0_i32_487 : BitVec 32 := 0#32
  let c4_i32_485 : BitVec 32 := 4#32
  let c1_i32_486 : BitVec 32 := 1#32
  let v607 : BitVec 32 := Scalar.muli c4_i32_485 c1_i32_486
  let v608 : BitVec 32 := Scalar.addi c0_i32_487 v607
  v608.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_88 : BitVec 32 := 5#32
  let v106 : BitVec 1 := Scalar.cmpi .ne v2 c5_i32_88
  let v107 : BitVec 32 := Scalar.extui v106
  let c0_i32_89 : BitVec 32 := 0#32
  let v108 : BitVec 1 := Scalar.cmpi .ne v107 c0_i32_89
  v108

def k0_off11 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off12 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev14 : Nat :=
  let c0_i32_487 : BitVec 32 := 0#32
  let c5_i32_485 : BitVec 32 := 5#32
  let c1_i32_486 : BitVec 32 := 1#32
  let v607 : BitVec 32 := Scalar.muli c5_i32_485 c1_i32_486
  let v608 : BitVec 32 := Scalar.addi c0_i32_487 v607
  v608.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v109 : BitVec 1 := Scalar.cmpi .ne v2 c6_i32_90
  let v110 : BitVec 32 := Scalar.extui v109
  let c0_i32_91 : BitVec 32 := 0#32
  let v111 : BitVec 1 := Scalar.cmpi .ne v110 c0_i32_91
  v111

def k0_off13 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off14 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev15 : Nat :=
  let c0_i32_487 : BitVec 32 := 0#32
  let c6_i32_485 : BitVec 32 := 6#32
  let c1_i32_486 : BitVec 32 := 1#32
  let v607 : BitVec 32 := Scalar.muli c6_i32_485 c1_i32_486
  let v608 : BitVec 32 := Scalar.addi c0_i32_487 v607
  v608.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v112 : BitVec 1 := Scalar.cmpi .ne v2 c7_i32_92
  let v113 : BitVec 32 := Scalar.extui v112
  let c0_i32_93 : BitVec 32 := 0#32
  let v114 : BitVec 1 := Scalar.cmpi .ne v113 c0_i32_93
  v114

def k0_off15 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off16 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev16 : Nat :=
  let c0_i32_487 : BitVec 32 := 0#32
  let c7_i32_485 : BitVec 32 := 7#32
  let c1_i32_486 : BitVec 32 := 1#32
  let v607 : BitVec 32 := Scalar.muli c7_i32_485 c1_i32_486
  let v608 : BitVec 32 := Scalar.addi c0_i32_487 v607
  v608.toNat
def k0_off17 (d0 : Dev nD) : Fin 4 → Nat :=
  let c0_114 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : Index := Scalar.indexCast v2
  let c0_115 : Index := 0#32
  let c0_116 : Index := 0#32
  ![0, v131.toNat, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_145 : BitVec 32 := 0#32
  let v171 : BitVec 1 := Scalar.cmpi .ne v2 c0_i32_145
  let v172 : BitVec 32 := Scalar.extui v171
  let c0_i32_146 : BitVec 32 := 0#32
  let v173 : BitVec 1 := Scalar.cmpi .ne v172 c0_i32_146
  v173

def k0_off18 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off19 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev17 : Nat :=
  let c0_i32_487 : BitVec 32 := 0#32
  let c0_i32_485 : BitVec 32 := 0#32
  let c1_i32_486 : BitVec 32 := 1#32
  let v607 : BitVec 32 := Scalar.muli c0_i32_485 c1_i32_486
  let v608 : BitVec 32 := Scalar.addi c0_i32_487 v607
  v608.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_147 : BitVec 32 := 1#32
  let v174 : BitVec 1 := Scalar.cmpi .ne v2 c1_i32_147
  let v175 : BitVec 32 := Scalar.extui v174
  let c0_i32_148 : BitVec 32 := 0#32
  let v176 : BitVec 1 := Scalar.cmpi .ne v175 c0_i32_148
  v176

def k0_off20 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off21 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev18 : Nat :=
  let c0_i32_487 : BitVec 32 := 0#32
  let c1_i32_485 : BitVec 32 := 1#32
  let c1_i32_486 : BitVec 32 := 1#32
  let v607 : BitVec 32 := Scalar.muli c1_i32_485 c1_i32_486
  let v608 : BitVec 32 := Scalar.addi c0_i32_487 v607
  v608.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_149 : BitVec 32 := 2#32
  let v177 : BitVec 1 := Scalar.cmpi .ne v2 c2_i32_149
  let v178 : BitVec 32 := Scalar.extui v177
  let c0_i32_150 : BitVec 32 := 0#32
  let v179 : BitVec 1 := Scalar.cmpi .ne v178 c0_i32_150
  v179

def k0_off22 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off23 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev19 : Nat :=
  let c0_i32_487 : BitVec 32 := 0#32
  let c2_i32_485 : BitVec 32 := 2#32
  let c1_i32_486 : BitVec 32 := 1#32
  let v607 : BitVec 32 := Scalar.muli c2_i32_485 c1_i32_486
  let v608 : BitVec 32 := Scalar.addi c0_i32_487 v607
  v608.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_151 : BitVec 32 := 3#32
  let v180 : BitVec 1 := Scalar.cmpi .ne v2 c3_i32_151
  let v181 : BitVec 32 := Scalar.extui v180
  let c0_i32_152 : BitVec 32 := 0#32
  let v182 : BitVec 1 := Scalar.cmpi .ne v181 c0_i32_152
  v182

def k0_off24 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off25 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev20 : Nat :=
  let c0_i32_487 : BitVec 32 := 0#32
  let c3_i32_485 : BitVec 32 := 3#32
  let c1_i32_486 : BitVec 32 := 1#32
  let v607 : BitVec 32 := Scalar.muli c3_i32_485 c1_i32_486
  let v608 : BitVec 32 := Scalar.addi c0_i32_487 v607
  v608.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_153 : BitVec 32 := 4#32
  let v183 : BitVec 1 := Scalar.cmpi .ne v2 c4_i32_153
  let v184 : BitVec 32 := Scalar.extui v183
  let c0_i32_154 : BitVec 32 := 0#32
  let v185 : BitVec 1 := Scalar.cmpi .ne v184 c0_i32_154
  v185

def k0_off26 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off27 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev21 : Nat :=
  let c0_i32_487 : BitVec 32 := 0#32
  let c4_i32_485 : BitVec 32 := 4#32
  let c1_i32_486 : BitVec 32 := 1#32
  let v607 : BitVec 32 := Scalar.muli c4_i32_485 c1_i32_486
  let v608 : BitVec 32 := Scalar.addi c0_i32_487 v607
  v608.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_155 : BitVec 32 := 5#32
  let v186 : BitVec 1 := Scalar.cmpi .ne v2 c5_i32_155
  let v187 : BitVec 32 := Scalar.extui v186
  let c0_i32_156 : BitVec 32 := 0#32
  let v188 : BitVec 1 := Scalar.cmpi .ne v187 c0_i32_156
  v188

def k0_off28 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off29 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev22 : Nat :=
  let c0_i32_487 : BitVec 32 := 0#32
  let c5_i32_485 : BitVec 32 := 5#32
  let c1_i32_486 : BitVec 32 := 1#32
  let v607 : BitVec 32 := Scalar.muli c5_i32_485 c1_i32_486
  let v608 : BitVec 32 := Scalar.addi c0_i32_487 v607
  v608.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_157 : BitVec 32 := 6#32
  let v189 : BitVec 1 := Scalar.cmpi .ne v2 c6_i32_157
  let v190 : BitVec 32 := Scalar.extui v189
  let c0_i32_158 : BitVec 32 := 0#32
  let v191 : BitVec 1 := Scalar.cmpi .ne v190 c0_i32_158
  v191

def k0_off30 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off31 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev23 : Nat :=
  let c0_i32_487 : BitVec 32 := 0#32
  let c6_i32_485 : BitVec 32 := 6#32
  let c1_i32_486 : BitVec 32 := 1#32
  let v607 : BitVec 32 := Scalar.muli c6_i32_485 c1_i32_486
  let v608 : BitVec 32 := Scalar.addi c0_i32_487 v607
  v608.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_159 : BitVec 32 := 7#32
  let v192 : BitVec 1 := Scalar.cmpi .ne v2 c7_i32_159
  let v193 : BitVec 32 := Scalar.extui v192
  let c0_i32_160 : BitVec 32 := 0#32
  let v194 : BitVec 1 := Scalar.cmpi .ne v193 c0_i32_160
  v194

def k0_off32 (d0 : Dev nD) : Fin 2 → Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off33 (d0 : Dev nD) : Fin 4 → Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![0, v2.toNat, 0, 0]
def k0_dev24 : Nat :=
  let c0_i32_487 : BitVec 32 := 0#32
  let c7_i32_485 : BitVec 32 := 7#32
  let c1_i32_486 : BitVec 32 := 1#32
  let v607 : BitVec 32 := Scalar.muli c7_i32_485 c1_i32_486
  let v608 : BitVec 32 := Scalar.addi c0_i32_487 v607
  v608.toNat
def k0_off34 (d0 : Dev nD) : Fin 4 → Nat :=
  let c0_165 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v197 : Index := Scalar.indexCast v2
  let c0_166 : Index := 0#32
  let c0_167 : Index := 0#32
  ![0, v197.toNat, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_202 : BitVec 32 := 0#32
  let v238 : BitVec 1 := Scalar.cmpi .ne v2 c0_i32_202
  let v239 : BitVec 32 := Scalar.extui v238
  let c0_i32_203 : BitVec 32 := 0#32
  let v240 : BitVec 1 := Scalar.cmpi .ne v239 c0_i32_203
  v240

def k0_off35 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off36 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev25 : Nat :=
  let c0_i32_487 : BitVec 32 := 0#32
  let c0_i32_485 : BitVec 32 := 0#32
  let c1_i32_486 : BitVec 32 := 1#32
  let v607 : BitVec 32 := Scalar.muli c0_i32_485 c1_i32_486
  let v608 : BitVec 32 := Scalar.addi c0_i32_487 v607
  v608.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_204 : BitVec 32 := 1#32
  let v241 : BitVec 1 := Scalar.cmpi .ne v2 c1_i32_204
  let v242 : BitVec 32 := Scalar.extui v241
  let c0_i32_205 : BitVec 32 := 0#32
  let v243 : BitVec 1 := Scalar.cmpi .ne v242 c0_i32_205
  v243

def k0_off37 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off38 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev26 : Nat :=
  let c0_i32_487 : BitVec 32 := 0#32
  let c1_i32_485 : BitVec 32 := 1#32
  let c1_i32_486 : BitVec 32 := 1#32
  let v607 : BitVec 32 := Scalar.muli c1_i32_485 c1_i32_486
  let v608 : BitVec 32 := Scalar.addi c0_i32_487 v607
  v608.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_206 : BitVec 32 := 2#32
  let v244 : BitVec 1 := Scalar.cmpi .ne v2 c2_i32_206
  let v245 : BitVec 32 := Scalar.extui v244
  let c0_i32_207 : BitVec 32 := 0#32
  let v246 : BitVec 1 := Scalar.cmpi .ne v245 c0_i32_207
  v246

def k0_off39 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off40 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev27 : Nat :=
  let c0_i32_487 : BitVec 32 := 0#32
  let c2_i32_485 : BitVec 32 := 2#32
  let c1_i32_486 : BitVec 32 := 1#32
  let v607 : BitVec 32 := Scalar.muli c2_i32_485 c1_i32_486
  let v608 : BitVec 32 := Scalar.addi c0_i32_487 v607
  v608.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_208 : BitVec 32 := 3#32
  let v247 : BitVec 1 := Scalar.cmpi .ne v2 c3_i32_208
  let v248 : BitVec 32 := Scalar.extui v247
  let c0_i32_209 : BitVec 32 := 0#32
  let v249 : BitVec 1 := Scalar.cmpi .ne v248 c0_i32_209
  v249

def k0_off41 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off42 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev28 : Nat :=
  let c0_i32_487 : BitVec 32 := 0#32
  let c3_i32_485 : BitVec 32 := 3#32
  let c1_i32_486 : BitVec 32 := 1#32
  let v607 : BitVec 32 := Scalar.muli c3_i32_485 c1_i32_486
  let v608 : BitVec 32 := Scalar.addi c0_i32_487 v607
  v608.toNat
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_234 : BitVec 32 := 4#32
  let v279 : BitVec 1 := Scalar.cmpi .ne v2 c4_i32_234
  let v280 : BitVec 32 := Scalar.extui v279
  let c0_i32_235 : BitVec 32 := 0#32
  let v281 : BitVec 1 := Scalar.cmpi .ne v280 c0_i32_235
  v281

def k0_off43 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off44 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev29 : Nat :=
  let c0_i32_487 : BitVec 32 := 0#32
  let c4_i32_485 : BitVec 32 := 4#32
  let c1_i32_486 : BitVec 32 := 1#32
  let v607 : BitVec 32 := Scalar.muli c4_i32_485 c1_i32_486
  let v608 : BitVec 32 := Scalar.addi c0_i32_487 v607
  v608.toNat
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_236 : BitVec 32 := 5#32
  let v282 : BitVec 1 := Scalar.cmpi .ne v2 c5_i32_236
  let v283 : BitVec 32 := Scalar.extui v282
  let c0_i32_237 : BitVec 32 := 0#32
  let v284 : BitVec 1 := Scalar.cmpi .ne v283 c0_i32_237
  v284

def k0_off45 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off46 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev30 : Nat :=
  let c0_i32_487 : BitVec 32 := 0#32
  let c5_i32_485 : BitVec 32 := 5#32
  let c1_i32_486 : BitVec 32 := 1#32
  let v607 : BitVec 32 := Scalar.muli c5_i32_485 c1_i32_486
  let v608 : BitVec 32 := Scalar.addi c0_i32_487 v607
  v608.toNat
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_238 : BitVec 32 := 6#32
  let v285 : BitVec 1 := Scalar.cmpi .ne v2 c6_i32_238
  let v286 : BitVec 32 := Scalar.extui v285
  let c0_i32_239 : BitVec 32 := 0#32
  let v287 : BitVec 1 := Scalar.cmpi .ne v286 c0_i32_239
  v287

def k0_off47 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off48 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev31 : Nat :=
  let c0_i32_487 : BitVec 32 := 0#32
  let c6_i32_485 : BitVec 32 := 6#32
  let c1_i32_486 : BitVec 32 := 1#32
  let v607 : BitVec 32 := Scalar.muli c6_i32_485 c1_i32_486
  let v608 : BitVec 32 := Scalar.addi c0_i32_487 v607
  v608.toNat
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_240 : BitVec 32 := 7#32
  let v288 : BitVec 1 := Scalar.cmpi .ne v2 c7_i32_240
  let v289 : BitVec 32 := Scalar.extui v288
  let c0_i32_241 : BitVec 32 := 0#32
  let v290 : BitVec 1 := Scalar.cmpi .ne v289 c0_i32_241
  v290

def k0_off49 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off50 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev32 : Nat :=
  let c0_i32_487 : BitVec 32 := 0#32
  let c7_i32_485 : BitVec 32 := 7#32
  let c1_i32_486 : BitVec 32 := 1#32
  let v607 : BitVec 32 := Scalar.muli c7_i32_485 c1_i32_486
  let v608 : BitVec 32 := Scalar.addi c0_i32_487 v607
  v608.toNat
def k0_off51 (d0 : Dev nD) : Fin 4 → Nat :=
  let c1_242 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v291 : Index := Scalar.indexCast v2
  let c0_243 : Index := 0#32
  let c0_244 : Index := 0#32
  ![1, v291.toNat, 0, 0]
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_273 : BitVec 32 := 0#32
  let v331 : BitVec 1 := Scalar.cmpi .ne v2 c0_i32_273
  let v332 : BitVec 32 := Scalar.extui v331
  let c0_i32_274 : BitVec 32 := 0#32
  let v333 : BitVec 1 := Scalar.cmpi .ne v332 c0_i32_274
  v333

def k0_off52 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off53 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev33 : Nat :=
  let c0_i32_487 : BitVec 32 := 0#32
  let c0_i32_485 : BitVec 32 := 0#32
  let c1_i32_486 : BitVec 32 := 1#32
  let v607 : BitVec 32 := Scalar.muli c0_i32_485 c1_i32_486
  let v608 : BitVec 32 := Scalar.addi c0_i32_487 v607
  v608.toNat
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_275 : BitVec 32 := 1#32
  let v334 : BitVec 1 := Scalar.cmpi .ne v2 c1_i32_275
  let v335 : BitVec 32 := Scalar.extui v334
  let c0_i32_276 : BitVec 32 := 0#32
  let v336 : BitVec 1 := Scalar.cmpi .ne v335 c0_i32_276
  v336

def k0_off54 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off55 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev34 : Nat :=
  let c0_i32_487 : BitVec 32 := 0#32
  let c1_i32_485 : BitVec 32 := 1#32
  let c1_i32_486 : BitVec 32 := 1#32
  let v607 : BitVec 32 := Scalar.muli c1_i32_485 c1_i32_486
  let v608 : BitVec 32 := Scalar.addi c0_i32_487 v607
  v608.toNat
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_277 : BitVec 32 := 2#32
  let v337 : BitVec 1 := Scalar.cmpi .ne v2 c2_i32_277
  let v338 : BitVec 32 := Scalar.extui v337
  let c0_i32_278 : BitVec 32 := 0#32
  let v339 : BitVec 1 := Scalar.cmpi .ne v338 c0_i32_278
  v339

def k0_off56 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off57 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev35 : Nat :=
  let c0_i32_487 : BitVec 32 := 0#32
  let c2_i32_485 : BitVec 32 := 2#32
  let c1_i32_486 : BitVec 32 := 1#32
  let v607 : BitVec 32 := Scalar.muli c2_i32_485 c1_i32_486
  let v608 : BitVec 32 := Scalar.addi c0_i32_487 v607
  v608.toNat
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_279 : BitVec 32 := 3#32
  let v340 : BitVec 1 := Scalar.cmpi .ne v2 c3_i32_279
  let v341 : BitVec 32 := Scalar.extui v340
  let c0_i32_280 : BitVec 32 := 0#32
  let v342 : BitVec 1 := Scalar.cmpi .ne v341 c0_i32_280
  v342

def k0_off58 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off59 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev36 : Nat :=
  let c0_i32_487 : BitVec 32 := 0#32
  let c3_i32_485 : BitVec 32 := 3#32
  let c1_i32_486 : BitVec 32 := 1#32
  let v607 : BitVec 32 := Scalar.muli c3_i32_485 c1_i32_486
  let v608 : BitVec 32 := Scalar.addi c0_i32_487 v607
  v608.toNat
def k0_cond61 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_281 : BitVec 32 := 4#32
  let v343 : BitVec 1 := Scalar.cmpi .ne v2 c4_i32_281
  let v344 : BitVec 32 := Scalar.extui v343
  let c0_i32_282 : BitVec 32 := 0#32
  let v345 : BitVec 1 := Scalar.cmpi .ne v344 c0_i32_282
  v345

def k0_off60 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off61 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev37 : Nat :=
  let c0_i32_487 : BitVec 32 := 0#32
  let c4_i32_485 : BitVec 32 := 4#32
  let c1_i32_486 : BitVec 32 := 1#32
  let v607 : BitVec 32 := Scalar.muli c4_i32_485 c1_i32_486
  let v608 : BitVec 32 := Scalar.addi c0_i32_487 v607
  v608.toNat
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_283 : BitVec 32 := 5#32
  let v346 : BitVec 1 := Scalar.cmpi .ne v2 c5_i32_283
  let v347 : BitVec 32 := Scalar.extui v346
  let c0_i32_284 : BitVec 32 := 0#32
  let v348 : BitVec 1 := Scalar.cmpi .ne v347 c0_i32_284
  v348

def k0_off62 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off63 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev38 : Nat :=
  let c0_i32_487 : BitVec 32 := 0#32
  let c5_i32_485 : BitVec 32 := 5#32
  let c1_i32_486 : BitVec 32 := 1#32
  let v607 : BitVec 32 := Scalar.muli c5_i32_485 c1_i32_486
  let v608 : BitVec 32 := Scalar.addi c0_i32_487 v607
  v608.toNat
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_285 : BitVec 32 := 6#32
  let v349 : BitVec 1 := Scalar.cmpi .ne v2 c6_i32_285
  let v350 : BitVec 32 := Scalar.extui v349
  let c0_i32_286 : BitVec 32 := 0#32
  let v351 : BitVec 1 := Scalar.cmpi .ne v350 c0_i32_286
  v351

def k0_off64 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off65 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev39 : Nat :=
  let c0_i32_487 : BitVec 32 := 0#32
  let c6_i32_485 : BitVec 32 := 6#32
  let c1_i32_486 : BitVec 32 := 1#32
  let v607 : BitVec 32 := Scalar.muli c6_i32_485 c1_i32_486
  let v608 : BitVec 32 := Scalar.addi c0_i32_487 v607
  v608.toNat
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_287 : BitVec 32 := 7#32
  let v352 : BitVec 1 := Scalar.cmpi .ne v2 c7_i32_287
  let v353 : BitVec 32 := Scalar.extui v352
  let c0_i32_288 : BitVec 32 := 0#32
  let v354 : BitVec 1 := Scalar.cmpi .ne v353 c0_i32_288
  v354

def k0_off66 (d0 : Dev nD) : Fin 2 → Nat :=
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off67 (d0 : Dev nD) : Fin 4 → Nat :=
  let c1_i32_481 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![1, v2.toNat, 0, 0]
def k0_dev40 : Nat :=
  let c0_i32_487 : BitVec 32 := 0#32
  let c7_i32_485 : BitVec 32 := 7#32
  let c1_i32_486 : BitVec 32 := 1#32
  let v607 : BitVec 32 := Scalar.muli c7_i32_485 c1_i32_486
  let v608 : BitVec 32 := Scalar.addi c0_i32_487 v607
  v608.toNat
def k0_off68 (d0 : Dev nD) : Fin 4 → Nat :=
  let c1_293 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v357 : Index := Scalar.indexCast v2
  let c0_294 : Index := 0#32
  let c0_295 : Index := 0#32
  ![1, v357.toNat, 0, 0]
def k0_cond69 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_330 : BitVec 32 := 0#32
  let v398 : BitVec 1 := Scalar.cmpi .ne v2 c0_i32_330
  let v399 : BitVec 32 := Scalar.extui v398
  let c0_i32_331 : BitVec 32 := 0#32
  let v400 : BitVec 1 := Scalar.cmpi .ne v399 c0_i32_331
  v400

def k0_off69 (d0 : Dev nD) : Fin 2 → Nat :=
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off70 (d0 : Dev nD) : Fin 4 → Nat :=
  let c2_i32_481 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![2, v2.toNat, 0, 0]
def k0_dev41 : Nat :=
  let c0_i32_487 : BitVec 32 := 0#32
  let c0_i32_485 : BitVec 32 := 0#32
  let c1_i32_486 : BitVec 32 := 1#32
  let v607 : BitVec 32 := Scalar.muli c0_i32_485 c1_i32_486
  let v608 : BitVec 32 := Scalar.addi c0_i32_487 v607
  v608.toNat
def k0_cond70 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_332 : BitVec 32 := 1#32
  let v401 : BitVec 1 := Scalar.cmpi .ne v2 c1_i32_332
  let v402 : BitVec 32 := Scalar.extui v401
  let c0_i32_333 : BitVec 32 := 0#32
  let v403 : BitVec 1 := Scalar.cmpi .ne v402 c0_i32_333
  v403

def k0_off71 (d0 : Dev nD) : Fin 2 → Nat :=
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off72 (d0 : Dev nD) : Fin 4 → Nat :=
  let c2_i32_481 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![2, v2.toNat, 0, 0]
def k0_dev42 : Nat :=
  let c0_i32_487 : BitVec 32 := 0#32
  let c1_i32_485 : BitVec 32 := 1#32
  let c1_i32_486 : BitVec 32 := 1#32
  let v607 : BitVec 32 := Scalar.muli c1_i32_485 c1_i32_486
  let v608 : BitVec 32 := Scalar.addi c0_i32_487 v607
  v608.toNat
def k0_cond71 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_334 : BitVec 32 := 2#32
  let v404 : BitVec 1 := Scalar.cmpi .ne v2 c2_i32_334
  let v405 : BitVec 32 := Scalar.extui v404
  let c0_i32_335 : BitVec 32 := 0#32
  let v406 : BitVec 1 := Scalar.cmpi .ne v405 c0_i32_335
  v406

def k0_off73 (d0 : Dev nD) : Fin 2 → Nat :=
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off74 (d0 : Dev nD) : Fin 4 → Nat :=
  let c2_i32_481 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![2, v2.toNat, 0, 0]
def k0_dev43 : Nat :=
  let c0_i32_487 : BitVec 32 := 0#32
  let c2_i32_485 : BitVec 32 := 2#32
  let c1_i32_486 : BitVec 32 := 1#32
  let v607 : BitVec 32 := Scalar.muli c2_i32_485 c1_i32_486
  let v608 : BitVec 32 := Scalar.addi c0_i32_487 v607
  v608.toNat
def k0_cond72 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v407 : BitVec 1 := Scalar.cmpi .ne v2 c3_i32_336
  let v408 : BitVec 32 := Scalar.extui v407
  let c0_i32_337 : BitVec 32 := 0#32
  let v409 : BitVec 1 := Scalar.cmpi .ne v408 c0_i32_337
  v409

def k0_off75 (d0 : Dev nD) : Fin 2 → Nat :=
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off76 (d0 : Dev nD) : Fin 4 → Nat :=
  let c2_i32_481 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![2, v2.toNat, 0, 0]
def k0_dev44 : Nat :=
  let c0_i32_487 : BitVec 32 := 0#32
  let c3_i32_485 : BitVec 32 := 3#32
  let c1_i32_486 : BitVec 32 := 1#32
  let v607 : BitVec 32 := Scalar.muli c3_i32_485 c1_i32_486
  let v608 : BitVec 32 := Scalar.addi c0_i32_487 v607
  v608.toNat
def k0_cond77 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_363 : BitVec 32 := 4#32
  let v439 : BitVec 1 := Scalar.cmpi .ne v2 c4_i32_363
  let v440 : BitVec 32 := Scalar.extui v439
  let c0_i32_364 : BitVec 32 := 0#32
  let v441 : BitVec 1 := Scalar.cmpi .ne v440 c0_i32_364
  v441

def k0_off77 (d0 : Dev nD) : Fin 2 → Nat :=
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off78 (d0 : Dev nD) : Fin 4 → Nat :=
  let c2_i32_481 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![2, v2.toNat, 0, 0]
def k0_dev45 : Nat :=
  let c0_i32_487 : BitVec 32 := 0#32
  let c4_i32_485 : BitVec 32 := 4#32
  let c1_i32_486 : BitVec 32 := 1#32
  let v607 : BitVec 32 := Scalar.muli c4_i32_485 c1_i32_486
  let v608 : BitVec 32 := Scalar.addi c0_i32_487 v607
  v608.toNat
def k0_cond78 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_365 : BitVec 32 := 5#32
  let v442 : BitVec 1 := Scalar.cmpi .ne v2 c5_i32_365
  let v443 : BitVec 32 := Scalar.extui v442
  let c0_i32_366 : BitVec 32 := 0#32
  let v444 : BitVec 1 := Scalar.cmpi .ne v443 c0_i32_366
  v444

def k0_off79 (d0 : Dev nD) : Fin 2 → Nat :=
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off80 (d0 : Dev nD) : Fin 4 → Nat :=
  let c2_i32_481 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![2, v2.toNat, 0, 0]
def k0_dev46 : Nat :=
  let c0_i32_487 : BitVec 32 := 0#32
  let c5_i32_485 : BitVec 32 := 5#32
  let c1_i32_486 : BitVec 32 := 1#32
  let v607 : BitVec 32 := Scalar.muli c5_i32_485 c1_i32_486
  let v608 : BitVec 32 := Scalar.addi c0_i32_487 v607
  v608.toNat
def k0_cond79 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_367 : BitVec 32 := 6#32
  let v445 : BitVec 1 := Scalar.cmpi .ne v2 c6_i32_367
  let v446 : BitVec 32 := Scalar.extui v445
  let c0_i32_368 : BitVec 32 := 0#32
  let v447 : BitVec 1 := Scalar.cmpi .ne v446 c0_i32_368
  v447

def k0_off81 (d0 : Dev nD) : Fin 2 → Nat :=
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off82 (d0 : Dev nD) : Fin 4 → Nat :=
  let c2_i32_481 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![2, v2.toNat, 0, 0]
def k0_dev47 : Nat :=
  let c0_i32_487 : BitVec 32 := 0#32
  let c6_i32_485 : BitVec 32 := 6#32
  let c1_i32_486 : BitVec 32 := 1#32
  let v607 : BitVec 32 := Scalar.muli c6_i32_485 c1_i32_486
  let v608 : BitVec 32 := Scalar.addi c0_i32_487 v607
  v608.toNat
def k0_cond80 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_369 : BitVec 32 := 7#32
  let v448 : BitVec 1 := Scalar.cmpi .ne v2 c7_i32_369
  let v449 : BitVec 32 := Scalar.extui v448
  let c0_i32_370 : BitVec 32 := 0#32
  let v450 : BitVec 1 := Scalar.cmpi .ne v449 c0_i32_370
  v450

def k0_off83 (d0 : Dev nD) : Fin 2 → Nat :=
  let c2_i32_482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off84 (d0 : Dev nD) : Fin 4 → Nat :=
  let c2_i32_481 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_488 : BitVec 32 := 0#32
  let c0_i32_489 : BitVec 32 := 0#32
  ![2, v2.toNat, 0, 0]
def k0_dev48 : Nat :=
  let c0_i32_487 : BitVec 32 := 0#32
  let c7_i32_485 : BitVec 32 := 7#32
  let c1_i32_486 : BitVec 32 := 1#32
  let v607 : BitVec 32 := Scalar.muli c7_i32_485 c1_i32_486
  let v608 : BitVec 32 := Scalar.addi c0_i32_487 v607
  v608.toNat
def k0_off85 (d0 : Dev nD) : Fin 4 → Nat :=
  let c2_371 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v451 : Index := Scalar.indexCast v2
  let c0_372 : Index := 0#32
  let c0_373 : Index := 0#32
  ![2, v451.toNat, 0, 0]
def k0_cond89 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_400 : BitVec 32 := 0#32
  let v487 : BitVec 1 := Scalar.cmpi .ne v2 c0_i32_400
  let v488 : BitVec 32 := Scalar.extui v487
  let c0_i32_401 : BitVec 32 := 0#32
  let v489 : BitVec 1 := Scalar.cmpi .ne v488 c0_i32_401
  v489

def k0_off86 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond90 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let v490 : BitVec 1 := Scalar.cmpi .ne v2 c0_i32_402
  let v491 : BitVec 32 := Scalar.extui v490
  let c0_i32_403 : BitVec 32 := 0#32
  let v492 : BitVec 1 := Scalar.cmpi .ne v491 c0_i32_403
  v492

def k0_off87 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond91 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_404 : BitVec 32 := 1#32
  let v493 : BitVec 1 := Scalar.cmpi .ne v2 c1_i32_404
  let v494 : BitVec 32 := Scalar.extui v493
  let c0_i32_405 : BitVec 32 := 0#32
  let v495 : BitVec 1 := Scalar.cmpi .ne v494 c0_i32_405
  v495

def k0_off88 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond92 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_406 : BitVec 32 := 1#32
  let v496 : BitVec 1 := Scalar.cmpi .ne v2 c1_i32_406
  let v497 : BitVec 32 := Scalar.extui v496
  let c0_i32_407 : BitVec 32 := 0#32
  let v498 : BitVec 1 := Scalar.cmpi .ne v497 c0_i32_407
  v498

def k0_off89 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond93 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_408 : BitVec 32 := 2#32
  let v499 : BitVec 1 := Scalar.cmpi .ne v2 c2_i32_408
  let v500 : BitVec 32 := Scalar.extui v499
  let c0_i32_409 : BitVec 32 := 0#32
  let v501 : BitVec 1 := Scalar.cmpi .ne v500 c0_i32_409
  v501

def k0_off90 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond94 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_410 : BitVec 32 := 2#32
  let v502 : BitVec 1 := Scalar.cmpi .ne v2 c2_i32_410
  let v503 : BitVec 32 := Scalar.extui v502
  let c0_i32_411 : BitVec 32 := 0#32
  let v504 : BitVec 1 := Scalar.cmpi .ne v503 c0_i32_411
  v504

def k0_off91 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond95 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_412 : BitVec 32 := 3#32
  let v505 : BitVec 1 := Scalar.cmpi .ne v2 c3_i32_412
  let v506 : BitVec 32 := Scalar.extui v505
  let c0_i32_413 : BitVec 32 := 0#32
  let v507 : BitVec 1 := Scalar.cmpi .ne v506 c0_i32_413
  v507

def k0_off92 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond96 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_414 : BitVec 32 := 3#32
  let v508 : BitVec 1 := Scalar.cmpi .ne v2 c3_i32_414
  let v509 : BitVec 32 := Scalar.extui v508
  let c0_i32_415 : BitVec 32 := 0#32
  let v510 : BitVec 1 := Scalar.cmpi .ne v509 c0_i32_415
  v510

def k0_off93 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond97 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_416 : BitVec 32 := 4#32
  let v511 : BitVec 1 := Scalar.cmpi .ne v2 c4_i32_416
  let v512 : BitVec 32 := Scalar.extui v511
  let c0_i32_417 : BitVec 32 := 0#32
  let v513 : BitVec 1 := Scalar.cmpi .ne v512 c0_i32_417
  v513

def k0_off94 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond98 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_418 : BitVec 32 := 4#32
  let v514 : BitVec 1 := Scalar.cmpi .ne v2 c4_i32_418
  let v515 : BitVec 32 := Scalar.extui v514
  let c0_i32_419 : BitVec 32 := 0#32
  let v516 : BitVec 1 := Scalar.cmpi .ne v515 c0_i32_419
  v516

def k0_off95 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond99 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_420 : BitVec 32 := 5#32
  let v517 : BitVec 1 := Scalar.cmpi .ne v2 c5_i32_420
  let v518 : BitVec 32 := Scalar.extui v517
  let c0_i32_421 : BitVec 32 := 0#32
  let v519 : BitVec 1 := Scalar.cmpi .ne v518 c0_i32_421
  v519

def k0_off96 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond100 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_422 : BitVec 32 := 5#32
  let v520 : BitVec 1 := Scalar.cmpi .ne v2 c5_i32_422
  let v521 : BitVec 32 := Scalar.extui v520
  let c0_i32_423 : BitVec 32 := 0#32
  let v522 : BitVec 1 := Scalar.cmpi .ne v521 c0_i32_423
  v522

def k0_off97 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond101 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_424 : BitVec 32 := 6#32
  let v523 : BitVec 1 := Scalar.cmpi .ne v2 c6_i32_424
  let v524 : BitVec 32 := Scalar.extui v523
  let c0_i32_425 : BitVec 32 := 0#32
  let v525 : BitVec 1 := Scalar.cmpi .ne v524 c0_i32_425
  v525

def k0_off98 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond102 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_426 : BitVec 32 := 6#32
  let v526 : BitVec 1 := Scalar.cmpi .ne v2 c6_i32_426
  let v527 : BitVec 32 := Scalar.extui v526
  let c0_i32_427 : BitVec 32 := 0#32
  let v528 : BitVec 1 := Scalar.cmpi .ne v527 c0_i32_427
  v528

def k0_off99 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond103 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_428 : BitVec 32 := 7#32
  let v529 : BitVec 1 := Scalar.cmpi .ne v2 c7_i32_428
  let v530 : BitVec 32 := Scalar.extui v529
  let c0_i32_429 : BitVec 32 := 0#32
  let v531 : BitVec 1 := Scalar.cmpi .ne v530 c0_i32_429
  v531

def k0_off100 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond104 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_430 : BitVec 32 := 7#32
  let v532 : BitVec 1 := Scalar.cmpi .ne v2 c7_i32_430
  let v533 : BitVec 32 := Scalar.extui v532
  let c0_i32_431 : BitVec 32 := 0#32
  let v534 : BitVec 1 := Scalar.cmpi .ne v533 c0_i32_431
  v534

def k0_off101 (d0 : Dev nD) : Fin 4 → Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![0, v2.toNat, 0, 0]
def k0_cond105 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_432 : BitVec 32 := 0#32
  let v535 : BitVec 1 := Scalar.cmpi .ne v2 c0_i32_432
  let v536 : BitVec 32 := Scalar.extui v535
  let c0_i32_433 : BitVec 32 := 0#32
  let v537 : BitVec 1 := Scalar.cmpi .ne v536 c0_i32_433
  v537

def k0_off102 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond106 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_434 : BitVec 32 := 0#32
  let v538 : BitVec 1 := Scalar.cmpi .ne v2 c0_i32_434
  let v539 : BitVec 32 := Scalar.extui v538
  let c0_i32_435 : BitVec 32 := 0#32
  let v540 : BitVec 1 := Scalar.cmpi .ne v539 c0_i32_435
  v540

def k0_off103 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond107 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_436 : BitVec 32 := 1#32
  let v541 : BitVec 1 := Scalar.cmpi .ne v2 c1_i32_436
  let v542 : BitVec 32 := Scalar.extui v541
  let c0_i32_437 : BitVec 32 := 0#32
  let v543 : BitVec 1 := Scalar.cmpi .ne v542 c0_i32_437
  v543

def k0_off104 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond108 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_438 : BitVec 32 := 1#32
  let v544 : BitVec 1 := Scalar.cmpi .ne v2 c1_i32_438
  let v545 : BitVec 32 := Scalar.extui v544
  let c0_i32_439 : BitVec 32 := 0#32
  let v546 : BitVec 1 := Scalar.cmpi .ne v545 c0_i32_439
  v546

def k0_off105 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond109 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_440 : BitVec 32 := 2#32
  let v547 : BitVec 1 := Scalar.cmpi .ne v2 c2_i32_440
  let v548 : BitVec 32 := Scalar.extui v547
  let c0_i32_441 : BitVec 32 := 0#32
  let v549 : BitVec 1 := Scalar.cmpi .ne v548 c0_i32_441
  v549

def k0_off106 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond110 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_442 : BitVec 32 := 2#32
  let v550 : BitVec 1 := Scalar.cmpi .ne v2 c2_i32_442
  let v551 : BitVec 32 := Scalar.extui v550
  let c0_i32_443 : BitVec 32 := 0#32
  let v552 : BitVec 1 := Scalar.cmpi .ne v551 c0_i32_443
  v552

def k0_off107 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond111 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_444 : BitVec 32 := 3#32
  let v553 : BitVec 1 := Scalar.cmpi .ne v2 c3_i32_444
  let v554 : BitVec 32 := Scalar.extui v553
  let c0_i32_445 : BitVec 32 := 0#32
  let v555 : BitVec 1 := Scalar.cmpi .ne v554 c0_i32_445
  v555

def k0_off108 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond112 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_446 : BitVec 32 := 3#32
  let v556 : BitVec 1 := Scalar.cmpi .ne v2 c3_i32_446
  let v557 : BitVec 32 := Scalar.extui v556
  let c0_i32_447 : BitVec 32 := 0#32
  let v558 : BitVec 1 := Scalar.cmpi .ne v557 c0_i32_447
  v558

def k0_off109 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond113 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_448 : BitVec 32 := 4#32
  let v559 : BitVec 1 := Scalar.cmpi .ne v2 c4_i32_448
  let v560 : BitVec 32 := Scalar.extui v559
  let c0_i32_449 : BitVec 32 := 0#32
  let v561 : BitVec 1 := Scalar.cmpi .ne v560 c0_i32_449
  v561

def k0_off110 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond114 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_450 : BitVec 32 := 4#32
  let v562 : BitVec 1 := Scalar.cmpi .ne v2 c4_i32_450
  let v563 : BitVec 32 := Scalar.extui v562
  let c0_i32_451 : BitVec 32 := 0#32
  let v564 : BitVec 1 := Scalar.cmpi .ne v563 c0_i32_451
  v564

def k0_off111 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond115 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_452 : BitVec 32 := 5#32
  let v565 : BitVec 1 := Scalar.cmpi .ne v2 c5_i32_452
  let v566 : BitVec 32 := Scalar.extui v565
  let c0_i32_453 : BitVec 32 := 0#32
  let v567 : BitVec 1 := Scalar.cmpi .ne v566 c0_i32_453
  v567

def k0_off112 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond116 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_454 : BitVec 32 := 5#32
  let v568 : BitVec 1 := Scalar.cmpi .ne v2 c5_i32_454
  let v569 : BitVec 32 := Scalar.extui v568
  let c0_i32_455 : BitVec 32 := 0#32
  let v570 : BitVec 1 := Scalar.cmpi .ne v569 c0_i32_455
  v570

def k0_off113 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond117 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_456 : BitVec 32 := 6#32
  let v571 : BitVec 1 := Scalar.cmpi .ne v2 c6_i32_456
  let v572 : BitVec 32 := Scalar.extui v571
  let c0_i32_457 : BitVec 32 := 0#32
  let v573 : BitVec 1 := Scalar.cmpi .ne v572 c0_i32_457
  v573

def k0_off114 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond118 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_458 : BitVec 32 := 6#32
  let v574 : BitVec 1 := Scalar.cmpi .ne v2 c6_i32_458
  let v575 : BitVec 32 := Scalar.extui v574
  let c0_i32_459 : BitVec 32 := 0#32
  let v576 : BitVec 1 := Scalar.cmpi .ne v575 c0_i32_459
  v576

def k0_off115 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond119 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_460 : BitVec 32 := 7#32
  let v577 : BitVec 1 := Scalar.cmpi .ne v2 c7_i32_460
  let v578 : BitVec 32 := Scalar.extui v577
  let c0_i32_461 : BitVec 32 := 0#32
  let v579 : BitVec 1 := Scalar.cmpi .ne v578 c0_i32_461
  v579

def k0_off116 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond120 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_462 : BitVec 32 := 7#32
  let v580 : BitVec 1 := Scalar.cmpi .ne v2 c7_i32_462
  let v581 : BitVec 32 := Scalar.extui v580
  let c0_i32_463 : BitVec 32 := 0#32
  let v582 : BitVec 1 := Scalar.cmpi .ne v581 c0_i32_463
  v582

def k0_off117 (d0 : Dev nD) : Fin 4 → Nat :=
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![1, v2.toNat, 0, 0]
def k0_cond121 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_464 : BitVec 32 := 0#32
  let v583 : BitVec 1 := Scalar.cmpi .ne v2 c0_i32_464
  let v584 : BitVec 32 := Scalar.extui v583
  let c0_i32_465 : BitVec 32 := 0#32
  let v585 : BitVec 1 := Scalar.cmpi .ne v584 c0_i32_465
  v585

def k0_off118 (d0 : Dev nD) : Fin 4 → Nat :=
  let c2_i32_480 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![2, v2.toNat, 0, 0]
def k0_cond122 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_466 : BitVec 32 := 1#32
  let v586 : BitVec 1 := Scalar.cmpi .ne v2 c1_i32_466
  let v587 : BitVec 32 := Scalar.extui v586
  let c0_i32_467 : BitVec 32 := 0#32
  let v588 : BitVec 1 := Scalar.cmpi .ne v587 c0_i32_467
  v588

def k0_off119 (d0 : Dev nD) : Fin 4 → Nat :=
  let c2_i32_480 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![2, v2.toNat, 0, 0]
def k0_cond123 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_468 : BitVec 32 := 2#32
  let v589 : BitVec 1 := Scalar.cmpi .ne v2 c2_i32_468
  let v590 : BitVec 32 := Scalar.extui v589
  let c0_i32_469 : BitVec 32 := 0#32
  let v591 : BitVec 1 := Scalar.cmpi .ne v590 c0_i32_469
  v591

def k0_off120 (d0 : Dev nD) : Fin 4 → Nat :=
  let c2_i32_480 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![2, v2.toNat, 0, 0]
def k0_cond124 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_470 : BitVec 32 := 3#32
  let v592 : BitVec 1 := Scalar.cmpi .ne v2 c3_i32_470
  let v593 : BitVec 32 := Scalar.extui v592
  let c0_i32_471 : BitVec 32 := 0#32
  let v594 : BitVec 1 := Scalar.cmpi .ne v593 c0_i32_471
  v594

def k0_off121 (d0 : Dev nD) : Fin 4 → Nat :=
  let c2_i32_480 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![2, v2.toNat, 0, 0]
def k0_cond125 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_472 : BitVec 32 := 4#32
  let v595 : BitVec 1 := Scalar.cmpi .ne v2 c4_i32_472
  let v596 : BitVec 32 := Scalar.extui v595
  let c0_i32_473 : BitVec 32 := 0#32
  let v597 : BitVec 1 := Scalar.cmpi .ne v596 c0_i32_473
  v597

def k0_off122 (d0 : Dev nD) : Fin 4 → Nat :=
  let c2_i32_480 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![2, v2.toNat, 0, 0]
def k0_cond126 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_474 : BitVec 32 := 5#32
  let v598 : BitVec 1 := Scalar.cmpi .ne v2 c5_i32_474
  let v599 : BitVec 32 := Scalar.extui v598
  let c0_i32_475 : BitVec 32 := 0#32
  let v600 : BitVec 1 := Scalar.cmpi .ne v599 c0_i32_475
  v600

def k0_off123 (d0 : Dev nD) : Fin 4 → Nat :=
  let c2_i32_480 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![2, v2.toNat, 0, 0]
def k0_cond127 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_476 : BitVec 32 := 6#32
  let v601 : BitVec 1 := Scalar.cmpi .ne v2 c6_i32_476
  let v602 : BitVec 32 := Scalar.extui v601
  let c0_i32_477 : BitVec 32 := 0#32
  let v603 : BitVec 1 := Scalar.cmpi .ne v602 c0_i32_477
  v603

def k0_off124 (d0 : Dev nD) : Fin 4 → Nat :=
  let c2_i32_480 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![2, v2.toNat, 0, 0]
def k0_cond128 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_478 : BitVec 32 := 7#32
  let v604 : BitVec 1 := Scalar.cmpi .ne v2 c7_i32_478
  let v605 : BitVec 32 := Scalar.extui v604
  let c0_i32_479 : BitVec 32 := 0#32
  let v606 : BitVec 1 := Scalar.cmpi .ne v605 c0_i32_479
  v606

def k0_off125 (d0 : Dev nD) : Fin 4 → Nat :=
  let c2_i32_480 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  let c0_i32_491 : BitVec 32 := 0#32
  ![2, v2.toNat, 0, 0]
abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S64x512 : Shape := ⟨2, ![64, 512]⟩
abbrev S512x8192 : Shape := ⟨2, ![512, 8192]⟩
abbrev S8192x512 : Shape := ⟨2, ![8192, 512]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x512, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x512, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Values.lean ====
/-
The values of the run: what every device's buffers hold when the transfers have landed, from the memory at launch.
-/
module

public import proofs.«01_k».proof.Proof.Gen.KernelIdeal
public import proofs.«01_k».proof.Proof.Gen.KernelIdeal.Skeleton
public import Idealize.ShloMosaic.Lib.Pointwise.Index

@[expose] public section

noncomputable section

namespace Cert.P

open Cert.KernelIdeal Cert.KernelIdeal.Gen
open Idealize.ShloMosaic
open Idealize.ShloMosaic.TcCoe

variable {F : FTy → Type} [FloatOps F]
variable (m : (ℓ : Loc nD τ sig) → Buf (Elt F) ℓ)

/-- Device `c`'s copy of the input. -/
def xB (c : Dev nD) : Vec F S64x512 .f32 := m ((c : Thread nD τ).loc main_arg0)

/-- Device `c`'s three in-projections, one per row of its scratch. -/
def wvB (c : Dev nD) : Vec F S3x512x1024 .f32 := fun i =>
  if (i 0).val = 0 then (m ((c : Thread nD τ).loc main_arg1) : Vec F S512x1024 .f32) (ix2 (i 1) (i 2))
  else if (i 0).val = 1 then (m ((c : Thread nD τ).loc main_arg2) : Vec F S512x1024 .f32) (ix2 (i 1) (i 2))
  else (m ((c : Thread nD τ).loc main_arg3) : Vec F S512x1024 .f32) (ix2 (i 1) (i 2))

/-- Device `c`'s three out-projections, one per row of its scratch. -/
def ovB (c : Dev nD) : Vec F S3x1024x512 .f32 := fun i =>
  if (i 0).val = 0 then (m ((c : Thread nD τ).loc main_arg4) : Vec F S1024x512 .f32) (ix2 (i 1) (i 2))
  else if (i 0).val = 1 then (m ((c : Thread nD τ).loc main_arg5) : Vec F S1024x512 .f32) (ix2 (i 1) (i 2))
  else (m ((c : Thread nD τ).loc main_arg6) : Vec F S1024x512 .f32) (ix2 (i 1) (i 2))

/-- The left and right column halves of device `c`'s first in-projection, the upper and lower row halves of its first
    out-projection. -/
def w0lo (c : Dev nD) : Vec F S1x512x512 .f32 := fun i => wvB m c (ix3 0 (i 1) ⟨(i 2).val, by have := (i 2).isLt; change _ < 512 at this; omega⟩)
def w0hi (c : Dev nD) : Vec F S1x512x512 .f32 := fun i => wvB m c (ix3 0 (i 1) ⟨512 + (i 2).val, by have := (i 2).isLt; change _ < 512 at this; omega⟩)
def o0lo (c : Dev nD) : Vec F S1x512x512 .f32 := fun i => ovB m c (ix3 0 ⟨(i 1).val, by have := (i 1).isLt; change _ < 512 at this; omega⟩ (i 2))
def o0hi (c : Dev nD) : Vec F S1x512x512 .f32 := fun i => ovB m c (ix3 0 ⟨512 + (i 1).val, by have := (i 1).isLt; change _ < 512 at this; omega⟩ (i 2))

/-- Row `r` of the two scratch arrays of weights. -/
def wRow (c : Dev nD) (r : Fin 3) : Vec F S1x512x1024 .f32 := fun i => wvB m c (ix3 r (i 1) (i 2))
def oRow (c : Dev nD) (r : Fin 3) : Vec F S1x1024x512 .f32 := fun i => ovB m c (ix3 r (i 1) (i 2))

/-- Slot `d` of every device's array of blocks, one per device. -/
def gath (S : Dev nD → Vec F S1x8x8x512 .bf16) (d : Fin 8) : Vec F S1x8x8x512 .bf16 := fun i => S (i 1) (ix4 0 d (i 2) (i 3))
/-- Every device's block, one below the other. -/
def allg (A : Dev nD → Vec F S1x1x8x512 .bf16) : Vec F S1x8x8x512 .bf16 := fun i => A (i 1) (ix4 0 0 (i 2) (i 3))
/-- The first and the second four blocks. -/
def loHalf (g : Vec F S1x8x8x512 .bf16) : Vec F S1x4x8x512 .bf16 := fun i =>
  g (ix4 0 ⟨(i 1).val, by have := (i 1).isLt; change _ < 4 at this; omega⟩ (i 2) (i 3))
def hiHalf (g : Vec F S1x8x8x512 .bf16) : Vec F S1x4x8x512 .bf16 := fun i =>
  g (ix4 0 ⟨4 + (i 1).val, by have := (i 1).isLt; change _ < 4 at this; omega⟩ (i 2) (i 3))
/-- Four blocks below four blocks. -/
def glue (a b : Vec F S1x4x8x512 .bf16) : Vec F S1x8x8x512 .bf16 := fun i =>
  if h : (i 1).val < 4 then a (ix4 0 ⟨(i 1).val, h⟩ (i 2) (i 3))
  else b (ix4 0 ⟨(i 1).val - 4, by have := (i 1).isLt; change _ < 8 at this; omega⟩ (i 2) (i 3))

/-- Layer 0: device `c`'s partial product over its own columns, its reduced block, and everybody's blocks. -/
def sv0 (c : Dev nD) : Vec F S1x8x8x512 .bf16 :=
  k0_pay3 (k0_pay1 (xB m c) (w0lo m c) (o0lo m c)) (k0_pay2 (xB m c) (w0hi m c)) (o0hi m c)
def av0 (c : Dev nD) : Vec F S1x1x8x512 .bf16 := k0_pay7 (k0_pay6 (gath (sv0 m) c))
def gv0 : Vec F S1x8x8x512 .bf16 := allg (av0 m)

/-- Layer 1. -/
def sv1 (c : Dev nD) : Vec F S1x8x8x512 .bf16 :=
  glue (k0_pay9 (loHalf (gv0 m)) (wRow m c 1) (oRow m c 1)) (k0_pay10 (hiHalf (gv0 m)) (wRow m c 1) (oRow m c 1))
def av1 (c : Dev nD) : Vec F S1x1x8x512 .bf16 := k0_pay12 (gath (sv1 m) c)
def gv1 : Vec F S1x8x8x512 .bf16 := allg (av1 m)

/-- Layer 2 and the result. -/
def sv2 (c : Dev nD) : Vec F S1x8x8x512 .bf16 :=
  glue (k0_pay15 (k0_pay14 (loHalf (gv1 m)) (wRow m c 2) (oRow m c 2))) (k0_pay17 (k0_pay16 (hiHalf (gv1 m))) (wRow m c 2) (oRow m c 2))
def outV (c : Dev nD) : Vec F S8x512 .f32 := k0_pay21 (k0_pay20 (gath (sv2 m) c))

/-- The partial products by layer; the reduced blocks by layer. -/
def sv (r : ℕ) (c : Dev nD) : Vec F S1x8x8x512 .bf16 := if r = 0 then sv0 m c else if r = 1 then sv1 m c else sv2 m c
def av (r : ℕ) (c : Dev nD) : Vec F S1x1x8x512 .bf16 := if r = 0 then av0 m c else av1 m c

/-- What the array of sent blocks, the array of received blocks, the array of own reduced blocks and the array of
    gathered blocks hold in the end. -/
def sbB (c : Dev nD) : Vec F S3x8x8x512 .bf16 := fun i => sv m (i 0).val c (ix4 0 (i 1) (i 2) (i 3))
def rsB (c : Dev nD) : Vec F S3x8x8x512 .bf16 := fun i => sv m (i 0).val (i 1) (ix4 0 c (i 2) (i 3))
def agB (c : Dev nD) : Vec F S2x1x8x512 .bf16 := fun i => av m (i 0).val c (ix4 0 0 (i 2) (i 3))
def acB : Vec F S2x8x8x512 .bf16 := fun i => av m (i 0).val (i 1) (ix4 0 0 (i 2) (i 3))

/-! ## Boxes of indices -/

/-- The indices with first coordinate `r` and second coordinate in `[lo, hi)`. -/
def box {n k : ℕ} (r lo hi : ℕ) : Finset (⟨4, ![n, k, 8, 512]⟩ : Shape).Idx :=
  Finset.univ.filter fun i => (i 0).val = r ∧ lo ≤ (i 1).val ∧ (i 1).val < hi

/-- The indices with first coordinate `r`, second in `[a, b)` and third in `[a', b')`. -/
def box3 {n k l : ℕ} (r a b a' b' : ℕ) : Finset (⟨3, ![n, k, l]⟩ : Shape).Idx :=
  Finset.univ.filter fun i => (i 0).val = r ∧ (a ≤ (i 1).val ∧ (i 1).val < b) ∧ (a' ≤ (i 2).val ∧ (i 2).val < b')

theorem mem_box {n k : ℕ} {r lo hi : ℕ} {i : (⟨4, ![n, k, 8, 512]⟩ : Shape).Idx} :
    i ∈ (box r lo hi : Finset (⟨4, ![n, k, 8, 512]⟩ : Shape).Idx) ↔ (i 0).val = r ∧ lo ≤ (i 1).val ∧ (i 1).val < hi := by
  simp [box]

theorem mem_box3 {n k l : ℕ} {r a b a' b' : ℕ} {i : (⟨3, ![n, k, l]⟩ : Shape).Idx} :
    i ∈ (box3 r a b a' b' : Finset (⟨3, ![n, k, l]⟩ : Shape).Idx)
      ↔ (i 0).val = r ∧ (a ≤ (i 1).val ∧ (i 1).val < b) ∧ (a' ≤ (i 2).val ∧ (i 2).val < b') := by
  simp [box3]

/-- A unit-stride rectangle of one row, `w` blocks, over all of the last two axes covers a box. -/
theorem unit_set {n k : ℕ} {off size : Fin 4 → ℕ} {r lo w : ℕ} (ho : off = ![r, lo, 0, 0]) (hs : size = ![1, w, 8, 512])
    (inb : ∀ a, off a + size a ≤ (⟨4, ![n, k, 8, 512]⟩ : Shape).size a) :
    (Rect.unit (s := ⟨4, ![n, k, 8, 512]⟩) off size inb).set = box r lo (lo + w) := by
  subst ho hs
  ext i
  rw [Rect.mem_set_unit, mem_box]
  have h2 : (i 2).val < 8 := (i 2).isLt
  have h3 : (i 3).val < 512 := (i 3).isLt
  constructor
  · intro h
    have h0 := h 0
    have h1 := h 1
    simp at h0 h1
    omega
  · rintro ⟨e0, e1, e1'⟩ a
    fin_cases a <;> simp <;> omega

theorem unit_set3 {n k l : ℕ} {off size : Fin 3 → ℕ} {r a w a' w' : ℕ} (ho : off = ![r, a, a']) (hs : size = ![1, w, w'])
    (inb : ∀ x, off x + size x ≤ (⟨3, ![n, k, l]⟩ : Shape).size x) :
    (Rect.unit (s := ⟨3, ![n, k, l]⟩) off size inb).set = box3 r a (a + w) a' (a' + w') := by
  subst ho hs
  ext i
  rw [Rect.mem_set_unit, mem_box3]
  constructor
  · intro h
    have h0 := h 0
    have h1 := h 1
    have h2 := h 2
    simp at h0 h1 h2
    omega
  · rintro ⟨e0, e1, e1'⟩ x
    fin_cases x <;> simp <;> omega

end Cert.P
-- ==== Proof.Protocol.lean ====
/-
The protocol of the kernel's semaphores: the cells, what each landing hands over, what every device owes, and the order
of the waits.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Mathlib.Algebra.BigOperators.Intervals

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Pipeline (mayWait_of_levAts)

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The barrier semaphore, and the DMA semaphore number `n`. -/
abbrev barS : Sem sig := (SemArray.scalar (sig.barrier 0 rfl) : Sems sig S_).sem
def dq (n : ℕ) : DmaSem sig := Fin.ofNat 108 n

abbrev barCell (c : Dev nD) : GSem nD τ sig := ((c : Thread nD τ), .reg barS)
abbrev dcell (c : Dev nD) (n : ℕ) : GSem nD τ sig := ((c : Thread nD τ), .dma (dq n))

theorem dq_val {n : ℕ} (h : n < 108) : (dq n).val = n := Nat.mod_eq_of_lt h

/-- The cells of one device: number 0 is the barrier's, number `n` the DMA semaphore `n`'s. -/
def csem (k : Fin 108) : SemLoc sig := if k.val = 0 then .reg barS else .dma (dq k.val)
abbrev kcell (ck : Dev nD × Fin 108) : GSem nD τ sig := ((ck.1 : Thread nD τ), csem ck.2)

/-- The number of the cell for slot `s` of row `r` in an array of semaphores that starts at `b`. -/
abbrev num (b r s : ℕ) : ℕ := b + 8 * r + s

/-! ## Amounts -/

/-- The credit of one block's transfer between devices. -/
def blkN : ℕ := RefSig.tileCredit S1x8x512 .bf16
/-- The credit of a whole row of the in-projections, of a row of the out-projections, of half a row, and of the input. -/
def locN (n : ℕ) : ℕ :=
  if n = 11 then RefSig.tileCredit S64x512 .f32 else if 7 ≤ n then RefSig.tileCredit S512x512 .f32
  else if n % 2 = 1 then RefSig.tileCredit S512x1024 .f32 else RefSig.tileCredit S1024x512 .f32
/-- The amount a transfer credits DMA semaphore `n` by. -/
def amt (n : ℕ) : ℕ := if n < 12 then locN n else blkN

theorem blkN_pos : 0 < blkN := RefSig.tileCredit_pos _ _ (by decide)
theorem amt_pos (n : ℕ) : 0 < amt n := by
  unfold amt locN
  split_ifs
  all_goals first | exact blkN_pos | exact RefSig.tileCredit_pos _ _ (by decide)

/-! ## Pieces of the buffers -/

/-- Slot `s` of row `r` of device `d`'s array of sent blocks, of received blocks and of gathered blocks, at its last contents. -/
def sbSlot (d : Dev nD) (r s : ℕ) : sProp 𝕄 := (d : Thread nD τ).loc cc0_scratch2 ↦[box r s (s + 1)]{fullShare} sbB m d
def rsSlot (d : Dev nD) (r s : ℕ) : sProp 𝕄 := (d : Thread nD τ).loc cc0_scratch3 ↦[box r s (s + 1)]{fullShare} rsB m d
def acSlot (d : Dev nD) (r s : ℕ) : sProp 𝕄 := (d : Thread nD τ).loc cc0_scratch5 ↦[box r s (s + 1)]{fullShare} acB m
/-- Row `r` of device `d`'s own reduced blocks, at the share that the transfer to device `s` reads under. -/
def agTok (d : Dev nD) (r s : ℕ) : sProp 𝕄 := (d : Thread nD τ).loc cc0_scratch4 ↦[box r 0 1]{shareTokN fullShare s} agB m d
/-- A slot whose contents don't matter. -/
def rsSlotE (d : Dev nD) (r s : ℕ) : sProp 𝕄 :=
  iprop(∃ f : Buf (Elt F) ((d : Thread nD τ).loc cc0_scratch3), (d : Thread nD τ).loc cc0_scratch3 ↦[box r s (s + 1)]{fullShare} f)
def acSlotE (d : Dev nD) (r s : ℕ) : sProp 𝕄 :=
  iprop(∃ f : Buf (Elt F) ((d : Thread nD τ).loc cc0_scratch5), (d : Thread nD τ).loc cc0_scratch5 ↦[box r s (s + 1)]{fullShare} f)
/-- A part of the two arrays of weights, at the weights. -/
def wvP (d : Dev nD) (r a' b' : ℕ) : sProp 𝕄 := (d : Thread nD τ).loc cc0_scratch0 ↦[box3 r 0 512 a' b']{fullShare} wvB m d
def ovP (d : Dev nD) (r a b : ℕ) : sProp 𝕄 := (d : Thread nD τ).loc cc0_scratch1 ↦[box3 r a b 0 512]{fullShare} ovB m d
def xvP (d : Dev nD) : sProp 𝕄 := (d : Thread nD τ).loc cc0_scratch6 ↦{fullShare} xB m d

/-- What `p`'s signal on `d`'s barrier hands over: the five slots of `p`'s arrays that `d` writes. -/
def barPay (p d : Dev nD) : sProp 𝕄 :=
  iprop(rsSlotE p 0 d.val ∗ rsSlotE p 1 d.val ∗ rsSlotE p 2 d.val ∗ acSlotE p 0 d.val ∗ acSlotE p 1 d.val)

/-- What a copy from the arguments hands over. -/
def locPay (d : Dev nD) (n : ℕ) : sProp 𝕄 :=
  if n = 3 then wvP m d 1 0 1024 else if n = 4 then ovP m d 1 0 1024
  else if n = 5 then wvP m d 2 0 1024 else if n = 6 then ovP m d 2 0 1024
  else if n = 7 then wvP m d 0 0 512 else if n = 8 then ovP m d 0 0 512
  else if n = 9 then wvP m d 0 512 1024 else if n = 10 then ovP m d 0 512 1024
  else xvP m d

/-- What the landing on DMA semaphore `n` of device `d` hands over. -/
def pay (d : Dev nD) (n : ℕ) : sProp 𝕄 :=
  if n < 12 then locPay m d n
  else if n < 36 then sbSlot m d ((n - 12) / 8) ((n - 12) % 8)
  else if n < 60 then rsSlot m d ((n - 36) / 8) ((n - 36) % 8)
  else if n < 84 then agTok m d ((n - 60) / 8) ((n - 60) % 8)
  else acSlot m d ((n - 84) / 8) ((n - 84) % 8)

/-- The DMA semaphores of device `d` that a copy credits. -/
abbrev live (d n : ℕ) : Prop :=
  (3 ≤ n ∧ n < 12) ∨ (12 ≤ n ∧ (n - 12) % 8 ≠ d ∧ ¬ (76 ≤ n ∧ n < 84) ∧ n < 100)

instance barPay_storable (p d : Dev nD) : BI.Storable (upEmb : UEmb _ 𝕄) (barPay (F := F) p d) := by
  unfold barPay rsSlotE acSlotE; infer_instance
instance pay_storable (d : Dev nD) (n : ℕ) : BI.Storable (upEmb : UEmb _ 𝕄) (pay (F := F) m d n) := by
  unfold pay locPay sbSlot rsSlot acSlot agTok wvP ovP xvP
  (repeat' split) <;> infer_instance

/-! ## The schedule: every cell has one round -/

/-- The barrier cell of a device has one duty of one unit for every other device; a live DMA cell one duty. -/
def rd : Rounds.Schedule (GSem nD τ sig) (Fin 8) 𝕄 where
  duties g r := if r = 0 then (match g.2 with | .reg _ => Finset.univ.erase g.1.1 | .dma q => if live g.1.1.val q.val then {0} else ∅) else ∅
  unitless _ := False
  amount g _ _ := match g.2 with | .reg _ => 1 | .dma q => amt q.val
  payload g _ p := match g.2 with | .reg _ => barPay p g.1.1 | .dma q => pay m g.1.1 q.val
  amount_pos g _ _ _ := by
    cases g.2 with
    | reg _ => exact Nat.one_pos
    | dma q => exact amt_pos _

instance rd_storable (g : GSem nD τ sig) (r : ℕ) (d : Fin 8) :
    BI.Storable (upEmb : UEmb _ 𝕄) ((rd (F := F) m).payload g r d) := by
  show BI.Storable upEmb (match g.2 with | .reg _ => barPay d g.1.1 | .dma q => pay m g.1.1 q.val)
  cases g.2 <;> infer_instance

theorem duties_bar (d : Dev nD) : (rd (F := F) m).duties (barCell d) 0 = Finset.univ.erase d := rfl
theorem duties_dma (d : Dev nD) {n : ℕ} (hn : n < 108) (hl : live d.val n) : (rd (F := F) m).duties (dcell d n) 0 = {0} := by
  show (if live d.val (dq n).val then ({0} : Finset (Fin 8)) else ∅) = {0}
  rw [dq_val hn, if_pos hl]
theorem duties_dead (d : Dev nD) {n : ℕ} (hn : n < 108) (hl : ¬ live d.val n) : (rd (F := F) m).duties (dcell d n) 0 = ∅ := by
  show (if live d.val (dq n).val then ({0} : Finset (Fin 8)) else ∅) = ∅
  rw [dq_val hn, if_neg hl]
theorem duties_later (g : GSem nD τ sig) : ∀ r, 1 ≤ r → (rd (F := F) m).duties g r = ∅ := fun r hr => if_neg (by omega)
theorem amount_bar (d : Dev nD) (r p) : (rd (F := F) m).amount (barCell d) r p = 1 := rfl
theorem amount_dma (d : Dev nD) {n : ℕ} (hn : n < 108) (r p) : (rd (F := F) m).amount (dcell d n) r p = amt n := by
  show amt (dq n).val = amt n
  rw [dq_val hn]
theorem payload_bar (d p : Dev nD) (r) : (rd (F := F) m).payload (barCell d) r p = barPay p d := rfl
theorem payload_dma (d : Dev nD) {n : ℕ} (hn : n < 108) (r p) : (rd (F := F) m).payload (dcell d n) r p = pay m d n := by
  show pay m d (dq n).val = pay m d n
  rw [dq_val hn]

theorem expect_bar (d : Dev nD) : (rd (F := F) m).expect (barCell d) 0 = 7 := by
  unfold Schedule.expect Schedule.amountOf
  rw [duties_bar, Finset.sum_congr rfl fun p _ => amount_bar m d 0 p, Finset.sum_const, smul_eq_mul, mul_one, Finset.card_erase_of_mem (Finset.mem_univ _)]
  rfl
theorem expect_dma (d : Dev nD) {n : ℕ} (hn : n < 108) (hl : live d.val n) : (rd (F := F) m).expect (dcell d n) 0 = amt n := by
  unfold Schedule.expect Schedule.amountOf
  rw [duties_dma m d hn hl, Finset.sum_singleton, amount_dma m d hn]

theorem rest_bar (d : Dev nD) : bigSep ((rd (F := F) m).duties (barCell d) 0 \ ∅) (fun p => (rd (F := F) m).payload (barCell d) 0 p)
    = bigSep (Finset.univ.erase d) (fun p => barPay p d) := by
  rw [Finset.sdiff_empty, duties_bar]; rfl
theorem rest_dma (d : Dev nD) {n : ℕ} (hn : n < 108) (hl : live d.val n) :
    bigSep ((rd (F := F) m).duties (dcell d n) 0 \ ∅) (fun p => (rd (F := F) m).payload (dcell d n) 0 p) = pay m d n := by
  rw [Finset.sdiff_empty, duties_dma m d hn hl, bigSep_singleton, payload_dma m d hn]

/-! ## Debts and levels -/

/-- The device with number `s`. -/
def dv (s : ℕ) : Dev nD := Fin.ofNat 8 s

/-- A device pays 48 items in this order: a unit on everybody's barrier, a block of layer 0 to everybody, its reduced
    block of layer 0 to everybody, and so on; item `i` goes to device `i % 8`. -/
def itmCell (c : Dev nD) (i : ℕ) : GSem nD τ sig :=
  if i / 8 = 0 then barCell (dv (i % 8))
  else if i / 8 % 2 = 1 then dcell (dv (i % 8)) (num 36 (i / 16) c.val)
  else dcell (dv (i % 8)) (num 84 (i / 16 - 1) c.val)
def itmN (i : ℕ) : ℕ := if i / 8 = 0 then 1 else blkN
def itm (c : Dev nD) (i : ℕ) : CellTallies nD τ sig Unit := if i % 8 = c.val then 0 else tallyAt (itmCell c i) () (itmN i)
/-- What device `c` owes before it pays item `n`. -/
def debt (c : Dev nD) (n : ℕ) : CellTallies nD τ sig Unit := ∑ i ∈ Finset.Ico n 48, itm c i

theorem debt_step (c : Dev nD) {n : ℕ} (h : n < 48) : debt c n = debt c (n + 1) + itm c n := by
  unfold debt
  rw [Finset.sum_eq_sum_Ico_succ_bot h, add_comm]
theorem debt_end (c : Dev nD) : debt c 48 = 0 := by unfold debt; simp

def L (g : GSem nD τ sig) : Finset Unit := if g.1.2 = .tc then {()} else ∅
/-- The level of DMA semaphore `n`. -/
def lvN (n : ℕ) : ℕ := if n < 36 then 0 else if n < 60 then 2 + 2 * ((n - 36) / 8) else if n < 84 then 0 else 3 + 2 * ((n - 84) / 8)
def lv (g : GSem nD τ sig) (_ : Unit) : ℕ := match g.2 with | .reg _ => 1 | .dma q => lvN q.val

theorem L_of_ne (g : GSem nD τ sig) (h : g.1.2 ≠ .tc) : L g = ∅ := if_neg h
theorem L_tc (c : Dev nD) (sm : SemLoc sig) : L ((c : Thread nD τ), sm) = {()} := if_pos rfl
theorem lv_dma (d : Dev nD) {n : ℕ} (hn : n < 108) : lv (dcell d n) () = lvN n := by
  show lvN (dq n).val = lvN n
  rw [dq_val hn]

theorem itmCell_tc (c : Dev nD) (i : ℕ) : L (itmCell c i) = {()} := by
  unfold itmCell; split_ifs <;> exact L_tc _ _

theorem itmCell_lv (c : Dev nD) {i : ℕ} (hi : i < 48) : lv (itmCell c i) () = 1 + i / 8 := by
  have hc : c.val < 8 := c.isLt
  unfold itmCell
  split_ifs with h h'
  · rw [h]; rfl
  · rw [lv_dma _ (by unfold num; omega)]; unfold lvN num
    rw [if_neg (by omega), if_pos (by omega)]; omega
  · rw [lv_dma _ (by unfold num; omega)]; unfold lvN num
    rw [if_neg (by omega), if_neg (by omega), if_neg (by omega)]; omega

theorem itm_pos {c : Dev nD} {i : ℕ} {g : GSem nD τ sig} {u : Unit} (h : 0 < itm c i g u) : g = itmCell c i := by
  unfold itm at h
  split_ifs at h with h'
  · exact absurd h (by simp)
  · rw [tallyAt_apply] at h
    by_contra hn
    rw [if_neg fun h' => hn h'.1] at h
    exact Nat.lt_irrefl 0 h

theorem debt_pos {c : Dev nD} {n : ℕ} {g : GSem nD τ sig} {u : Unit} (h : 0 < debt c n g u) :
    ∃ i, n ≤ i ∧ i < 48 ∧ g = itmCell c i := by
  unfold debt at h
  rw [Finset.sum_apply, Finsupp.finset_sum_apply] at h
  obtain ⟨i, hi, hp⟩ := Finset.exists_ne_zero_of_sum_ne_zero h.ne'
  rw [Finset.mem_Ico] at hi
  exact ⟨i, hi.1, hi.2, itm_pos (Nat.pos_of_ne_zero hp)⟩

/-- A device may wait on a cell of its own whose level is below that of everything it still has to pay. -/
theorem mayWait (c : Dev nD) (sm : SemLoc sig) (n : ℕ) (h : lv ((c : Thread nD τ), sm) () < 1 + n / 8) :
    (levAts L lv : sProp 𝕄) ⊢ MayWait (c : Thread nD τ) sm () (debt c n) := by
  refine mayWait_of_levAts (by rw [L_tc]; exact Finset.mem_singleton_self _) fun g i hg => ?_
  obtain ⟨j, hn, hj, rfl⟩ := debt_pos hg
  refine ⟨by rw [itmCell_tc]; exact Finset.mem_singleton_self _, ?_⟩
  rw [show i = () from rfl, itmCell_lv c hj]
  have : n / 8 ≤ j / 8 := Nat.div_le_div_right hn
  omega

end Cert.P
-- ==== Proof.Steps.lean ====
/-
One step of the body at a time: the rule for each kind of operation, under the printed condition that guards it.
-/
module

public import proofs.«01_k».proof.Proof.Protocol

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes before it pays item `n`. -/
def Owe (c : Dev nD) (n : ℕ) : sProp 𝕄 := iprop(∃ W : Waits sig Unit, owes (c : Thread nD τ) (debt c n) W)

/-- The facts every device keeps: every cell's invariant, that every cell is at round 0 or later, and the levels. -/
def recs (K : Dev nD × Fin 108 → ℕ) : sProp 𝕄 :=
  iprop(bigSep Finset.univ (fun ck : Dev nD × Fin 108 => cellInv ER (rd m) (K ck) (kcell ck))
    ∗ bigSep Finset.univ (fun ck : Dev nD × Fin 108 => reached (ER (F := F)) (kcell ck) 0) ∗ levAts L lv)

instance recs_persistent (K : Dev nD × Fin 108 → ℕ) : BI.Persistent (recs m K) := by unfold recs; infer_instance

variable (K : Dev nD × Fin 108 → ℕ)

abbrev kn (n : ℕ) : Fin 108 := Fin.ofNat 108 n

theorem kcell_bar (d : Dev nD) : kcell (d, (0 : Fin 108)) = barCell d := rfl
theorem kcell_dma (d : Dev nD) {n : ℕ} (h0 : 0 < n) (hn : n < 108) : kcell (d, kn n) = dcell d n := by
  have h : (kn n).val = n := Nat.mod_eq_of_lt hn
  show ((d : Thread nD τ), csem (kn n)) = _
  unfold csem
  rw [h, if_neg (by omega)]

theorem recs_inv (ck : Dev nD × Fin 108) : recs m K ⊢ cellInv ER (rd m) (K ck) (kcell ck) := by
  unfold recs
  exact sep_elim_left.trans (bigSep_elim (Finset.mem_univ ck))
theorem recs_reached (ck : Dev nD × Fin 108) : recs m K ⊢ reached (ER (F := F)) (kcell ck) 0 := by
  unfold recs
  exact sep_elim_right.trans (sep_elim_left.trans (bigSep_elim (Finset.mem_univ ck)))
theorem recs_lev : recs m K ⊢ levAts L lv := by
  unfold recs
  exact sep_elim_right.trans sep_elim_right

/-- A resource that a device has for every device other than itself. -/
def oth (c : Dev nD) (s : ℕ) (P : sProp 𝕄) : sProp 𝕄 := if s = c.val then iprop(emp) else P
/-- A resource that a device has for itself only. -/
def own (c : Dev nD) (s : ℕ) (P : sProp 𝕄) : sProp 𝕄 := if s = c.val then P else iprop(emp)

/-- A part of the body that the printed condition guards: it runs on every device but `s`. -/
theorem guard_step (c : Dev nD) (s : ℕ) {cond : BitVec 1} (hc : cond = 1#1 ↔ s ≠ c.val) {P P' R R' : sProp 𝕄}
    {t : cond = 1#1 → Prog (TpuEff nD τ sig (Elt F) Λ₀ .tc) PUnit}
    {Q : PUnit → sProp 𝕄}
    (hne : ∀ (h : cond = 1#1), s ≠ c.val → iprop(P ∗ R) ⊢ iprop((iprop(P' ∗ R') -∗ Q ⟨⟩) -∗ WP c (t h) Q))
    (heq : s = c.val → R ⊢ R') :
    iprop(oth c s P ∗ R) ⊢ iprop((iprop(oth c s P' ∗ R') -∗ Q ⟨⟩)
      -∗ WP c (if h : cond = 1#1 then (t h >>= fun _ => pure ⟨⟩) else pure ⟨⟩) Q) := by
  by_cases hs : s = c.val
  · have hn : ¬ cond = 1#1 := fun h => hc.mp h hs
    rw [dif_neg hn]
    unfold oth
    rw [if_pos hs, if_pos hs]
    simp only [WP, Prog.pure_eq_ret, wp_ret]
    iintro ⟨HP, HR⟩ Hk
    imodintro
    iapply Hk
    isplitl [HP]; · iexact HP
    iapply (heq hs); iexact HR
  · have hp : cond = 1#1 := hc.mpr hs
    rw [dif_pos hp]
    unfold oth
    rw [if_neg hs, if_neg hs]
    have : (t hp >>= fun _ => pure ⟨⟩) = t hp := by
      have h := bind_pure (t hp)
      exact h
    rw [this]
    exact hne hp hs

/-! ## Waits -/

/-- A wait on one of the device's own DMA cells, for the whole of its round: what the landing hands over, and the cell's
    counter at zero, for good. -/
theorem wait_dma (c : Dev nD) {n k : ℕ} (h0 : 0 < n) (hn : n < 108) (hl : live c.val n) (hlv : lvN n < 1 + k / 8)
    {sp sp' : Space} {s s' : Shape} {e e' : EltTy} {sem : DmaSem sig} (hs : sem = dq n)
    {src : Memref sig .tc sp' s' e'} {dst : Memref sig .tc sp s e} {hsrc : src.view.WordExact} {hdst : dst.view.WordExact}
    (hN : dst.view.dmaCredit = amt n) {Q : PUnit → sProp 𝕄} :
    iprop(recs m K ∗ (cred (tallyAt (dcell c n) () (amt n)) ∗ atPos (ER (F := F)) (dcell c n) 0 ∅ 0) ∗ Owe c k)
      ⊢ iprop((iprop((pay m c n ∗ semVal (dcell c n) 0) ∗ Owe c k) -∗ Q ⟨⟩)
          -∗ WP c (Prog.lift (.waitDma2 sem src dst hsrc hdst)) Q) := by
  subst hs
  unfold Owe
  iintro ⟨#HR, ⟨Hc, Hat⟩, ⟨%W, HO⟩⟩ Hk
  ihave #HI := (recs_inv m K (c, kn n)) $$ HR
  rw [kcell_dma c h0 hn]
  iapply (Rounds.wp_wait_rest_token 𝒱₀ ER (rd m) (c : Thread nD τ) none (κ := K (c, kn n))
      (wpE_waitDma2_eq 𝒱₀ (c : Thread nD τ) none Set.univ) (Set.mem_univ _) () (O := debt c k) (W := W) (R := 0) (m := 0) (T := ∅)
      (by rw [Nat.zero_add, expect_dma m c hn hl, hN])) $$ [Hc HO Hat]
  · isplitr; · iexact HI
    isplitl [Hc]; · rw [hN]; iexact Hc
    isplitl [HO]; · iexact HO
    isplitr
    · iapply (mayWait c (.dma (dq n)) k (by rw [show lv ((c : Thread nD τ), SemLoc.dma (dq n)) () = lvN n from lv_dma c hn]; exact hlv))
      iapply (recs_lev m K); iexact HR
    iexact Hat
  iintro ⟨HO, Hat, -, Hpay⟩
  ihave Hp := (Entails.of_eq (rest_dma m c hn hl)) $$ Hpay
  imod (Rounds.cell_close ER (rd m) (Set.mem_univ (K (c, kn n))) (fun h => h) (R := 0 + 1) (duties_later m (dcell c n))) $$ [Hat] with Hz
  · isplitr; · iexact HI
    iexact Hat
  rw [wp_ret]
  imodintro
  iapply Hk
  isplitl [Hp Hz]
  · isplitl [Hp]; · iexact Hp
    iexact Hz
  iexists _; iexact HO

/-- The wait for everybody's signal on the device's barrier. -/
theorem wait_bar (c : Dev nD) {sem : Sem sig} (hs : sem = barS) {w : BitVec 32} (hw : w = 7#32) {Q : PUnit → sProp 𝕄} :
    iprop(recs m K ∗ (cred (tallyAt (barCell c) () 7) ∗ atPos (ER (F := F)) (barCell c) 0 ∅ 0) ∗ Owe c 8)
      ⊢ iprop((iprop((bigSep (Finset.univ.erase c) (fun p => barPay (F := F) p c) ∗ semVal (barCell c) 0) ∗ Owe c 8) -∗ Q ⟨⟩)
          -∗ WP c (semWaitWord sem w) Q) := by
  subst hs hw
  unfold Owe
  iintro ⟨#HR, ⟨Hc, Hat⟩, ⟨%W, HO⟩⟩ Hk
  ihave #HI := (recs_inv m K (c, 0)) $$ HR
  rw [kcell_bar c]
  simp only [semWaitWord, Prog.lift, Prog.bind_op, Prog.bind_ret, Prog.pure_eq_ret, WP]
  iapply (Rounds.wp_wait_rest_token 𝒱₀ ER (rd m) (c : Thread nD τ) none (κ := K (c, 0))
      (wpE_semWait_eq 𝒱₀ (c : Thread nD τ) none Set.univ) (Set.mem_univ _) () (O := debt c 8) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) 8 (by show 1 < 1 + 8 / 8; decide))
      iapply (recs_lev m K); iexact HR
    iexact Hat
  iintro ⟨HO, Hat, -, Hpay⟩
  ihave Hp := (Entails.of_eq (rest_bar m c)) $$ Hpay
  imod (Rounds.cell_close ER (rd m) (Set.mem_univ (K (c, 0))) (fun h => h) (R := 0 + 1) (duties_later m (barCell c))) $$ [Hat] with Hz
  · isplitr; · iexact HI
    iexact Hat
  rw [wp_ret]
  imodintro
  iapply Hk
  isplitl [Hp Hz]
  · isplitl [Hp]; · iexact Hp
    iexact Hz
  iexists _; iexact HO

/-! ## Signals, copies and transfers -/

theorem itm_bar (c : Dev nD) {s : ℕ} (hs : s < 8) (hne : s ≠ c.val) : itm c s = tallyAt (barCell (dv s)) () 1 := by
  unfold itm itmCell itmN
  have h : s / 8 = 0 := by omega
  have h' : s % 8 = s := by omega
  rw [h', if_neg hne, if_pos h, if_pos h]
theorem itm_rs (c : Dev nD) {r s : ℕ} (hs : s < 8) (hne : s ≠ c.val) :
    itm c (8 * (2 * r + 1) + s) = tallyAt (dcell (dv s) (num 36 r c.val)) () blkN := by
  unfold itm itmCell itmN
  have h' : (8 * (2 * r + 1) + s) % 8 = s := by omega
  have h : (8 * (2 * r + 1) + s) / 8 = 2 * r + 1 := by omega
  have h'' : (8 * (2 * r + 1) + s) / 16 = r := by omega
  rw [h', h, h'', if_neg hne, if_neg (by omega), if_pos (by omega), if_neg (by omega)]
theorem itm_ag (c : Dev nD) {r s : ℕ} (hs : s < 8) (hne : s ≠ c.val) :
    itm c (8 * (2 * r + 2) + s) = tallyAt (dcell (dv s) (num 84 r c.val)) () blkN := by
  unfold itm itmCell itmN
  have h' : (8 * (2 * r + 2) + s) % 8 = s := by omega
  have h : (8 * (2 * r + 2) + s) / 8 = 2 * r + 2 := by omega
  have h'' : (8 * (2 * r + 2) + s) / 16 - 1 = r := by omega
  rw [h', h, h'', if_neg hne, if_neg (by omega), if_neg (by omega), if_neg (by omega)]
theorem itm_self (c : Dev nD) {i : ℕ} (h : i % 8 = c.val) : itm c i = 0 := by unfold itm; rw [if_pos h]

/-- An item that would go to the device itself isn't paid. -/
theorem Owe_self (c : Dev nD) {i : ℕ} (hi : i < 48) (h : i % 8 = c.val) : (Owe (F := F) c i) ⊢ Owe c (i + 1) := by
  unfold Owe
  rw [debt_step c hi, itm_self c h, add_zero]

/-- A signal on another device's barrier, with the slots that device writes. -/
theorem signal (c : Dev nD) {s : ℕ} (hs : s < 8) (hne : s ≠ c.val) {d : Dev nD} (hd : d = dv s) {sem : Sem sig} (hsem : sem = barS)
    {w : BitVec 32} (hw : w = 1#32) {Q : PUnit → sProp 𝕄} :
    iprop(recs m K ∗ (barPay c (dv s) ∗ dutyTok (ER (F := F)) (barCell (dv s)) 0 c) ∗ Owe c s)
      ⊢ iprop((Owe c (s + 1) -∗ Q ⟨⟩) -∗ WP c (semSignalWord d sem w) Q) := by
  subst hd hsem hw
  unfold Owe
  iintro ⟨#HR, ⟨Hp, Ht⟩, ⟨%W, HO⟩⟩ Hk
  ihave #HI := (recs_inv m K (dv s, 0)) $$ HR
  ihave #Hr := (recs_reached m K (dv s, 0)) $$ HR
  rw [kcell_bar (dv s)]
  simp only [semSignalWord, Prog.lift, Prog.bind_op, Prog.bind_ret, Prog.pure_eq_ret, WP]
  have hmem : c ∈ (rd (F := F) m).duties (barCell (dv s)) 0 := by
    rw [duties_bar]
    refine Finset.mem_erase.mpr ⟨fun h => hne ?_, Finset.mem_univ _⟩
    rw [h]; exact (Nat.mod_eq_of_lt hs).symm
  have hO : debt c s = debt c (s + 1) + tallyAt (barCell (dv s)) () 1 := by
    rw [← itm_bar c hs hne]; exact debt_step c (by omega)
  iapply (Rounds.wp_signal 𝒱₀ ER (rd m) (c : Thread nD τ) none (dst := (dv s : Thread nD τ)) (κ := K (dv s, 0))
      (d := c) (r := 0) (k' := 1) hmem (amount_bar m (dv s) 0 c) () (O₀ := debt c s) (debt c (s + 1)) hO (W := W)) $$ [HO Ht Hp]
  · isplitr; · iexact HI
    isplitl [HO]; · iexact HO
    isplitl [Ht]; · iexact Ht
    isplitl [Hp]; · rw [payload_bar]; iexact Hp
    iexact Hr
  iintro HO
  rw [wp_ret]
  imodintro
  iapply Hk
  iexists _; iexact HO

/-- A transfer within the device: it hands over its destination. -/
theorem copy_here (c : Dev nD) {n : ℕ} (h0 : 0 < n) (hn : n < 108) (hl : live c.val n)
    {sp sp' : Space} {s : Shape} {e : EltTy} {sem : DmaSem sig} (hs : sem = dq n)
    {src : Memref sig .tc sp s e} {dst : Memref sig .tc sp' s e} {hsrc : src.view.WordExact} {hdst : dst.view.WordExact}
    {hsem : DmaTarget.Typed (nD := nD) (τ := τ) (p := .tc) sp (.dma sem) (.here dst)}
    (hN : dst.view.dmaCredit = amt n) {q : PosShare TreeShare} {fs : Buf (Elt F) (src.view.loc (c : Thread nD τ))}
    {fd : Buf (Elt F) (dst.view.loc (c : Thread nD τ))}
    (hpay : iprop(dst.view.loc (c : Thread nD τ) ↦[dst.view.set]{fullShare} (dst.view.write (Elt F) fd (src.view.read (Elt F) fs) Finset.univ))
      ⊢ pay m c n) {Q : PUnit → sProp 𝕄} :
    iprop(recs m K ∗ (src.view.loc (c : Thread nD τ) ↦[src.view.set]{q} fs) ∗ (dst.view.loc (c : Thread nD τ) ↦[dst.view.set]{fullShare} fd)
        ∗ dutyTok (ER (F := F)) (dcell c n) 0 0)
      ⊢ iprop((cred (tallyAt (dcell c n) () (amt n)) -∗ Q ⟨⟩)
          -∗ WP c (Prog.lift (.enqueueDma src (.here dst) (.dma sem) hsrc hdst hsem)) Q) := by
  subst hs
  iintro ⟨#HR, Hs, Hd, Ht⟩ Hk
  ihave #HI := (recs_inv m K (c, kn n)) $$ HR
  ihave #Hr := (recs_reached m K (c, kn n)) $$ HR
  rw [kcell_dma c h0 hn]
  iapply (Rounds.wp_copy_pointsTo 𝒱₀ ER (rd m) (c : Thread nD τ) none (κ := K (c, kn n)) (r := 0) (d := 0) (fs := fs) (fd := fd) (q := q)
      (by rw [duties_dma m c hn hl]; exact Finset.mem_singleton_self _) () (amt n) (show dst.view.amount (.dma (dq n)) = amt n from hN) (amount_dma m c hn 0 0)
      (by rw [payload_dma m c hn]; exact sep_elim_left.trans hpay)) $$ [Hs Hd Ht]
  · isplitr; · iexact HI
    isplitl [Hs]; · iexact Hs
    isplitl [Hd]; · iexact Hd
    isplitl [Ht]; · iexact Ht
    iexact Hr
  iintro Hc
  rw [wp_ret]
  imodintro
  iapply Hk
  iexact Hc

/-- A transfer to device `dv s`, item `i` of what the device owes. -/
theorem send (c : Dev nD) {s i nS nR : ℕ} (hi : i < 48) (h0 : 0 < nS) (hnS : nS < 108) (hlS : live c.val nS) (haS : amt nS = blkN)
    (h0' : 0 < nR) (hnR : nR < 108) (hlR : live (dv s).val nR) (haR : amt nR = blkN)
    (hitm : itm c i = tallyAt (dcell (dv s) nR) () blkN)
    {sp sp' : Space} {sh : Shape} {e : EltTy} {d : Dev nD} (hd : d = dv s)
    {sS sR : DmaSem sig} (hsS : sS = dq nS) (hsR : sR = dq nR)
    {src : Memref sig .tc sp sh e} {dst : Memref sig .tc sp' sh e} {hsc : dst.view.ref.isScScratch = false}
    {hsrc : src.view.WordExact} {hdst : dst.view.WordExact}
    {hsem : DmaTarget.Typed (nD := nD) (τ := τ) (p := .tc) sp (.dma sR) (.remote (Dev.tc d : Thread nD τ) dst (.dma sS) hsc)}
    (hN : dst.view.dmaCredit = blkN) {q : PosShare TreeShare} {fs : Buf (Elt F) (src.view.loc (c : Thread nD τ))}
    {fd : Buf (Elt F) (dst.view.loc (dv s : Thread nD τ))}
    (hpay₁ : iprop(src.view.loc (c : Thread nD τ) ↦[src.view.set]{q} fs) ⊢ pay m c nS)
    (hpay₂ : iprop(dst.view.loc (dv s : Thread nD τ) ↦[dst.view.set]{fullShare} (dst.view.write (Elt F) fd (src.view.read (Elt F) fs) Finset.univ))
      ⊢ pay m (dv s) nR) {Q : PUnit → sProp 𝕄} :
    iprop(recs m K ∗ (src.view.loc (c : Thread nD τ) ↦[src.view.set]{q} fs) ∗ (dst.view.loc (dv s : Thread nD τ) ↦[dst.view.set]{fullShare} fd)
        ∗ (dutyTok (ER (F := F)) (dcell c nS) 0 0 ∗ dutyTok (ER (F := F)) (dcell (dv s) nR) 0 0) ∗ Owe c i)
      ⊢ iprop((iprop(cred (tallyAt (dcell c nS) () (amt nS)) ∗ Owe c (i + 1)) -∗ Q ⟨⟩)
          -∗ WP c (Prog.lift (.enqueueDma src (.remote (Dev.tc d : Thread nD τ) dst (.dma sS) hsc) (.dma sR) hsrc hdst hsem)) Q) := by
  subst hd hsS hsR
  unfold Owe
  iintro ⟨#HR, Hs, Hd, ⟨HtS, HtR⟩, ⟨%W, HO⟩⟩ Hk
  ihave #HIS := (recs_inv m K (c, kn nS)) $$ HR
  ihave #HrS := (recs_reached m K (c, kn nS)) $$ HR
  ihave #HIR := (recs_inv m K (dv s, kn nR)) $$ HR
  ihave #HrR := (recs_reached m K (dv s, kn nR)) $$ HR
  rw [kcell_dma c h0 hnS, kcell_dma (dv s) h0' hnR, haS]
  iapply (Rounds.wp_send_pointsTo 𝒱₀ ER (rd m) (c : Thread nD τ) none (κ₁ := K (c, kn nS)) (κ₂ := K (dv s, kn nR))
    (r₁ := 0) (r₂ := 0) (d₁ := 0) (d₂ := 0) (fs := fs) (fd := fd) (q := q)
    (by rw [duties_dma m c hnS hlS]; exact Finset.mem_singleton_self _)
    (by rw [duties_dma m (dv s) hnR hlR]; exact Finset.mem_singleton_self _)
    () () blkN (show dst.view.amount (.dma (dq nR)) = blkN from hN) ((amount_dma m c hnS 0 0).trans haS) ((amount_dma m (dv s) hnR 0 0).trans haR)
    (debt c (i + 1)) ((debt_step c hi).trans (by rw [hitm])) (W := W)
    (by rw [payload_dma m c hnS]; exact hpay₁)
    (by rw [payload_dma m (dv s) hnR]; exact hpay₂)) $$ [Hs Hd HtS HtR HO]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  rw [wp_ret]
  imodintro
  iapply Hk
  isplitl [Hc]; · iexact Hc
  iexists _; iexact HO

/-! ## Landed contents -/

/-- A view written with what it reads of `g` holds `g` on its elements. -/
theorem written_eq {κ : Kind} {sp : Space} {s : Shape} {e : EltTy} (v : View sig κ sp s e) (g fd : v.ty.Contents (Elt F)) {w : s.Idx → Elt F e}
    (h : v.read (Elt F) g = w) : ∀ i ∈ v.set, v.write (Elt F) fd w Finset.univ i = g i := by
  intro i hi
  obtain ⟨x, -, rfl⟩ := Finset.mem_map.mp hi
  rw [View.write_emb_of_mem _ _ (Finset.mem_univ x), ← h, View.read_apply, cast_cast, cast_eq]

end Cert.P
-- ==== Proof.Moves.lean ====
/-
The guarded steps of the body, one per device, over runs of slots.
-/
module

public import proofs.«01_k».proof.Proof.Steps
public import Idealize.ShloMosaic.Lib.ValueLayout
public import Idealize.SL.BI.BigOpNat

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

/-! ## Runs of resources -/

/-- The resources `Φ a`, …, `Φ (b - 1)`. -/
def ran (Φ : ℕ → sProp 𝕄) (a b : ℕ) : sProp 𝕄 := bigSep (Finset.Ico a b) Φ

theorem ran_nil (Φ : ℕ → sProp 𝕄) (a : ℕ) : ran Φ a a = iprop(emp) := by unfold ran; rw [Finset.Ico_self, bigSep_empty]; rfl
theorem ran_bot (Φ : ℕ → sProp 𝕄) {a b : ℕ} (h : a < b) : ran Φ a b = iprop(Φ a ∗ ran Φ (a + 1) b) := bigSep_Ico_succ_bot h Φ
theorem ran_top (Φ : ℕ → sProp 𝕄) {a b : ℕ} (h : a ≤ b) : ran Φ a (b + 1) = iprop(Φ b ∗ ran Φ a b) := bigSep_Ico_succ_top h Φ
theorem ran_append (Φ : ℕ → sProp 𝕄) {a b c : ℕ} (h : a ≤ b) (h' : b ≤ c) : ran Φ a c = iprop(ran Φ a b ∗ ran Φ b c) := by
  unfold ran
  rw [← Finset.Ico_union_Ico_eq_Ico h h', bigSep_union (Finset.Ico_disjoint_Ico_consecutive a b c)]
  rfl
theorem ran_sep (Φ Ψ : ℕ → sProp 𝕄) (a b : ℕ) : ran (fun s => iprop(Φ s ∗ Ψ s)) a b = iprop(ran Φ a b ∗ ran Ψ a b) := by
  unfold ran; exact bigSep_sep _ _ _
theorem ran_congr {Φ Ψ : ℕ → sProp 𝕄} {a b : ℕ} (h : ∀ s, a ≤ s → s < b → Φ s = Ψ s) : ran Φ a b = ran Ψ a b := by
  unfold ran
  exact bigSep_congr fun s hs => h s (Finset.mem_Ico.mp hs).1 (Finset.mem_Ico.mp hs).2
theorem ran_mono {Φ Ψ : ℕ → sProp 𝕄} {a b : ℕ} (h : ∀ s, a ≤ s → s < b → Φ s ⊢ Ψ s) : ran Φ a b ⊢ ran Ψ a b := by
  unfold ran
  exact bigSep_mono fun s hs => h s (Finset.mem_Ico.mp hs).1 (Finset.mem_Ico.mp hs).2

theorem oth_sep (c : Dev nD) (s : ℕ) (P Q : sProp 𝕄) : oth c s iprop(P ∗ Q) = iprop(oth c s P ∗ oth c s Q) := by
  unfold oth; split_ifs
  · exact (equiv_iff.mp emp_sep).symm
  · rfl
theorem own_oth (c : Dev nD) (s : ℕ) (P : sProp 𝕄) : P = iprop(own c s P ∗ oth c s P) := by
  unfold own oth; split_ifs
  · exact (equiv_iff.mp sep_emp).symm
  · exact (equiv_iff.mp emp_sep).symm
theorem ran_own_oth (c : Dev nD) (Φ : ℕ → sProp 𝕄) (a b : ℕ) :
    ran Φ a b = iprop(ran (fun s => own c s (Φ s)) a b ∗ ran (fun s => oth c s (Φ s)) a b) := by
  rw [← ran_sep]; exact ran_congr fun s _ _ => own_oth c s (Φ s)
theorem ran_oth_sep (c : Dev nD) (Φ Ψ : ℕ → sProp 𝕄) (a b : ℕ) :
    ran (fun s => oth c s iprop(Φ s ∗ Ψ s)) a b = iprop(ran (fun s => oth c s (Φ s)) a b ∗ ran (fun s => oth c s (Ψ s)) a b) := by
  rw [← ran_sep]; exact ran_congr fun s _ _ => oth_sep c s _ _
/-- Of a device's own resources in a run over all devices there is one. -/
theorem ran_own (c : Dev nD) (Φ : ℕ → sProp 𝕄) : ran (fun s => own c s (Φ s)) 0 8 = Φ c.val := by
  have hc : c.val < 8 := c.isLt
  unfold ran
  rw [bigSep_erase (i := c.val) (by rw [Finset.mem_Ico]; omega)]
  rw [bigSep_congr (Ψ := fun _ => iprop(emp)) fun s hs => by unfold own; exact if_neg (Finset.ne_of_mem_erase hs)]
  unfold own
  rw [if_pos rfl]
  rw [show bigSep ((Finset.Ico 0 8).erase c.val) (fun _ => (iprop(emp) : sProp 𝕄)) = iprop(emp) from by
    induction ((Finset.Ico 0 8).erase c.val) using Finset.induction_on with
    | empty => rfl
    | insert a s ha ih => rw [bigSep_insert ha, ih]; exact equiv_iff.mp emp_sep]
  exact equiv_iff.mp sep_emp

/-! ## The state of a run of guarded steps -/

variable (K : Dev nD × Fin 108 → ℕ)

/-- What every step keeps and what the device owes before item `i`. -/
def bas (c : Dev nD) (i : ℕ) : sProp 𝕄 := iprop(recs m K ∗ Owe c i)
/-- Of the devices `a`, …, `e - 1`, those below `s` are done. -/
def prog (In Out : ℕ → sProp 𝕄) (a s e : ℕ) : sProp 𝕄 := iprop(ran In s e ∗ ran Out a s)

theorem prog_start (In Out : ℕ → sProp 𝕄) (a e : ℕ) : prog In Out a a e = ran In a e := by
  unfold prog; rw [ran_nil]; exact equiv_iff.mp sep_emp
theorem prog_end (In Out : ℕ → sProp 𝕄) (a e : ℕ) : prog In Out a e e = ran Out a e := by
  unfold prog; rw [ran_nil]; exact equiv_iff.mp emp_sep

theorem prog_step (c : Dev nD) {In Out : ℕ → sProp 𝕄} {a s e i i' : ℕ} (ha : a ≤ s) (he : s < e) {Q W : sProp 𝕄}
    (h : iprop(In s ∗ bas m K c i) ⊢ iprop((iprop(Out s ∗ bas m K c i') -∗ Q) -∗ W)) :
    iprop(bas m K c i ∗ prog In Out a s e) ⊢ iprop((iprop(bas m K c i' ∗ prog In Out a (s + 1) e) -∗ Q) -∗ W) := by
  unfold prog
  rw [ran_bot In he, ran_top Out ha]
  iintro ⟨HB, ⟨⟨Hs, HI⟩, HO⟩⟩ Hk
  iapply h $$ [Hs HB]
  · isplitl [Hs]; · iexact Hs
    iexact HB
  iintro ⟨Ho, HB⟩
  iapply Hk
  isplitl [HB]; · iexact HB
  isplitl [HI]; · iexact HI
  isplitl [Ho]; · iexact Ho
  iexact HO

/-! ## The slots as the body names them -/

abbrev sbM (o : Fin 4 → ℕ) (h : ∀ a, o a + S1x1x8x512.size a ≤ S3x8x8x512.size a) : Memref sig .tc .vmem S1x8x512 .bf16 :=
  ((Memref.whole cc0_scratch2 : Memref sig .tc .vmem S3x8x8x512 .bf16).slice (Rect.unit (s := S3x8x8x512) o S1x1x8x512.size h) (fun _ => rfl)).squeeze
    S1x8x512 squeezes_S1x1x8x512_S1x8x512
abbrev rsM (o : Fin 4 → ℕ) (h : ∀ a, o a + S1x1x8x512.size a ≤ S3x8x8x512.size a) : Memref sig .tc .vmem S1x8x512 .bf16 :=
  ((Memref.whole cc0_scratch3 : Memref sig .tc .vmem S3x8x8x512 .bf16).slice (Rect.unit (s := S3x8x8x512) o S1x1x8x512.size h) (fun _ => rfl)).squeeze
    S1x8x512 squeezes_S1x1x8x512_S1x8x512
abbrev agM (o : Fin 4 → ℕ) (h : ∀ a, o a + S1x1x8x512.size a ≤ S2x1x8x512.size a) : Memref sig .tc .vmem S1x8x512 .bf16 :=
  ((Memref.whole cc0_scratch4 : Memref sig .tc .vmem S2x1x8x512 .bf16).slice (Rect.unit (s := S2x1x8x512) o S1x1x8x512.size h) (fun _ => rfl)).squeeze
    S1x8x512 squeezes_S1x1x8x512_S1x8x512
abbrev acM (o : Fin 4 → ℕ) (h : ∀ a, o a + S1x1x8x512.size a ≤ S2x8x8x512.size a) : Memref sig .tc .vmem S1x8x512 .bf16 :=
  ((Memref.whole cc0_scratch5 : Memref sig .tc .vmem S2x8x8x512 .bf16).slice (Rect.unit (s := S2x8x8x512) o S1x1x8x512.size h) (fun _ => rfl)).squeeze
    S1x8x512 squeezes_S1x1x8x512_S1x8x512
/-- One semaphore of an array. -/
abbrev semM (A : DmaSems sig S3x8) (p : Fin 2 → ℕ) (h : ∀ a, p a + S1x1.size a ≤ S3x8.size a) : DmaSem sig :=
  ((A.slice (Rect.unit (s := S3x8) p S1x1.size h)).squeeze S_ squeezes_S1x1_S_).sem

/-- The semaphore of an array that a pair of indices names. -/
theorem semM_ix (A : DmaSems sig S3x8) {r s : ℕ} (hr : r < 3) (hs : s < 8) {p : Fin 2 → ℕ} (hp : p = ![r, s]) {h} :
    semM A p h = A.ix (ix2 ⟨r, hr⟩ ⟨s, hs⟩) := by
  subst hp
  show A.ix ((Rect.unit (s := S3x8) ![r, s] S1x1.size h).emb (Shape.reshapeEquiv (squeezes_S1x1_S_).numel_eq fun i => i.elim0)) = _
  congr 1
  generalize (Shape.reshapeEquiv (squeezes_S1x1_S_).numel_eq fun i => i.elim0) = y
  have h0 : (y 0).val = 0 := by have := (y 0).isLt; change _ < 1 at this; omega
  have h1 : (y 1).val = 0 := by have := (y 1).isLt; change _ < 1 at this; omega
  funext a
  apply Fin.ext
  have e : ((Rect.unit (s := S3x8) ![r, s] S1x1.size h).emb y a).val = (![r, s] : Fin 2 → ℕ) a + 1 * (y a).val := rfl
  rw [e]
  fin_cases a <;> simp [h0, h1]

theorem sem_rsS {r s : ℕ} (hr : r < 3) (hs : s < 8) {p : Fin 2 → ℕ} (hp : p = ![r, s]) {h} : semM cc0_scratch10 p h = dq (num 12 r s) := by
  rw [semM_ix _ hr hs hp]; exact (by decide : ∀ (r : Fin 3) (s : Fin 8), cc0_scratch10.ix (ix2 r s) = dq (num 12 r.val s.val)) ⟨r, hr⟩ ⟨s, hs⟩
theorem sem_rsR {r s : ℕ} (hr : r < 3) (hs : s < 8) {p : Fin 2 → ℕ} (hp : p = ![r, s]) {h} : semM cc0_scratch11 p h = dq (num 36 r s) := by
  rw [semM_ix _ hr hs hp]; exact (by decide : ∀ (r : Fin 3) (s : Fin 8), cc0_scratch11.ix (ix2 r s) = dq (num 36 r.val s.val)) ⟨r, hr⟩ ⟨s, hs⟩
theorem sem_agS {r s : ℕ} (hr : r < 3) (hs : s < 8) {p : Fin 2 → ℕ} (hp : p = ![r, s]) {h} : semM cc0_scratch12 p h = dq (num 60 r s) := by
  rw [semM_ix _ hr hs hp]; exact (by decide : ∀ (r : Fin 3) (s : Fin 8), cc0_scratch12.ix (ix2 r s) = dq (num 60 r.val s.val)) ⟨r, hr⟩ ⟨s, hs⟩
theorem sem_agR {r s : ℕ} (hr : r < 3) (hs : s < 8) {p : Fin 2 → ℕ} (hp : p = ![r, s]) {h} : semM cc0_scratch13 p h = dq (num 84 r s) := by
  rw [semM_ix _ hr hs hp]; exact (by decide : ∀ (r : Fin 3) (s : Fin 8), cc0_scratch13.ix (ix2 r s) = dq (num 84 r.val s.val)) ⟨r, hr⟩ ⟨s, hs⟩

theorem sbM_set {r s : ℕ} {o : Fin 4 → ℕ} {h} (ho : o = ![r, s, 0, 0]) : (sbM o h).view.set = box r s (s + 1) := by
  show (((View.whole cc0_scratch2).slice (Rect.unit (s := S3x8x8x512) o S1x1x8x512.size h)).reshape S1x8x512 _).set = _
  rw [View.set_reshape, View.set_slice_whole]; exact unit_set (n := 3) (k := 8) ho rfl h
theorem rsM_set {r s : ℕ} {o : Fin 4 → ℕ} {h} (ho : o = ![r, s, 0, 0]) : (rsM o h).view.set = box r s (s + 1) := by
  show (((View.whole cc0_scratch3).slice (Rect.unit (s := S3x8x8x512) o S1x1x8x512.size h)).reshape S1x8x512 _).set = _
  rw [View.set_reshape, View.set_slice_whole]; exact unit_set (n := 3) (k := 8) ho rfl h
theorem agM_set {r s : ℕ} {o : Fin 4 → ℕ} {h} (ho : o = ![r, s, 0, 0]) : (agM o h).view.set = box r s (s + 1) := by
  show (((View.whole cc0_scratch4).slice (Rect.unit (s := S2x1x8x512) o S1x1x8x512.size h)).reshape S1x8x512 _).set = _
  rw [View.set_reshape, View.set_slice_whole]; exact unit_set (n := 2) (k := 1) ho rfl h
theorem acM_set {r s : ℕ} {o : Fin 4 → ℕ} {h} (ho : o = ![r, s, 0, 0]) : (acM o h).view.set = box r s (s + 1) := by
  show (((View.whole cc0_scratch5).slice (Rect.unit (s := S2x8x8x512) o S1x1x8x512.size h)).reshape S1x8x512 _).set = _
  rw [View.set_reshape, View.set_slice_whole]; exact unit_set (n := 2) (k := 8) ho rfl h

/-! ## What the views read -/

/-- An index of a slot, in the whole array. -/
theorem slot_idx {n k : ℕ} {r s : ℕ} {o : Fin 4 → ℕ} (h : ∀ a, o a + S1x1x8x512.size a ≤ (⟨4, ![n, k, 8, 512]⟩ : Shape).size a) (ho : o = ![r, s, 0, 0])
    (hr : r < n) (hs : s < k) (y : S1x1x8x512.Idx) :
    (Rect.unit (s := ⟨4, ![n, k, 8, 512]⟩) o S1x1x8x512.size h).emb y = ix4 ⟨r, hr⟩ ⟨s, hs⟩ (y 2) (y 3) := by
  subst ho
  have h0 : (y 0).val = 0 := by have := (y 0).isLt; change _ < 1 at this; omega
  have h1 : (y 1).val = 0 := by have := (y 1).isLt; change _ < 1 at this; omega
  funext a
  apply Fin.ext
  have e : ((Rect.unit (s := ⟨4, ![n, k, 8, 512]⟩) ![r, s, 0, 0] S1x1x8x512.size h).emb y a).val = (![r, s, 0, 0] : Fin 4 → ℕ) a + 1 * (y a).val := rfl
  rw [e]
  fin_cases a <;> simp [h0, h1]

theorem rs_read (c : Dev nD) {r s : ℕ} (hr : r < 3) (hs : s < 8) {o₁ o₂ : Fin 4 → ℕ} {h₁ h₂} (ho₁ : o₁ = ![r, s, 0, 0]) (ho₂ : o₂ = ![r, c.val, 0, 0]) :
    (rsM o₂ h₂).view.read (Elt F) (rsB m (dv s)) = (sbM o₁ h₁).view.read (Elt F) (sbB m c) := by
  funext x
  have e₁ : (sbM o₁ h₁).view.read (Elt F) (sbB m c) x
      = sbB m c ((Rect.unit (s := S3x8x8x512) o₁ S1x1x8x512.size h₁).emb (Shape.reshapeEquiv (squeezes_S1x1x8x512_S1x8x512).numel_eq x)) := rfl
  have e₂ : (rsM o₂ h₂).view.read (Elt F) (rsB m (dv s)) x
      = rsB m (dv s) ((Rect.unit (s := S3x8x8x512) o₂ S1x1x8x512.size h₂).emb (Shape.reshapeEquiv (squeezes_S1x1x8x512_S1x8x512).numel_eq x)) := rfl
  rw [e₁, e₂, slot_idx (n := 3) (k := 8) h₁ ho₁ hr hs, slot_idx (n := 3) (k := 8) h₂ ho₂ hr c.isLt]
  have hd : dv s = ⟨s, hs⟩ := Fin.ext (Nat.mod_eq_of_lt hs)
  rw [hd]
  rfl

theorem ag_read (c : Dev nD) {r : ℕ} (hr : r < 2) {o₁ o₂ : Fin 4 → ℕ} {h₁ h₂} (ho₁ : o₁ = ![r, 0, 0, 0]) (ho₂ : o₂ = ![r, c.val, 0, 0]) :
    (acM o₂ h₂).view.read (Elt F) (acB m) = (agM o₁ h₁).view.read (Elt F) (agB m c) := by
  funext x
  have e₁ : (agM o₁ h₁).view.read (Elt F) (agB m c) x
      = agB m c ((Rect.unit (s := S2x1x8x512) o₁ S1x1x8x512.size h₁).emb (Shape.reshapeEquiv (squeezes_S1x1x8x512_S1x8x512).numel_eq x)) := rfl
  have e₂ : (acM o₂ h₂).view.read (Elt F) (acB m) x
      = acB m ((Rect.unit (s := S2x8x8x512) o₂ S1x1x8x512.size h₂).emb (Shape.reshapeEquiv (squeezes_S1x1x8x512_S1x8x512).numel_eq x)) := rfl
  rw [e₁, e₂, slot_idx (n := 2) (k := 1) h₁ ho₁ hr (by decide), slot_idx (n := 2) (k := 8) h₂ ho₂ hr c.isLt]
  rfl

/-! ## Payloads by number -/

theorem pay_sb (d : Dev nD) {r s : ℕ} (hr : r < 3) (hs : s < 8) : pay m d (num 12 r s) = sbSlot m d r s := by
  unfold pay num
  rw [if_neg (by omega), if_pos (by omega), show (12 + 8 * r + s - 12) / 8 = r by omega, show (12 + 8 * r + s - 12) % 8 = s by omega]
theorem pay_rs (d : Dev nD) {r s : ℕ} (hr : r < 3) (hs : s < 8) : pay m d (num 36 r s) = rsSlot m d r s := by
  unfold pay num
  rw [if_neg (by omega), if_neg (by omega), if_pos (by omega), show (36 + 8 * r + s - 36) / 8 = r by omega, show (36 + 8 * r + s - 36) % 8 = s by omega]
theorem pay_ag (d : Dev nD) {r s : ℕ} (hr : r < 2) (hs : s < 8) : pay m d (num 60 r s) = agTok m d r s := by
  unfold pay num
  rw [if_neg (by omega), if_neg (by omega), if_neg (by omega), if_pos (by omega), show (60 + 8 * r + s - 60) / 8 = r by omega,
    show (60 + 8 * r + s - 60) % 8 = s by omega]
theorem pay_ac (d : Dev nD) {r s : ℕ} (hr : r < 2) (hs : s < 8) : pay m d (num 84 r s) = acSlot m d r s := by
  unfold pay num
  rw [if_neg (by omega), if_neg (by omega), if_neg (by omega), if_neg (by omega), show (84 + 8 * r + s - 84) / 8 = r by omega,
    show (84 + 8 * r + s - 84) % 8 = s by omega]

theorem amt_blk {n : ℕ} (h : 12 ≤ n) : amt n = blkN := by unfold amt; rw [if_neg (by omega)]

/-! ## Guarded steps -/

/-- Before and after the signal to device `s`. -/
def sgIn (c : Dev nD) (s : ℕ) : sProp 𝕄 := oth c s iprop(barPay c (dv s) ∗ dutyTok (ER (F := F)) (barCell (dv s)) 0 c)
def sgOut (c : Dev nD) (s : ℕ) : sProp 𝕄 := oth c s iprop(emp)
/-- Before and after the transfer of the partial product's block `s` of layer `r`. -/
def rsIn (c : Dev nD) (r s : ℕ) : sProp 𝕄 := oth c s iprop(sbSlot m c r s ∗ rsSlotE (dv s) r c.val
  ∗ (dutyTok (ER (F := F)) (dcell c (num 12 r s)) 0 0 ∗ dutyTok (ER (F := F)) (dcell (dv s) (num 36 r c.val)) 0 0))
def rsOut (c : Dev nD) (r s : ℕ) : sProp 𝕄 := oth c s (cred (tallyAt (dcell c (num 12 r s)) () (amt (num 12 r s))))
/-- Before and after the transfer of the reduced block of layer `r` to device `s`. -/
def agIn (c : Dev nD) (r s : ℕ) : sProp 𝕄 := oth c s iprop(agTok m c r s ∗ acSlotE (dv s) r c.val
  ∗ (dutyTok (ER (F := F)) (dcell c (num 60 r s)) 0 0 ∗ dutyTok (ER (F := F)) (dcell (dv s) (num 84 r c.val)) 0 0))
def agOut (c : Dev nD) (r s : ℕ) : sProp 𝕄 := oth c s (cred (tallyAt (dcell c (num 60 r s)) () (amt (num 60 r s))))
/-- Before and after the wait on slot `s` of row `r` of the semaphores that start at `b`. -/
def dmIn (b : ℕ) (c : Dev nD) (r s : ℕ) : sProp 𝕄 :=
  oth c s iprop(cred (tallyAt (dcell c (num b r s)) () (amt (num b r s))) ∗ atPos (ER (F := F)) (dcell c (num b r s)) 0 ∅ 0)
def dmOut (b : ℕ) (c : Dev nD) (r s : ℕ) : sProp 𝕄 := oth c s iprop(pay m c (num b r s) ∗ semVal (dcell c (num b r s)) 0)

theorem bas_self (c : Dev nD) {i s : ℕ} (hi : i < 48) (h : i % 8 = s) (hs : s = c.val) : bas m K c i ⊢ bas m K c (i + 1) := by
  unfold bas
  exact sep_mono_right (Owe_self c hi (h.trans hs))

theorem g_signal (c : Dev nD) {s : ℕ} (hs : s < 8) {cond : BitVec 1} (hc : cond = 1#1 ↔ s ≠ c.val)
    {d : cond = 1#1 → Dev nD} (hd : ∀ h, d h = dv s) {sem : Sem sig} (hsem : sem = barS) {w : BitVec 32} (hw : w = 1#32) {Q : PUnit → sProp 𝕄} :
    iprop(bas m K c s ∗ prog (sgIn c) (sgOut c) 0 s 8)
      ⊢ iprop((iprop(bas m K c (s + 1) ∗ prog (sgIn c) (sgOut c) 0 (s + 1) 8) -∗ Q ⟨⟩)
          -∗ WP c (if h : cond = 1#1 then (semSignalWord (d h) sem w >>= fun _ => pure ⟨⟩) else pure ⟨⟩) Q) := by
  refine prog_step m K c (Nat.zero_le s) hs ?_
  unfold sgIn sgOut
  refine guard_step c s hc (P' := iprop(emp)) (fun h hne => ?_) (fun he => bas_self m K c (by omega) (by omega) he)
  unfold bas
  iintro ⟨HP, ⟨#HR, HO⟩⟩ Hk
  iapply (signal m K c hs hne (hd h) hsem hw) $$ [HP HO]
  · isplitr; · iexact HR
    isplitl [HP]; · iexact HP
    iexact HO
  iintro HO
  iapply Hk
  isplitr; · iempintro
  isplitr; · iexact HR
  iexact HO

theorem g_rs (c : Dev nD) {r s i a e : ℕ} (hr : r < 3) (hs : s < 8) (ha : a ≤ s) (he : s < e) (hi : i = 8 * (2 * r + 1) + s)
    {cond : BitVec 1} (hc : cond = 1#1 ↔ s ≠ c.val)
    {d : cond = 1#1 → Dev nD} (hd : ∀ h, d h = dv s)
    {o₁ : cond = 1#1 → Fin 4 → ℕ} {b₁ : ∀ h, _} (ho₁ : ∀ h, o₁ h = ![r, s, 0, 0])
    {o₂ : cond = 1#1 → Fin 4 → ℕ} {b₂ : ∀ h, _} (ho₂ : ∀ h, o₂ h = ![r, c.val, 0, 0])
    {p₁ : cond = 1#1 → Fin 2 → ℕ} {e₁ : ∀ h, _} (hp₁ : ∀ h, p₁ h = ![r, s])
    {p₂ : cond = 1#1 → Fin 2 → ℕ} {e₂ : ∀ h, _} (hp₂ : ∀ h, p₂ h = ![r, c.val])
    {hsc : ∀ h, (rsM (o₂ h) (b₂ h)).view.ref.isScScratch = false}
    {hsrc : ∀ h, (sbM (o₁ h) (b₁ h)).view.WordExact} {hdst : ∀ h, (rsM (o₂ h) (b₂ h)).view.WordExact}
    {hsem : ∀ h, DmaTarget.Typed (nD := nD) (τ := τ) (p := .tc) .vmem (.dma (semM cc0_scratch11 (p₂ h) (e₂ h)))
      (.remote (Dev.tc (d h) : Thread nD τ) (rsM (o₂ h) (b₂ h)) (.dma (semM cc0_scratch10 (p₁ h) (e₁ h))) (hsc h))} {Q : PUnit → sProp 𝕄} :
    iprop(bas m K c i ∗ prog (rsIn m c r) (rsOut c r) a s e)
      ⊢ iprop((iprop(bas m K c (i + 1) ∗ prog (rsIn m c r) (rsOut c r) a (s + 1) e) -∗ Q ⟨⟩)
          -∗ WP c (if h : cond = 1#1 then (Prog.lift (.enqueueDma (sbM (o₁ h) (b₁ h))
              (.remote (Dev.tc (d h) : Thread nD τ) (rsM (o₂ h) (b₂ h)) (.dma (semM cc0_scratch10 (p₁ h) (e₁ h))) (hsc h))
              (.dma (semM cc0_scratch11 (p₂ h) (e₂ h))) (hsrc h) (hdst h) (hsem h)) >>= fun _ => pure ⟨⟩) else pure ⟨⟩) Q) := by
  have hcl : c.val < 8 := c.isLt
  refine prog_step m K c ha he ?_
  unfold rsIn rsOut
  refine guard_step c s hc (fun h hne => ?_) (fun hes => bas_self m K c (s := s) (by omega) (by omega) hes)
  unfold bas sbSlot rsSlotE
  iintro ⟨⟨Hs, ⟨%fd, Hd⟩, HT⟩, ⟨#HR, HO⟩⟩ Hk
  have hdv : (dv s).val = s := Nat.mod_eq_of_lt hs
  iapply (send m K c (s := s) (i := i) (nS := num 12 r s) (nR := num 36 r c.val) (by omega) (by unfold num; omega) (by unfold num; omega)
    (by unfold live num; omega) (amt_blk (by unfold num; omega)) (by unfold num; omega) (by unfold num; omega)
    (by unfold live num; rw [hdv]; omega) (amt_blk (by unfold num; omega)) (by rw [hi]; exact itm_rs c hs hne) (hd h)
    (sem_rsS hr hs (hp₁ h)) (sem_rsR hr hcl (hp₂ h)) rfl (q := fullShare) (fs := sbB m c) (fd := fd)
    (by rw [pay_sb m c hr hs, sbM_set (ho₁ h)]; unfold sbSlot; exact BI.Entails.refl _)
    (by rw [pay_rs m (dv s) hr hcl, pointsTo_congr (written_eq (rsM (o₂ h) (b₂ h)).view (rsB m (dv s)) fd (rs_read m c hr hs (ho₁ h) (ho₂ h))), rsM_set (ho₂ h)]
        unfold rsSlot; exact BI.Entails.refl _)) $$ [Hs Hd HT HO]
  · isplitr; · iexact HR
    isplitl [Hs]; · rw [sbM_set (ho₁ h)]; iexact Hs
    isplitl [Hd]; · rw [rsM_set (ho₂ h)]; iexact Hd
    isplitl [HT]; · iexact HT
    iexact HO
  iintro ⟨Hc, HO⟩
  iapply Hk
  isplitl [Hc]; · iexact Hc
  isplitr; · iexact HR
  iexact HO

theorem g_ag (c : Dev nD) {r s i a e : ℕ} (hr : r < 2) (hs : s < 8) (ha : a ≤ s) (he : s < e) (hi : i = 8 * (2 * r + 2) + s)
    {cond : BitVec 1} (hc : cond = 1#1 ↔ s ≠ c.val)
    {d : cond = 1#1 → Dev nD} (hd : ∀ h, d h = dv s)
    {o₁ : cond = 1#1 → Fin 4 → ℕ} {b₁ : ∀ h, _} (ho₁ : ∀ h, o₁ h = ![r, 0, 0, 0])
    {o₂ : cond = 1#1 → Fin 4 → ℕ} {b₂ : ∀ h, _} (ho₂ : ∀ h, o₂ h = ![r, c.val, 0, 0])
    {p₁ : cond = 1#1 → Fin 2 → ℕ} {e₁ : ∀ h, _} (hp₁ : ∀ h, p₁ h = ![r, s])
    {p₂ : cond = 1#1 → Fin 2 → ℕ} {e₂ : ∀ h, _} (hp₂ : ∀ h, p₂ h = ![r, c.val])
    {hsc : ∀ h, (acM (o₂ h) (b₂ h)).view.ref.isScScratch = false}
    {hsrc : ∀ h, (agM (o₁ h) (b₁ h)).view.WordExact} {hdst : ∀ h, (acM (o₂ h) (b₂ h)).view.WordExact}
    {hsem : ∀ h, DmaTarget.Typed (nD := nD) (τ := τ) (p := .tc) .vmem (.dma (semM cc0_scratch13 (p₂ h) (e₂ h)))
      (.remote (Dev.tc (d h) : Thread nD τ) (acM (o₂ h) (b₂ h)) (.dma (semM cc0_scratch12 (p₁ h) (e₁ h))) (hsc h))} {Q : PUnit → sProp 𝕄} :
    iprop(bas m K c i ∗ prog (agIn m c r) (agOut c r) a s e)
      ⊢ iprop((iprop(bas m K c (i + 1) ∗ prog (agIn m c r) (agOut c r) a (s + 1) e) -∗ Q ⟨⟩)
          -∗ WP c (if h : cond = 1#1 then (Prog.lift (.enqueueDma (agM (o₁ h) (b₁ h))
              (.remote (Dev.tc (d h) : Thread nD τ) (acM (o₂ h) (b₂ h)) (.dma (semM cc0_scratch12 (p₁ h) (e₁ h))) (hsc h))
              (.dma (semM cc0_scratch13 (p₂ h) (e₂ h))) (hsrc h) (hdst h) (hsem h)) >>= fun _ => pure ⟨⟩) else pure ⟨⟩) Q) := by
  have hcl : c.val < 8 := c.isLt
  refine prog_step m K c ha he ?_
  unfold agIn agOut
  refine guard_step c s hc (fun h hne => ?_) (fun hes => bas_self m K c (s := s) (by omega) (by omega) hes)
  unfold bas agTok acSlotE
  iintro ⟨⟨Hs, ⟨%fd, Hd⟩, HT⟩, ⟨#HR, HO⟩⟩ Hk
  have hdv : (dv s).val = s := Nat.mod_eq_of_lt hs
  iapply (send m K c (s := s) (i := i) (nS := num 60 r s) (nR := num 84 r c.val) (by omega) (by unfold num; omega) (by unfold num; omega)
    (by unfold live num; omega) (amt_blk (by unfold num; omega)) (by unfold num; omega) (by unfold num; omega)
    (by unfold live num; rw [hdv]; omega) (amt_blk (by unfold num; omega)) (by rw [hi]; exact itm_ag c hs hne) (hd h)
    (sem_agS (by omega) hs (hp₁ h)) (sem_agR (by omega) hcl (hp₂ h)) rfl (q := shareTokN fullShare s) (fs := agB m c) (fd := fd)
    (by rw [pay_ag m c hr hs, agM_set (ho₁ h)]; unfold agTok; exact BI.Entails.refl _)
    (by rw [pay_ac m (dv s) hr hcl, pointsTo_congr (written_eq (acM (o₂ h) (b₂ h)).view (acB m) fd (ag_read m c hr (ho₁ h) (ho₂ h))), acM_set (ho₂ h)]
        unfold acSlot; exact BI.Entails.refl _)) $$ [Hs Hd HT HO]
  · isplitr; · iexact HR
    isplitl [Hs]; · rw [agM_set (ho₁ h)]; iexact Hs
    isplitl [Hd]; · rw [acM_set (ho₂ h)]; iexact Hd
    isplitl [HT]; · iexact HT
    iexact HO
  iintro ⟨Hc, HO⟩
  iapply Hk
  isplitl [Hc]; · iexact Hc
  isplitr; · iexact HR
  iexact HO

/-- A guarded wait, at any of the four arrays of semaphores. -/
theorem g_wait (c : Dev nD) {b r s k a e : ℕ} (hb : b = 12 ∧ r < 3 ∨ b = 36 ∧ r < 3 ∨ b = 60 ∧ r < 2 ∨ b = 84 ∧ r < 2) (hs : s < 8)
    (ha : a ≤ s) (he : s < e) (hlv : lvN (num b r s) < 1 + k / 8)
    {cond : BitVec 1} (hc : cond = 1#1 ↔ s ≠ c.val)
    {sem : cond = 1#1 → DmaSem sig} (hsem : ∀ h, sem h = dq (num b r s))
    {sp sp' : Space} {s' : Shape} {e' : EltTy}
    {src : cond = 1#1 → Memref sig .tc sp' s' e'} {dst : cond = 1#1 → Memref sig .tc sp S1x8x512 .bf16}
    {hsrc : ∀ h, (src h).view.WordExact} {hdst : ∀ h, (dst h).view.WordExact}
    (hN : ∀ h, (dst h).view.dmaCredit = blkN) {Q : PUnit → sProp 𝕄} :
    iprop(bas m K c k ∗ prog (dmIn b c r) (dmOut m b c r) a s e)
      ⊢ iprop((iprop(bas m K c k ∗ prog (dmIn b c r) (dmOut m b c r) a (s + 1) e) -∗ Q ⟨⟩)
          -∗ WP c (if h : cond = 1#1 then (Prog.lift (.waitDma2 (sem h) (src h) (dst h) (hsrc h) (hdst h)) >>= fun _ => pure ⟨⟩) else pure ⟨⟩) Q) := by
  refine prog_step m K c ha he ?_
  unfold dmIn dmOut
  refine guard_step c s hc (fun h hne => ?_) (fun hes => BI.Entails.refl _)
  unfold bas
  iintro ⟨HP, ⟨#HR, HO⟩⟩ Hk
  iapply (wait_dma m K c (n := num b r s) (k := k) (by unfold num; omega) (by unfold num; omega) (by unfold live num; omega) hlv (hsem h)
    ((hN h).trans (amt_blk (by unfold num; omega)).symm)) $$ [HP HO]
  · isplitr; · iexact HR
    isplitl [HP]; · iexact HP
    iexact HO
  iintro ⟨HP, HO⟩
  iapply Hk
  isplitl [HP]; · iexact HP
  isplitr; · iexact HR
  iexact HO

end Cert.P
-- ==== Proof.Data.lean ====
/-
Loads, stores and local copies of the body, at the contents that the buffers have.
-/
module

public import proofs.«01_k».proof.Proof.Moves

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ)

/-- A step at the head of a longer program. -/
theorem bind_in {α β : Type} (c : Dev nD) {p : Prog (TpuEff nD τ sig (Elt F) Λ₀ .tc) α} {k : α → Prog (TpuEff nD τ sig (Elt F) Λ₀ .tc) β} {Q : β → sProp 𝕄} :
    WP c p (fun x => WP c (k x) Q) ⊢ WP c (p >>= k) Q := by
  unfold WP; rw [wp_bind]
/-- A guarded step at the head of a longer program. -/
theorem guard_in {β : Type} (c : Dev nD) {cond : BitVec 1} {t : cond = 1#1 → Prog (TpuEff nD τ sig (Elt F) Λ₀ .tc) PUnit}
    {J : Prog (TpuEff nD τ sig (Elt F) Λ₀ .tc) β} {Q : β → sProp 𝕄} :
    WP c (if h : cond = 1#1 then (t h >>= fun _ => pure ⟨⟩) else pure ⟨⟩) (fun _ : PUnit => WP c J Q)
      ⊢ WP c (if h : cond = 1#1 then (t h >>= fun _ => J) else J) Q := by
  have e : (if h : cond = 1#1 then (t h >>= fun _ => J) else J)
      = (if h : cond = 1#1 then (t h >>= fun _ => pure ⟨⟩) else pure ⟨⟩) >>= fun _ : PUnit => J := by
    split_ifs with h
    · rw [bind_assoc]; simp only [pure_bind]
    · rfl
  rw [e]
  exact bind_in c
theorem ret_in {α : Type} (c : Dev nD) {x : α} {Q : α → sProp 𝕄} : Q x ⊢ WP c (pure x : Prog (TpuEff nD τ sig (Elt F) Λ₀ .tc) α) Q := by
  unfold WP; rw [Prog.pure_eq_ret, wp_ret]; exact fupd_intro

/-! ## Loads and stores -/

/-- A load through a rectangle that is held. -/
theorem ld (c : Dev nD) {cs : CoreSpace} {s : Shape} {e : EltTy} (M : Memref sig .tc cs s e) {r : Rect s} {hl : M.view.LoadsAt r}
    {S : Finset (Idx ((M.access r).loc (c : Thread nD τ)))} {q : PosShare TreeShare} {f : Buf (Elt F) ((M.access r).loc (c : Thread nD τ))}
    (hS : (M.access r).set ⊆ S) {v : r.shape.Idx → Elt F e} (hv : (M.access r).read (Elt F) f = v) {Q : (r.shape.Idx → Elt F e) → sProp 𝕄} :
    iprop((M.access r).loc (c : Thread nD τ) ↦[S]{q} f)
      ⊢ iprop((iprop((M.access r).loc (c : Thread nD τ) ↦[S]{q} f) -∗ Q v) -∗ WP c (Prog.lift (.load M r.toLoadRect hl)) Q) := by
  subst hv
  iintro H Hk
  simp only [Prog.lift, WP]
  iapply (wp_load_rect (defs := defs₀ (F := F)) 𝒱₀ (c : Thread nD τ) none Set.univ (Γ := .empty) hS) $$ H
  iintro H
  rw [wp_ret]
  imodintro
  iapply Hk
  iexact H

/-- A load whose value nothing reads. -/
theorem ld_any (c : Dev nD) {cs : CoreSpace} {s : Shape} {e : EltTy} (M : Memref sig .tc cs s e) {r : Rect s} {hl : M.view.LoadsAt r}
    {S : Finset (Idx ((M.access r).loc (c : Thread nD τ)))}
    (hS : (M.access r).set ⊆ S) {Q : (r.shape.Idx → Elt F e) → sProp 𝕄} :
    iprop(∃ f : Buf (Elt F) ((M.access r).loc (c : Thread nD τ)), (M.access r).loc (c : Thread nD τ) ↦[S]{fullShare} f)
      ⊢ iprop((∀ v, iprop(∃ f : Buf (Elt F) ((M.access r).loc (c : Thread nD τ)), (M.access r).loc (c : Thread nD τ) ↦[S]{fullShare} f) -∗ Q v)
          -∗ WP c (Prog.lift (.load M r.toLoadRect hl)) Q) := by
  iintro ⟨%f, H⟩ Hk
  iapply (ld c M (f := f) hS rfl) $$ H
  iintro H
  iapply Hk
  iexists f; iexact H

/-- A store through a rectangle that is held, at the contents that it leaves. -/
theorem st (c : Dev nD) {cs : CoreSpace} {s : Shape} {e : EltTy} (M : Memref sig .tc cs s e) {r : Rect s} {w : r.shape.Idx → Elt F e}
    {hx : (M.access r).Stores Finset.univ} {hm : (Finset.univ : Finset r.shape.Idx) = Finset.univ ∨ ∀ a, r.stride a = 1}
    {S : Finset (Idx ((M.access r).loc (c : Thread nD τ)))} {g : Buf (Elt F) ((M.access r).loc (c : Thread nD τ))}
    (hS : (M.access r).set = S) (hg : (M.access r).read (Elt F) g = w) {Q : PUnit → sProp 𝕄} :
    iprop(∃ f : Buf (Elt F) ((M.access r).loc (c : Thread nD τ)), (M.access r).loc (c : Thread nD τ) ↦[S]{fullShare} f)
      ⊢ iprop((iprop((M.access r).loc (c : Thread nD τ) ↦[S]{fullShare} g) -∗ Q ⟨⟩)
          -∗ WP c (Prog.lift (.store M r w Finset.univ hx hm)) Q) := by
  subst hS
  iintro ⟨%f, H⟩ Hk
  simp only [Prog.lift, WP]
  iapply (wp_store (defs := defs₀ (F := F)) 𝒱₀ (c : Thread nD τ) none Set.univ (Γ := .empty) (m := M) (r := r) (w := w) (Mk := Finset.univ)
    (hx := hx) (hm := hm) (S := (M.access r).set) (f := f) (by rw [View.setOn_univ])) $$ H
  iintro H
  rw [wp_ret]
  imodintro
  iapply Hk
  rw [pointsTo_congr (written_eq (M.access r) g f hg)]
  exact BI.Entails.refl _

/-! ## The indices of a rectangle -/

theorem emb4 {n k r lo w : ℕ} {o : Fin 4 → ℕ} (ho : o = ![r, lo, 0, 0])
    (h : ∀ a, o a + (![1, w, 8, 512] : Fin 4 → ℕ) a ≤ (⟨4, ![n, k, 8, 512]⟩ : Shape).size a) (y : (⟨4, ![1, w, 8, 512]⟩ : Shape).Idx)
    {hr : r < n} {hb : lo + (y 1).val < k} :
    (Rect.unit (s := ⟨4, ![n, k, 8, 512]⟩) o ![1, w, 8, 512] h).emb y = ix4 ⟨r, hr⟩ ⟨lo + (y 1).val, hb⟩ (y 2) (y 3) := by
  subst ho
  have h0 : (y 0).val = 0 := by have := (y 0).isLt; change _ < 1 at this; omega
  funext a
  apply Fin.ext
  have e : ((Rect.unit (s := ⟨4, ![n, k, 8, 512]⟩) ![r, lo, 0, 0] ![1, w, 8, 512] h).emb y a).val = (![r, lo, 0, 0] : Fin 4 → ℕ) a + 1 * (y a).val := rfl
  rw [e]
  fin_cases a <;> simp [h0]

theorem emb3 {n k l r p q a b : ℕ} {o : Fin 3 → ℕ} (ho : o = ![r, p, q])
    (h : ∀ x, o x + (![1, a, b] : Fin 3 → ℕ) x ≤ (⟨3, ![n, k, l]⟩ : Shape).size x) (y : (⟨3, ![1, a, b]⟩ : Shape).Idx)
    {hr : r < n} {hp : p + (y 1).val < k} {hq : q + (y 2).val < l} :
    (Rect.unit (s := ⟨3, ![n, k, l]⟩) o ![1, a, b] h).emb y = ix3 ⟨r, hr⟩ ⟨p + (y 1).val, hp⟩ ⟨q + (y 2).val, hq⟩ := by
  subst ho
  have h0 : (y 0).val = 0 := by have := (y 0).isLt; change _ < 1 at this; omega
  funext x
  apply Fin.ext
  have e : ((Rect.unit (s := ⟨3, ![n, k, l]⟩) ![r, p, q] ![1, a, b] h).emb y x).val = (![r, p, q] : Fin 3 → ℕ) x + 1 * (y x).val := rfl
  rw [e]
  fin_cases x <;> simp [h0]

theorem emb2 {k l p q a b : ℕ} {o : Fin 2 → ℕ} (ho : o = ![p, q])
    (h : ∀ x, o x + (![a, b] : Fin 2 → ℕ) x ≤ (⟨2, ![k, l]⟩ : Shape).size x) (y : (⟨2, ![a, b]⟩ : Shape).Idx)
    {hp : p + (y 0).val < k} {hq : q + (y 1).val < l} :
    (Rect.unit (s := ⟨2, ![k, l]⟩) o ![a, b] h).emb y = ix2 ⟨p + (y 0).val, hp⟩ ⟨q + (y 1).val, hq⟩ := by
  subst ho
  funext x
  apply Fin.ext
  have e : ((Rect.unit (s := ⟨2, ![k, l]⟩) ![p, q] ![a, b] h).emb y x).val = (![p, q] : Fin 2 → ℕ) x + 1 * (y x).val := rfl
  rw [e]
  fin_cases x <;> simp

/-! ## The pieces of the buffers in rows -/

/-- Rows of the four arrays of blocks, at their last contents, and at any. -/
def sbR (c : Dev nD) (r lo hi : ℕ) : sProp 𝕄 := (c : Thread nD τ).loc cc0_scratch2 ↦[box r lo hi]{fullShare} sbB m c
def sbE (c : Dev nD) (r lo hi : ℕ) : sProp 𝕄 :=
  iprop(∃ f : Buf (Elt F) ((c : Thread nD τ).loc cc0_scratch2), (c : Thread nD τ).loc cc0_scratch2 ↦[box r lo hi]{fullShare} f)
def rsR (c : Dev nD) (r lo hi : ℕ) : sProp 𝕄 := (c : Thread nD τ).loc cc0_scratch3 ↦[box r lo hi]{fullShare} rsB m c
def agR (c : Dev nD) (r : ℕ) (q : PosShare TreeShare) : sProp 𝕄 := (c : Thread nD τ).loc cc0_scratch4 ↦[box r 0 1]{q} agB m c
def agE (c : Dev nD) (r : ℕ) : sProp 𝕄 :=
  iprop(∃ f : Buf (Elt F) ((c : Thread nD τ).loc cc0_scratch4), (c : Thread nD τ).loc cc0_scratch4 ↦[box r 0 1]{fullShare} f)
def acR (c : Dev nD) (r lo hi : ℕ) : sProp 𝕄 := (c : Thread nD τ).loc cc0_scratch5 ↦[box r lo hi]{fullShare} acB m
def outE (c : Dev nD) : sProp 𝕄 := iprop(∃ f : Buf (Elt F) ((c : Thread nD τ).loc cc0_stg0_0), (c : Thread nD τ).loc cc0_stg0_0 ↦{fullShare} f)
def outP (c : Dev nD) : sProp 𝕄 := (c : Thread nD τ).loc cc0_stg0_0 ↦{fullShare} (outV m c : Buf (Elt F) ((c : Thread nD τ).loc cc0_stg0_0))

/-- Device `c`'s own slot of the blocks that it sends. -/
def sbOwn (c : Dev nD) (r : ℕ) : Vec F S1x1x8x512 .bf16 := fun i => sv m r c (ix4 0 c (i 2) (i 3))

section
variable (c : Dev nD)

/-- The load of the input. -/
theorem ld_x {h hl} {Q : Vec F S64x512 .f32 → sProp 𝕄} :
    xvP m c ⊢ iprop((xvP m c -∗ Q (xB m c))
      -∗ WP c (Prog.lift (.load (Memref.whole cc0_scratch6 : Memref sig .tc .vmem S64x512 .f32) (Rect.unit (s := S64x512) ![0, 0] S64x512.size h).toLoadRect hl)) Q) := by
  unfold xvP
  exact ld (F := F) c (Memref.whole cc0_scratch6 : Memref sig .tc .vmem S64x512 .f32) (r := Rect.unit (s := S64x512) ![0, 0] S64x512.size h) (hl := hl) (S := Finset.univ) (q := fullShare) (f := xB m c) (v := xB m c) (Q := Q) (Finset.subset_univ _)
    (Memref.read_access_unit_zero (Elt F) cc0_scratch6 (by funext a; fin_cases a <;> rfl) h (xB m c))

/-- A load of weights. -/
theorem ld_wv {r p w a b : ℕ} (hr : r < 3) (ha : a ≤ p) (hb : p + w ≤ b) (hb' : b ≤ 1024) {o : Fin 3 → ℕ} (ho : o = ![r, 0, p]) {h hl}
    {Q : ((⟨3, ![1, 512, w]⟩ : Shape).Idx → Elt F .f32) → sProp 𝕄} :
    wvP m c r a b ⊢ iprop((wvP m c r a b
        -∗ Q (fun y => wvB m c (ix3 ⟨r, hr⟩ (y 1) ⟨p + (y 2).val, by have := (y 2).isLt; change _ < w at this; omega⟩)))
      -∗ WP c (Prog.lift (.load (Memref.whole cc0_scratch0 : Memref sig .tc .vmem S3x512x1024 .f32)
          (Rect.unit (s := S3x512x1024) o ![1, 512, w] h).toLoadRect hl)) Q) := by
  unfold wvP
  refine ld (F := F) c (Memref.whole cc0_scratch0 : Memref sig .tc .vmem S3x512x1024 .f32) (r := Rect.unit (s := S3x512x1024) o ![1, 512, w] h) (hl := hl)
    (S := box3 r 0 512 a b) (q := fullShare) (f := wvB m c) (v := fun y => wvB m c (ix3 ⟨r, hr⟩ (y 1) ⟨p + (y 2).val, by have := (y 2).isLt; change _ < w at this; omega⟩)) (Q := Q) ?_ ?_
  · rw [show ((Memref.whole cc0_scratch0 : Memref sig .tc .vmem _ _).access (Rect.unit (s := S3x512x1024) o ![1, 512, w] h)).set = (Rect.unit (s := S3x512x1024) o ![1, 512, w] h).set from View.set_slice_whole _ _]
    refine (unit_set3 (n := 3) (k := 512) (l := 1024) ho rfl h).le.trans ?_
    intro i hi
    rw [mem_box3] at hi ⊢
    omega
  · funext y
    show wvB m c ((Rect.unit (s := S3x512x1024) o ![1, 512, w] h).emb y) = _
    have h1 : (y 1).val < 512 := (y 1).isLt
    have h2 : (y 2).val < w := (y 2).isLt
    rw [emb3 (n := 3) (k := 512) (l := 1024) ho h y (hr := hr) (hp := by omega) (hq := by omega)]
    congr 1
    exact congrArg₂ (ix3 (n0 := 3) (n1 := 512) (n2 := 1024) ⟨r, hr⟩) (Fin.ext (Nat.zero_add (y 1).val)) rfl

theorem ld_ov {r p w a b : ℕ} (hr : r < 3) (ha : a ≤ p) (hb : p + w ≤ b) (hb' : b ≤ 1024) {o : Fin 3 → ℕ} (ho : o = ![r, p, 0]) {h hl}
    {Q : ((⟨3, ![1, w, 512]⟩ : Shape).Idx → Elt F .f32) → sProp 𝕄} :
    ovP m c r a b ⊢ iprop((ovP m c r a b
        -∗ Q (fun y => ovB m c (ix3 ⟨r, hr⟩ ⟨p + (y 1).val, by have := (y 1).isLt; change _ < w at this; omega⟩ (y 2))))
      -∗ WP c (Prog.lift (.load (Memref.whole cc0_scratch1 : Memref sig .tc .vmem S3x1024x512 .f32)
          (Rect.unit (s := S3x1024x512) o ![1, w, 512] h).toLoadRect hl)) Q) := by
  unfold ovP
  refine ld (F := F) c (Memref.whole cc0_scratch1 : Memref sig .tc .vmem S3x1024x512 .f32) (r := Rect.unit (s := S3x1024x512) o ![1, w, 512] h) (hl := hl)
    (S := box3 r a b 0 512) (q := fullShare) (f := ovB m c) (v := fun y => ovB m c (ix3 ⟨r, hr⟩ ⟨p + (y 1).val, by have := (y 1).isLt; change _ < w at this; omega⟩ (y 2))) (Q := Q) ?_ ?_
  · rw [show ((Memref.whole cc0_scratch1 : Memref sig .tc .vmem _ _).access (Rect.unit (s := S3x1024x512) o ![1, w, 512] h)).set = (Rect.unit (s := S3x1024x512) o ![1, w, 512] h).set from View.set_slice_whole _ _]
    refine (unit_set3 (n := 3) (k := 1024) (l := 512) ho rfl h).le.trans ?_
    intro i hi
    rw [mem_box3] at hi ⊢
    omega
  · funext y
    show ovB m c ((Rect.unit (s := S3x1024x512) o ![1, w, 512] h).emb y) = _
    have h1 : (y 1).val < w := (y 1).isLt
    have h2 : (y 2).val < 512 := (y 2).isLt
    rw [emb3 (n := 3) (k := 1024) (l := 512) ho h y (hr := hr) (hp := by omega) (hq := by omega)]
    congr 1
    exact congrArg₂ (ix3 (n0 := 3) (n1 := 1024) (n2 := 512) ⟨r, hr⟩) rfl (Fin.ext (Nat.zero_add (y 2).val))

/-- The load of the device's own block of its partial product. -/
theorem ld_sb {r : ℕ} (hr : r < 3) {o : Fin 4 → ℕ} (ho : o = ![r, c.val, 0, 0]) {h hl} {Q : Vec F S1x1x8x512 .bf16 → sProp 𝕄} :
    sbSlot m c r c.val ⊢ iprop((sbSlot m c r c.val -∗ Q (sbOwn m c r))
      -∗ WP c (Prog.lift (.load (Memref.whole cc0_scratch2 : Memref sig .tc .vmem S3x8x8x512 .bf16)
          (Rect.unit (s := S3x8x8x512) o S1x1x8x512.size h).toLoadRect hl)) Q) := by
  unfold sbSlot
  refine ld (F := F) c (Memref.whole cc0_scratch2 : Memref sig .tc .vmem S3x8x8x512 .bf16) (r := Rect.unit (s := S3x8x8x512) o S1x1x8x512.size h) (hl := hl)
    (S := box r c.val (c.val + 1)) (q := fullShare) (f := sbB m c) (v := sbOwn m c r) (Q := Q) ?_ ?_
  · rw [show ((Memref.whole cc0_scratch2 : Memref sig .tc .vmem _ _).access (Rect.unit (s := S3x8x8x512) o S1x1x8x512.size h)).set = (Rect.unit (s := S3x8x8x512) o S1x1x8x512.size h).set from View.set_slice_whole _ _]
    exact (unit_set (n := 3) (k := 8) ho rfl h).le
  · funext y
    show sbB m c ((Rect.unit (s := S3x8x8x512) o S1x1x8x512.size h).emb y) = _
    rw [slot_idx (n := 3) (k := 8) h ho hr c.isLt]
    rfl

/-- The load of everybody's blocks for this device. -/
theorem ld_rs {r : ℕ} (hr : r < 3) {o : Fin 4 → ℕ} (ho : o = ![r, 0, 0, 0]) {h hl} {Q : Vec F S1x8x8x512 .bf16 → sProp 𝕄} :
    rsR m c r 0 8 ⊢ iprop((rsR m c r 0 8 -∗ Q (gath (sv m r) c))
      -∗ WP c (Prog.lift (.load (Memref.whole cc0_scratch3 : Memref sig .tc .vmem S3x8x8x512 .bf16)
          (Rect.unit (s := S3x8x8x512) o S1x8x8x512.size h).toLoadRect hl)) Q) := by
  unfold rsR
  refine ld (F := F) c (Memref.whole cc0_scratch3 : Memref sig .tc .vmem S3x8x8x512 .bf16) (r := Rect.unit (s := S3x8x8x512) o S1x8x8x512.size h) (hl := hl)
    (S := box r 0 8) (q := fullShare) (f := rsB m c) (v := gath (sv m r) c) (Q := Q) ?_ ?_
  · rw [show ((Memref.whole cc0_scratch3 : Memref sig .tc .vmem _ _).access (Rect.unit (s := S3x8x8x512) o S1x8x8x512.size h)).set = (Rect.unit (s := S3x8x8x512) o S1x8x8x512.size h).set from View.set_slice_whole _ _]
    exact (unit_set (n := 3) (k := 8) ho rfl h).le
  · funext y
    show rsB m c ((Rect.unit (s := S3x8x8x512) o S1x8x8x512.size h).emb y) = _
    have h1 : (y 1).val < 8 := (y 1).isLt
    rw [emb4 (n := 3) (k := 8) (w := 8) ho h y (hr := hr) (hb := by omega)]
    have e : (⟨0 + (y 1).val, by omega⟩ : Fin 8) = y 1 := Fin.ext (Nat.zero_add _)
    show sv m r ⟨0 + (y 1).val, _⟩ (ix4 0 c (y 2) (y 3)) = _
    rw [e]
    rfl

/-- The load of the device's own reduced block. -/
theorem ld_ag {r : ℕ} (hr : r < 2) {q : PosShare TreeShare} {o : Fin 4 → ℕ} (ho : o = ![r, 0, 0, 0]) {h hl} {Q : Vec F S1x1x8x512 .bf16 → sProp 𝕄} :
    agR m c r q ⊢ iprop((agR m c r q -∗ Q (av m r c))
      -∗ WP c (Prog.lift (.load (Memref.whole cc0_scratch4 : Memref sig .tc .vmem S2x1x8x512 .bf16)
          (Rect.unit (s := S2x1x8x512) o S1x1x8x512.size h).toLoadRect hl)) Q) := by
  unfold agR
  refine ld (F := F) c (Memref.whole cc0_scratch4 : Memref sig .tc .vmem S2x1x8x512 .bf16) (r := Rect.unit (s := S2x1x8x512) o S1x1x8x512.size h) (hl := hl)
    (S := box r 0 1) (q := q) (f := agB m c) (v := av m r c) (Q := Q) ?_ ?_
  · rw [show ((Memref.whole cc0_scratch4 : Memref sig .tc .vmem _ _).access (Rect.unit (s := S2x1x8x512) o S1x1x8x512.size h)).set = (Rect.unit (s := S2x1x8x512) o S1x1x8x512.size h).set from View.set_slice_whole _ _]
    exact (unit_set (n := 2) (k := 1) ho rfl h).le
  · funext y
    show agB m c ((Rect.unit (s := S2x1x8x512) o S1x1x8x512.size h).emb y) = _
    rw [slot_idx (n := 2) (k := 1) h ho hr (by decide)]
    show av m r c (ix4 0 0 (y 2) (y 3)) = _
    congr 1
    funext a
    fin_cases a
    · exact Subsingleton.elim (α := Fin 1) _ _
    · exact Subsingleton.elim (α := Fin 1) _ _
    · rfl
    · rfl

/-- The load of four gathered blocks. -/
theorem ld_ac {r lo : ℕ} (hr : r < 2) (hlo : lo + 4 ≤ 8) {o : Fin 4 → ℕ} (ho : o = ![r, lo, 0, 0]) {h hl} {Q : Vec F S1x4x8x512 .bf16 → sProp 𝕄} :
    acR m c r lo (lo + 4) ⊢ iprop((acR m c r lo (lo + 4)
        -∗ Q (fun y => allg (av m r) (ix4 0 ⟨lo + (y 1).val, by have := (y 1).isLt; change _ < 4 at this; omega⟩ (y 2) (y 3))))
      -∗ WP c (Prog.lift (.load (Memref.whole cc0_scratch5 : Memref sig .tc .vmem S2x8x8x512 .bf16)
          (Rect.unit (s := S2x8x8x512) o S1x4x8x512.size h).toLoadRect hl)) Q) := by
  unfold acR
  refine ld (F := F) c (Memref.whole cc0_scratch5 : Memref sig .tc .vmem S2x8x8x512 .bf16) (r := Rect.unit (s := S2x8x8x512) o S1x4x8x512.size h) (hl := hl)
    (S := box r lo (lo + 4)) (q := fullShare) (f := acB m) (v := fun y => allg (av m r) (ix4 0 ⟨lo + (y 1).val, by have := (y 1).isLt; change _ < 4 at this; omega⟩ (y 2) (y 3))) (Q := Q) ?_ ?_
  · rw [show ((Memref.whole cc0_scratch5 : Memref sig .tc .vmem _ _).access (Rect.unit (s := S2x8x8x512) o S1x4x8x512.size h)).set = (Rect.unit (s := S2x8x8x512) o S1x4x8x512.size h).set from View.set_slice_whole _ _]
    exact (unit_set (n := 2) (k := 8) ho rfl h).le
  · funext y
    show acB m ((Rect.unit (s := S2x8x8x512) o S1x4x8x512.size h).emb y) = _
    have h1 : (y 1).val < 4 := (y 1).isLt
    rw [emb4 (n := 2) (k := 8) (w := 4) ho h y (hr := hr) (hb := by omega)]
    rfl

/-! The loads before the stores. -/

theorem dl_sb {r lo w : ℕ} {o : Fin 4 → ℕ} (ho : o = ![r, lo, 0, 0]) {h hl} {Q : ((⟨4, ![1, w, 8, 512]⟩ : Shape).Idx → Elt F .bf16) → sProp 𝕄} :
    sbE c r lo (lo + w) ⊢ iprop((∀ v, sbE c r lo (lo + w) -∗ Q v)
      -∗ WP c (Prog.lift (.load (Memref.whole cc0_scratch2 : Memref sig .tc .vmem S3x8x8x512 .bf16)
          (Rect.unit (s := S3x8x8x512) o ![1, w, 8, 512] h).toLoadRect hl)) Q) := by
  unfold sbE
  refine ld_any (F := F) c (Memref.whole cc0_scratch2 : Memref sig .tc .vmem S3x8x8x512 .bf16) (r := Rect.unit (s := S3x8x8x512) o ![1, w, 8, 512] h) (hl := hl)
    (S := box r lo (lo + w)) (Q := Q) ?_
  rw [show ((Memref.whole cc0_scratch2 : Memref sig .tc .vmem _ _).access (Rect.unit (s := S3x8x8x512) o ![1, w, 8, 512] h)).set = (Rect.unit (s := S3x8x8x512) o ![1, w, 8, 512] h).set from View.set_slice_whole _ _]
  exact (unit_set (n := 3) (k := 8) ho rfl h).le

theorem dl_rs {r : ℕ} {o : Fin 4 → ℕ} (ho : o = ![r, c.val, 0, 0]) {h hl} {Q : Vec F S1x1x8x512 .bf16 → sProp 𝕄} :
    rsSlotE c r c.val ⊢ iprop((∀ v, rsSlotE c r c.val -∗ Q v)
      -∗ WP c (Prog.lift (.load (Memref.whole cc0_scratch3 : Memref sig .tc .vmem S3x8x8x512 .bf16)
          (Rect.unit (s := S3x8x8x512) o S1x1x8x512.size h).toLoadRect hl)) Q) := by
  unfold rsSlotE
  refine ld_any (F := F) c (Memref.whole cc0_scratch3 : Memref sig .tc .vmem S3x8x8x512 .bf16) (r := Rect.unit (s := S3x8x8x512) o S1x1x8x512.size h) (hl := hl)
    (S := box r c.val (c.val + 1)) (Q := Q) ?_
  rw [show ((Memref.whole cc0_scratch3 : Memref sig .tc .vmem _ _).access (Rect.unit (s := S3x8x8x512) o S1x1x8x512.size h)).set = (Rect.unit (s := S3x8x8x512) o S1x1x8x512.size h).set from View.set_slice_whole _ _]
  exact (unit_set (n := 3) (k := 8) ho rfl h).le

theorem dl_ag {r : ℕ} {o : Fin 4 → ℕ} (ho : o = ![r, 0, 0, 0]) {h hl} {Q : Vec F S1x1x8x512 .bf16 → sProp 𝕄} :
    agE c r ⊢ iprop((∀ v, agE c r -∗ Q v)
      -∗ WP c (Prog.lift (.load (Memref.whole cc0_scratch4 : Memref sig .tc .vmem S2x1x8x512 .bf16)
          (Rect.unit (s := S2x1x8x512) o S1x1x8x512.size h).toLoadRect hl)) Q) := by
  unfold agE
  refine ld_any (F := F) c (Memref.whole cc0_scratch4 : Memref sig .tc .vmem S2x1x8x512 .bf16) (r := Rect.unit (s := S2x1x8x512) o S1x1x8x512.size h) (hl := hl)
    (S := box r 0 1) (Q := Q) ?_
  rw [show ((Memref.whole cc0_scratch4 : Memref sig .tc .vmem _ _).access (Rect.unit (s := S2x1x8x512) o S1x1x8x512.size h)).set = (Rect.unit (s := S2x1x8x512) o S1x1x8x512.size h).set from View.set_slice_whole _ _]
  exact (unit_set (n := 2) (k := 1) ho rfl h).le

theorem dl_ac {r : ℕ} {o : Fin 4 → ℕ} (ho : o = ![r, c.val, 0, 0]) {h hl} {Q : Vec F S1x1x8x512 .bf16 → sProp 𝕄} :
    acSlotE c r c.val ⊢ iprop((∀ v, acSlotE c r c.val -∗ Q v)
      -∗ WP c (Prog.lift (.load (Memref.whole cc0_scratch5 : Memref sig .tc .vmem S2x8x8x512 .bf16)
          (Rect.unit (s := S2x8x8x512) o S1x1x8x512.size h).toLoadRect hl)) Q) := by
  unfold acSlotE
  refine ld_any (F := F) c (Memref.whole cc0_scratch5 : Memref sig .tc .vmem S2x8x8x512 .bf16) (r := Rect.unit (s := S2x8x8x512) o S1x1x8x512.size h) (hl := hl)
    (S := box r c.val (c.val + 1)) (Q := Q) ?_
  rw [show ((Memref.whole cc0_scratch5 : Memref sig .tc .vmem _ _).access (Rect.unit (s := S2x8x8x512) o S1x1x8x512.size h)).set = (Rect.unit (s := S2x8x8x512) o S1x1x8x512.size h).set from View.set_slice_whole _ _]
  exact (unit_set (n := 2) (k := 8) ho rfl h).le

theorem dl_out {h hl} {Q : Vec F S8x512 .f32 → sProp 𝕄} :
    outE c ⊢ iprop((∀ v, outE c -∗ Q v)
      -∗ WP c (Prog.lift (.load (Memref.whole cc0_stg0_0 : Memref sig .tc .vmem S8x512 .f32)
          (Rect.unit (s := S8x512) ![0, 0] S8x512.size h).toLoadRect hl)) Q) := by
  unfold outE
  exact ld_any (F := F) c (Memref.whole cc0_stg0_0 : Memref sig .tc .vmem S8x512 .f32) (r := Rect.unit (s := S8x512) ![0, 0] S8x512.size h) (hl := hl)
    (S := Finset.univ) (Q := Q) (Finset.subset_univ _)

/-! The stores. -/

/-- A store of blocks of the partial product. -/
theorem st_sb {r lo w : ℕ} (hr : r < 3) (hw : lo + w ≤ 8) {o : Fin 4 → ℕ} (ho : o = ![r, lo, 0, 0]) {h hx hm}
    {v : (⟨4, ![1, w, 8, 512]⟩ : Shape).Idx → Elt F .bf16}
    (hv : ∀ y : (⟨4, ![1, w, 8, 512]⟩ : Shape).Idx, sv m r c (ix4 0 ⟨lo + (y 1).val, by have := (y 1).isLt; change _ < w at this; omega⟩ (y 2) (y 3)) = v y)
    {Q : PUnit → sProp 𝕄} :
    sbE c r lo (lo + w) ⊢ iprop((sbR m c r lo (lo + w) -∗ Q ⟨⟩)
      -∗ WP c (Prog.lift (.store (Memref.whole cc0_scratch2 : Memref sig .tc .vmem S3x8x8x512 .bf16)
          (Rect.unit (s := S3x8x8x512) o ![1, w, 8, 512] h) v Finset.univ hx hm)) Q) := by
  unfold sbE sbR
  refine st (F := F) c (Memref.whole cc0_scratch2 : Memref sig .tc .vmem S3x8x8x512 .bf16) (r := Rect.unit (s := S3x8x8x512) o ![1, w, 8, 512] h)
    (w := v) (hx := hx) (hm := hm) (S := box r lo (lo + w)) (g := sbB m c) (Q := Q) ?_ ?_
  · rw [show ((Memref.whole cc0_scratch2 : Memref sig .tc .vmem _ _).access (Rect.unit (s := S3x8x8x512) o ![1, w, 8, 512] h)).set = (Rect.unit (s := S3x8x8x512) o ![1, w, 8, 512] h).set from View.set_slice_whole _ _]
    exact unit_set (n := 3) (k := 8) ho rfl h
  · funext y
    show sbB m c ((Rect.unit (s := S3x8x8x512) o ![1, w, 8, 512] h).emb y) = _
    have h1 : (y 1).val < w := (y 1).isLt
    rw [emb4 (n := 3) (k := 8) ho h y (hr := hr) (hb := by omega)]
    exact hv y

/-- The store of the device's own block among those that it received. -/
theorem st_rs {r : ℕ} (hr : r < 3) {o : Fin 4 → ℕ} (ho : o = ![r, c.val, 0, 0]) {h hx hm} {v : Vec F S1x1x8x512 .bf16} (hv : sbOwn m c r = v)
    {Q : PUnit → sProp 𝕄} :
    rsSlotE c r c.val ⊢ iprop((rsSlot m c r c.val -∗ Q ⟨⟩)
      -∗ WP c (Prog.lift (.store (Memref.whole cc0_scratch3 : Memref sig .tc .vmem S3x8x8x512 .bf16)
          (Rect.unit (s := S3x8x8x512) o S1x1x8x512.size h) v Finset.univ hx hm)) Q) := by
  unfold rsSlotE rsSlot
  refine st (F := F) c (Memref.whole cc0_scratch3 : Memref sig .tc .vmem S3x8x8x512 .bf16) (r := Rect.unit (s := S3x8x8x512) o S1x1x8x512.size h)
    (w := v) (hx := hx) (hm := hm) (S := box r c.val (c.val + 1)) (g := rsB m c) (Q := Q) ?_ ?_
  · rw [show ((Memref.whole cc0_scratch3 : Memref sig .tc .vmem _ _).access (Rect.unit (s := S3x8x8x512) o S1x1x8x512.size h)).set = (Rect.unit (s := S3x8x8x512) o S1x1x8x512.size h).set from View.set_slice_whole _ _]
    exact unit_set (n := 3) (k := 8) ho rfl h
  · rw [← hv]
    funext y
    show rsB m c ((Rect.unit (s := S3x8x8x512) o S1x1x8x512.size h).emb y) = _
    rw [slot_idx (n := 3) (k := 8) h ho hr c.isLt]
    rfl

/-- The store of the device's reduced block. -/
theorem st_ag {r : ℕ} (hr : r < 2) {o : Fin 4 → ℕ} (ho : o = ![r, 0, 0, 0]) {h hx hm} {v : Vec F S1x1x8x512 .bf16} (hv : av m r c = v)
    {Q : PUnit → sProp 𝕄} :
    agE c r ⊢ iprop((agR m c r fullShare -∗ Q ⟨⟩)
      -∗ WP c (Prog.lift (.store (Memref.whole cc0_scratch4 : Memref sig .tc .vmem S2x1x8x512 .bf16)
          (Rect.unit (s := S2x1x8x512) o S1x1x8x512.size h) v Finset.univ hx hm)) Q) := by
  unfold agE agR
  refine st (F := F) c (Memref.whole cc0_scratch4 : Memref sig .tc .vmem S2x1x8x512 .bf16) (r := Rect.unit (s := S2x1x8x512) o S1x1x8x512.size h)
    (w := v) (hx := hx) (hm := hm) (S := box r 0 1) (g := agB m c) (Q := Q) ?_ ?_
  · rw [show ((Memref.whole cc0_scratch4 : Memref sig .tc .vmem _ _).access (Rect.unit (s := S2x1x8x512) o S1x1x8x512.size h)).set = (Rect.unit (s := S2x1x8x512) o S1x1x8x512.size h).set from View.set_slice_whole _ _]
    exact unit_set (n := 2) (k := 1) ho rfl h
  · rw [← hv]
    funext y
    show agB m c ((Rect.unit (s := S2x1x8x512) o S1x1x8x512.size h).emb y) = _
    rw [slot_idx (n := 2) (k := 1) h ho hr (by decide)]
    show av m r c (ix4 0 0 (y 2) (y 3)) = _
    congr 1
    funext a
    fin_cases a
    · exact Subsingleton.elim (α := Fin 1) _ _
    · exact Subsingleton.elim (α := Fin 1) _ _
    · rfl
    · rfl

/-- The store of the device's reduced block among the gathered ones. -/
theorem st_ac {r : ℕ} (hr : r < 2) {o : Fin 4 → ℕ} (ho : o = ![r, c.val, 0, 0]) {h hx hm} {v : Vec F S1x1x8x512 .bf16} (hv : av m r c = v)
    {Q : PUnit → sProp 𝕄} :
    acSlotE c r c.val ⊢ iprop((acSlot m c r c.val -∗ Q ⟨⟩)
      -∗ WP c (Prog.lift (.store (Memref.whole cc0_scratch5 : Memref sig .tc .vmem S2x8x8x512 .bf16)
          (Rect.unit (s := S2x8x8x512) o S1x1x8x512.size h) v Finset.univ hx hm)) Q) := by
  unfold acSlotE acSlot
  refine st (F := F) c (Memref.whole cc0_scratch5 : Memref sig .tc .vmem S2x8x8x512 .bf16) (r := Rect.unit (s := S2x8x8x512) o S1x1x8x512.size h)
    (w := v) (hx := hx) (hm := hm) (S := box r c.val (c.val + 1)) (g := acB m) (Q := Q) ?_ ?_
  · rw [show ((Memref.whole cc0_scratch5 : Memref sig .tc .vmem _ _).access (Rect.unit (s := S2x8x8x512) o S1x1x8x512.size h)).set = (Rect.unit (s := S2x8x8x512) o S1x1x8x512.size h).set from View.set_slice_whole _ _]
    exact unit_set (n := 2) (k := 8) ho rfl h
  · rw [← hv]
    funext y
    show acB m ((Rect.unit (s := S2x8x8x512) o S1x1x8x512.size h).emb y) = _
    rw [slot_idx (n := 2) (k := 8) h ho hr c.isLt]
    show av m r c (ix4 0 0 (y 2) (y 3)) = _
    congr 1
    funext a
    fin_cases a
    · exact Subsingleton.elim (α := Fin 1) _ _
    · exact Subsingleton.elim (α := Fin 1) _ _
    · rfl
    · rfl

/-- The store of the result. -/
theorem st_out {h hx hm} {Q : PUnit → sProp 𝕄} :
    outE c ⊢ iprop((outP m c -∗ Q ⟨⟩)
      -∗ WP c (Prog.lift (.store (Memref.whole cc0_stg0_0 : Memref sig .tc .vmem S8x512 .f32)
          (Rect.unit (s := S8x512) ![0, 0] S8x512.size h) (outV m c) Finset.univ hx hm)) Q) := by
  unfold outE outP
  refine st (F := F) c (Memref.whole cc0_stg0_0 : Memref sig .tc .vmem S8x512 .f32) (r := Rect.unit (s := S8x512) ![0, 0] S8x512.size h)
    (w := outV m c) (hx := hx) (hm := hm) (S := Finset.univ) (g := outV m c) (Q := Q) ?_ ?_
  · rw [show ((Memref.whole cc0_stg0_0 : Memref sig .tc .vmem _ _).access (Rect.unit (s := S8x512) ![0, 0] S8x512.size h)).set = (Rect.unit (s := S8x512) ![0, 0] S8x512.size h).set from View.set_slice_whole _ _]
    exact Finset.eq_univ_iff_forall.mpr fun i => Rect.mem_set_unit.mpr fun a => by fin_cases a <;> simp <;> exact (i _).isLt
  · exact Memref.read_access_unit_zero (Elt F) cc0_stg0_0 (by funext a; fin_cases a <;> rfl) h (outV m c)
end

end Cert.P
-- ==== Proof.Copies.lean ====
/-
The copies from the arguments and the waits for them.
-/
module

public import proofs.«01_k».proof.Proof.Data

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ)

/-- The right to one transfer on DMA semaphore `n`, the credit that the transfer gives, and the cell's position. -/
def tk (c : Dev nD) (n : ℕ) : sProp 𝕄 := dutyTok (ER (F := F)) (dcell c n) 0 0
def cr (c : Dev nD) (n : ℕ) : sProp 𝕄 := cred (tallyAt (dcell c n) () (amt n))
def ps (c : Dev nD) (n : ℕ) : sProp 𝕄 := atPos (ER (F := F)) (dcell c n) 0 ∅ 0
def sz (c : Dev nD) (n : ℕ) : sProp 𝕄 := semVal (dcell c n) 0
/-- A device's argument, at a share. -/
def aP (c : Dev nD) (b : Ref sig .tc) (q : PosShare TreeShare) : sProp 𝕄 := (c : Thread nD τ).loc b ↦{q} m ((c : Thread nD τ).loc b)
/-- The parts of the two arrays of weights and the input's array, at any contents. -/
def wvE (c : Dev nD) (r a b : ℕ) : sProp 𝕄 :=
  iprop(∃ f : Buf (Elt F) ((c : Thread nD τ).loc cc0_scratch0), (c : Thread nD τ).loc cc0_scratch0 ↦[box3 r 0 512 a b]{fullShare} f)
def ovE (c : Dev nD) (r a b : ℕ) : sProp 𝕄 :=
  iprop(∃ f : Buf (Elt F) ((c : Thread nD τ).loc cc0_scratch1), (c : Thread nD τ).loc cc0_scratch1 ↦[box3 r a b 0 512]{fullShare} f)
def xvE (c : Dev nD) : sProp 𝕄 := iprop(∃ f : Buf (Elt F) ((c : Thread nD τ).loc cc0_scratch6), (c : Thread nD τ).loc cc0_scratch6 ↦{fullShare} f)

/-! ## Amounts and payloads, by number -/

theorem locPay_3 (c : Dev nD) : locPay m c 3 = wvP m c 1 0 1024 := by unfold locPay; rw [if_pos rfl]
theorem amt_3 : amt 3 = RefSig.tileCredit S512x1024 .f32 := by unfold amt locN; rw [if_pos (by decide), if_neg (by decide), if_neg (by decide), if_pos (by decide)]
theorem locPay_4 (c : Dev nD) : locPay m c 4 = ovP m c 1 0 1024 := by unfold locPay; rw [if_neg (by decide), if_pos rfl]
theorem amt_4 : amt 4 = RefSig.tileCredit S1024x512 .f32 := by unfold amt locN; rw [if_pos (by decide), if_neg (by decide), if_neg (by decide), if_neg (by decide)]
theorem locPay_5 (c : Dev nD) : locPay m c 5 = wvP m c 2 0 1024 := by unfold locPay; rw [if_neg (by decide), if_neg (by decide), if_pos rfl]
theorem amt_5 : amt 5 = RefSig.tileCredit S512x1024 .f32 := by unfold amt locN; rw [if_pos (by decide), if_neg (by decide), if_neg (by decide), if_pos (by decide)]
theorem locPay_6 (c : Dev nD) : locPay m c 6 = ovP m c 2 0 1024 := by unfold locPay; rw [if_neg (by decide), if_neg (by decide), if_neg (by decide), if_pos rfl]
theorem amt_6 : amt 6 = RefSig.tileCredit S1024x512 .f32 := by unfold amt locN; rw [if_pos (by decide), if_neg (by decide), if_neg (by decide), if_neg (by decide)]
theorem locPay_7 (c : Dev nD) : locPay m c 7 = wvP m c 0 0 512 := by unfold locPay; rw [if_neg (by decide), if_neg (by decide), if_neg (by decide), if_neg (by decide), if_pos rfl]
theorem amt_7 : amt 7 = RefSig.tileCredit S512x512 .f32 := by unfold amt locN; rw [if_pos (by decide), if_neg (by decide), if_pos (by decide)]
theorem locPay_8 (c : Dev nD) : locPay m c 8 = ovP m c 0 0 512 := by unfold locPay; rw [if_neg (by decide), if_neg (by decide), if_neg (by decide), if_neg (by decide), if_neg (by decide), if_pos rfl]
theorem amt_8 : amt 8 = RefSig.tileCredit S512x512 .f32 := by unfold amt locN; rw [if_pos (by decide), if_neg (by decide), if_pos (by decide)]
theorem locPay_9 (c : Dev nD) : locPay m c 9 = wvP m c 0 512 1024 := by unfold locPay; rw [if_neg (by decide), if_neg (by decide), if_neg (by decide), if_neg (by decide), if_neg (by decide), if_neg (by decide), if_pos rfl]
theorem amt_9 : amt 9 = RefSig.tileCredit S512x512 .f32 := by unfold amt locN; rw [if_pos (by decide), if_neg (by decide), if_pos (by decide)]
theorem locPay_10 (c : Dev nD) : locPay m c 10 = ovP m c 0 512 1024 := by unfold locPay; rw [if_neg (by decide), if_neg (by decide), if_neg (by decide), if_neg (by decide), if_neg (by decide), if_neg (by decide), if_neg (by decide), if_pos rfl]
theorem amt_10 : amt 10 = RefSig.tileCredit S512x512 .f32 := by unfold amt locN; rw [if_pos (by decide), if_neg (by decide), if_pos (by decide)]
theorem locPay_11 (c : Dev nD) : locPay m c 11 = xvP m c := by unfold locPay; rw [if_neg (by decide), if_neg (by decide), if_neg (by decide), if_neg (by decide), if_neg (by decide), if_neg (by decide), if_neg (by decide), if_neg (by decide)]
theorem amt_11 : amt 11 = RefSig.tileCredit S64x512 .f32 := by unfold amt locN; rw [if_pos (by decide), if_pos rfl]

theorem lcopy (c : Dev nD) {n k : ℕ} (h3 : 3 ≤ n) (h12 : n < 12)
    {sp sp' : Space} {s : Shape} {e : EltTy} {sem : DmaSem sig} (hs : sem = dq n)
    (src : Memref sig .tc sp s e) (dst : Memref sig .tc sp' s e) {hsrc : src.view.WordExact} {hdst : dst.view.WordExact}
    {hsem : DmaTarget.Typed (nD := nD) (τ := τ) (p := .tc) sp (.dma sem) (.here dst)}
    (hN : dst.view.dmaCredit = amt n) {q : PosShare TreeShare} {fs : Buf (Elt F) (src.view.loc (c : Thread nD τ))}
    {D : Finset (Idx (dst.view.loc (c : Thread nD τ)))} (hD : dst.view.set = D) {g : Buf (Elt F) (dst.view.loc (c : Thread nD τ))}
    (hg : dst.view.read (Elt F) g = src.view.read (Elt F) fs)
    (hp : iprop(dst.view.loc (c : Thread nD τ) ↦[D]{fullShare} g) ⊢ locPay m c n) {Q : PUnit → sProp 𝕄} :
    iprop(bas m K c k ∗ (src.view.loc (c : Thread nD τ) ↦{q} fs)
        ∗ (∃ f : Buf (Elt F) (dst.view.loc (c : Thread nD τ)), dst.view.loc (c : Thread nD τ) ↦[D]{fullShare} f) ∗ tk c n)
      ⊢ iprop((iprop(bas m K c k ∗ cr c n) -∗ Q ⟨⟩)
          -∗ WP c (Prog.lift (.enqueueDma src (.here dst) (.dma sem) hsrc hdst hsem)) Q) := by
  subst hD
  unfold bas tk cr
  iintro ⟨⟨#HR, HO⟩, Hs, ⟨%f, Hd⟩, Ht⟩ Hk
  ihave Hs := (pointsTo_split_subset (ℓ := src.view.loc (c : Thread nD τ)) (q := q) (f := fs) (Val := Elt F) (Finset.subset_univ src.view.set)).1 $$ Hs
  icases Hs with ⟨Hs, -⟩
  iapply (copy_here m K c (n := n) (by omega) (by omega) (Or.inl ⟨h3, h12⟩) hs hN (q := q) (fs := fs) (fd := f)
    (by rw [pointsTo_congr (written_eq dst.view g f hg)]; unfold pay; rw [if_pos h12]; exact hp)) $$ [Hs Hd Ht]
  · isplitr; · iexact HR
    isplitl [Hs]; · iexact Hs
    isplitl [Hd]; · iexact Hd
    iexact Ht
  iintro Hc
  iapply Hk
  isplitl [HO]
  · isplitr; · iexact HR
    iexact HO
  iexact Hc

/-- The wait for a copy from the arguments. -/
theorem lwait (c : Dev nD) {n k : ℕ} (h3 : 3 ≤ n) (h12 : n < 12)
    {sp sp' : Space} {s s' : Shape} {e e' : EltTy} {sem : DmaSem sig} (hs : sem = dq n)
    {src : Memref sig .tc sp' s' e'} {dst : Memref sig .tc sp s e} {hsrc : src.view.WordExact} {hdst : dst.view.WordExact}
    (hN : dst.view.dmaCredit = amt n) {Q : PUnit → sProp 𝕄} :
    iprop(bas m K c k ∗ cr c n ∗ ps c n)
      ⊢ iprop((iprop(bas m K c k ∗ locPay m c n ∗ sz c n) -∗ Q ⟨⟩)
          -∗ WP c (Prog.lift (.waitDma2 sem src dst hsrc hdst)) Q) := by
  unfold bas cr ps sz
  iintro ⟨⟨#HR, HO⟩, HP⟩ Hk
  iapply (wait_dma m K c (n := n) (k := k) (by omega) (by omega) (Or.inl ⟨h3, h12⟩)
    (by unfold lvN; split_ifs <;> omega) hs hN) $$ [HP HO]
  · isplitr; · iexact HR
    isplitl [HP]; · iexact HP
    iexact HO
  iintro ⟨⟨HP, HZ⟩, HO⟩
  iapply Hk
  isplitl [HO]
  · isplitr; · iexact HR
    iexact HO
  isplitl [HP]
  · have e : pay m c n = locPay m c n := by unfold pay; rw [if_pos h12]
    rw [← e]
    iexact HP
  iexact HZ

/-! ## The semaphores -/

theorem sem9 : SemArray.sem cc0_scratch9 = dq 11 := by decide
theorem sem8 {i : ℕ} (hi : i < 4) {p : Fin 1 → ℕ} (hp : p = ![i]) {h} :
    ((cc0_scratch8.slice (Rect.unit (s := S4) p S1.size h)).squeeze S_ squeezes_S1_S_).sem = dq (7 + i) := by
  subst hp
  show cc0_scratch8.ix ((Rect.unit (s := S4) ![i] S1.size h).emb (Shape.reshapeEquiv (squeezes_S1_S_).numel_eq fun i => i.elim0)) = _
  generalize (Shape.reshapeEquiv (squeezes_S1_S_).numel_eq fun i => i.elim0) = y
  have h0 : (y 0).val = 0 := by have := (y 0).isLt; change _ < 1 at this; omega
  have e : (Rect.unit (s := S4) ![i] S1.size h).emb y = ix1 ⟨i, hi⟩ := by
    funext a
    apply Fin.ext
    have e : ((Rect.unit (s := S4) ![i] S1.size h).emb y a).val = (![i] : Fin 1 → ℕ) a + 1 * (y a).val := rfl
    rw [e]
    fin_cases a; simp [h0]
  rw [e]
  exact (by decide : ∀ i : Fin 4, cc0_scratch8.ix (ix1 i) = dq (7 + i.val)) ⟨i, hi⟩
theorem sem7 {r s : ℕ} (hr : r < 3) (hs : s < 2) {p : Fin 2 → ℕ} (hp : p = ![r, s]) {h} :
    ((cc0_scratch7.slice (Rect.unit (s := S3x2) p S1x1.size h)).squeeze S_ squeezes_S1x1_S_).sem = dq (1 + 2 * r + s) := by
  subst hp
  show cc0_scratch7.ix ((Rect.unit (s := S3x2) ![r, s] S1x1.size h).emb (Shape.reshapeEquiv (squeezes_S1x1_S_).numel_eq fun i => i.elim0)) = _
  generalize (Shape.reshapeEquiv (squeezes_S1x1_S_).numel_eq fun i => i.elim0) = y
  have h0 : (y 0).val = 0 := by have := (y 0).isLt; change _ < 1 at this; omega
  have h1 : (y 1).val = 0 := by have := (y 1).isLt; change _ < 1 at this; omega
  have e : (Rect.unit (s := S3x2) ![r, s] S1x1.size h).emb y = ix2 ⟨r, hr⟩ ⟨s, hs⟩ := by
    funext a
    apply Fin.ext
    have e : ((Rect.unit (s := S3x2) ![r, s] S1x1.size h).emb y a).val = (![r, s] : Fin 2 → ℕ) a + 1 * (y a).val := rfl
    rw [e]
    fin_cases a <;> simp [h0, h1]
  rw [e]
  exact (by decide : ∀ (r : Fin 3) (s : Fin 2), cc0_scratch7.ix (ix2 r s) = dq (1 + 2 * r.val + s.val)) ⟨r, hr⟩ ⟨s, hs⟩

/-! ## The nine copies -/

abbrev wvM (p : Fin 3 → ℕ) (h : ∀ a, p a + S1x512x512.size a ≤ S3x512x1024.size a) : Memref sig .tc .vmem S512x512 .f32 :=
  ((Memref.whole cc0_scratch0 : Memref sig .tc .vmem S3x512x1024 .f32).slice (Rect.unit (s := S3x512x1024) p S1x512x512.size h) (fun _ => rfl)).squeeze
    S512x512 squeezes_S1x512x512_S512x512
abbrev ovM (p : Fin 3 → ℕ) (h : ∀ a, p a + S1x512x512.size a ≤ S3x1024x512.size a) : Memref sig .tc .vmem S512x512 .f32 :=
  ((Memref.whole cc0_scratch1 : Memref sig .tc .vmem S3x1024x512 .f32).slice (Rect.unit (s := S3x1024x512) p S1x512x512.size h) (fun _ => rfl)).squeeze
    S512x512 squeezes_S1x512x512_S512x512
abbrev wvRowM (p : Fin 3 → ℕ) (h : ∀ a, p a + S1x512x1024.size a ≤ S3x512x1024.size a) : Memref sig .tc .vmem S512x1024 .f32 :=
  ((Memref.whole cc0_scratch0 : Memref sig .tc .vmem S3x512x1024 .f32).slice (Rect.unit (s := S3x512x1024) p S1x512x1024.size h) (fun _ => rfl)).squeeze
    S512x1024 squeezes_S1x512x1024_S512x1024
abbrev ovRowM (p : Fin 3 → ℕ) (h : ∀ a, p a + S1x1024x512.size a ≤ S3x1024x512.size a) : Memref sig .tc .vmem S1024x512 .f32 :=
  ((Memref.whole cc0_scratch1 : Memref sig .tc .vmem S3x1024x512 .f32).slice (Rect.unit (s := S3x1024x512) p S1x1024x512.size h) (fun _ => rfl)).squeeze
    S1024x512 squeezes_S1x1024x512_S1024x512

/-- The index of a row's rectangle, one axis dropped, in the whole array. -/
theorem emb_sq {n k l r p q a b : ℕ} {o : Fin 3 → ℕ} (ho : o = ![r, p, q])
    (h : ∀ x, o x + (![1, a, b] : Fin 3 → ℕ) x ≤ (⟨3, ![n, k, l]⟩ : Shape).size x)
    (hq : (⟨2, ![a, b]⟩ : Shape).numel = (⟨3, ![1, a, b]⟩ : Shape).numel) (x : Fin a) (y : Fin b)
    {hr : r < n} {hp : p + x.val < k} {hq' : q + y.val < l} :
    (Rect.unit (s := ⟨3, ![n, k, l]⟩) o ![1, a, b] h).emb (Shape.reshapeEquiv hq (ix2 x y)) = ix3 ⟨r, hr⟩ ⟨p + x.val, hp⟩ ⟨q + y.val, hq'⟩ := by
  have e : Shape.reshapeEquiv hq (ix2 x y) = ix3 (0 : Fin 1) x y := Shape.reshapeEquiv_eq_of_rowMajor hq (by
    rw [Shape.rowMajor_val_three, Shape.rowMajor_val_two]
    show (0 * a + x.val) * b + y.val = x.val * b + y.val
    simp only [Nat.zero_mul, Nat.zero_add])
  rw [e, emb3 ho h (ix3 0 x y) (hr := hr) (hp := hp) (hq := hq')]
  rfl

theorem lc_x (c : Dev nD) {k : ℕ} {q : PosShare TreeShare} {hsrc hdst hsem} {Q : PUnit → sProp 𝕄} :
    iprop(bas m K c k ∗ aP m c main_arg0 q ∗ xvE c ∗ tk c 11) ⊢ iprop((iprop(bas m K c k ∗ cr c 11) -∗ Q ⟨⟩)
      -∗ WP c (Prog.lift (.enqueueDma (Memref.whole main_arg0 : Memref sig .tc .hbm S64x512 .f32) (.here (Memref.whole cc0_scratch6 : Memref sig .tc .vmem S64x512 .f32))
          (.dma (SemArray.sem cc0_scratch9)) hsrc hdst hsem)) Q) := by
  unfold aP xvE
  exact lcopy m K c (n := 11) (by decide) (by decide) sem9 (Memref.whole main_arg0 : Memref sig .tc .hbm S64x512 .f32)
    (Memref.whole cc0_scratch6 : Memref sig .tc .vmem S64x512 .f32) amt_11.symm (q := q) (fs := m ((c : Thread nD τ).loc main_arg0))
    (D := Finset.univ) (View.set_whole _) (g := xB m c) rfl (by rw [locPay_11]; unfold xvP; exact BI.Entails.refl _)

theorem lc_7 (c : Dev nD) {k : ℕ} {q : PosShare TreeShare} {h h' h'' hsrc hdst hsem} {Q : PUnit → sProp 𝕄} :
    iprop(bas m K c k ∗ aP m c main_arg1 q ∗ wvE c 0 0 512 ∗ tk c 7) ⊢ iprop((iprop(bas m K c k ∗ cr c 7) -∗ Q ⟨⟩)
      -∗ WP c (Prog.lift (.enqueueDma ((Memref.whole main_arg1 : Memref sig .tc .hbm S512x1024 .f32).slice (Rect.unit (s := S512x1024) ![0, 0] S512x512.size h) (fun _ => rfl))
          (.here (wvM ![0, 0, 0] h'))
          (.dma ((cc0_scratch8.slice (Rect.unit (s := S4) ![0] S1.size h'')).squeeze S_ squeezes_S1_S_).sem) hsrc hdst hsem)) Q) := by
  unfold aP wvE
  refine lcopy m K c (n := 7) (by decide) (by decide) (sem8 (i := 0) (by decide) rfl)
    ((Memref.whole main_arg1 : Memref sig .tc .hbm S512x1024 .f32).slice (Rect.unit (s := S512x1024) ![0, 0] S512x512.size h) (fun _ => rfl))
    (wvM ![0, 0, 0] h') amt_7.symm (q := q) (fs := m ((c : Thread nD τ).loc main_arg1)) (D := box3 0 0 512 0 512) ?_ (g := wvB m c) ?_ (by rw [locPay_7]; unfold wvP; exact BI.Entails.refl _)
  · show (((View.whole cc0_scratch0).slice (Rect.unit (s := S3x512x1024) ![0, 0, 0] S1x512x512.size h')).reshape S512x512 _).set = _
    rw [View.set_reshape, View.set_slice_whole]; exact unit_set3 (n := 3) (k := 512) (l := 1024) rfl rfl h'
  · funext x
    obtain ⟨x0, x1, rfl⟩ : ∃ (x0 : Fin 512) (x1 : Fin 512), x = ix2 x0 x1 := ⟨x 0, x 1, eq_ix2 x⟩
    have e₁ : (wvM ![0, 0, 0] h').view.read (Elt F) (wvB m c) (ix2 x0 x1)
      = wvB m c ((Rect.unit (s := S3x512x1024) ![0, 0, 0] S1x512x512.size h').emb (Shape.reshapeEquiv (squeezes_S1x512x512_S512x512).numel_eq (ix2 x0 x1))) := rfl
    have e₂ : (((Memref.whole main_arg1 : Memref sig .tc .hbm S512x1024 .f32).slice (Rect.unit (s := S512x1024) ![0, 0] S512x512.size h) (fun _ => rfl)).view).read (Elt F)
        (m ((c : Thread nD τ).loc main_arg1)) (ix2 x0 x1) = (m ((c : Thread nD τ).loc main_arg1) : Vec F S512x1024 .f32) ((Rect.unit (s := S512x1024) ![0, 0] S512x512.size h).emb (ix2 x0 x1)) := rfl
    have h0 : x0.val < 512 := x0.isLt
    have h1 : x1.val < 512 := x1.isLt
    rw [e₁, e₂, emb2 (k := 512) (l := 1024) (a := 512) (b := 512) rfl h (ix2 x0 x1) (hp := by show _ + x0.val < _; omega) (hq := by show _ + x1.val < _; omega),
      emb_sq (n := 3) (k := 512) (l := 1024) (a := 512) (b := 512) rfl h' _ x0 x1 (hr := by decide) (hp := by omega) (hq' := by omega)]
    rfl

theorem lc_8 (c : Dev nD) {k : ℕ} {q : PosShare TreeShare} {h h' h'' hsrc hdst hsem} {Q : PUnit → sProp 𝕄} :
    iprop(bas m K c k ∗ aP m c main_arg4 q ∗ ovE c 0 0 512 ∗ tk c 8) ⊢ iprop((iprop(bas m K c k ∗ cr c 8) -∗ Q ⟨⟩)
      -∗ WP c (Prog.lift (.enqueueDma ((Memref.whole main_arg4 : Memref sig .tc .hbm S1024x512 .f32).slice (Rect.unit (s := S1024x512) ![0, 0] S512x512.size h) (fun _ => rfl))
          (.here (ovM ![0, 0, 0] h'))
          (.dma ((cc0_scratch8.slice (Rect.unit (s := S4) ![1] S1.size h'')).squeeze S_ squeezes_S1_S_).sem) hsrc hdst hsem)) Q) := by
  unfold aP ovE
  refine lcopy m K c (n := 8) (by decide) (by decide) (sem8 (i := 1) (by decide) rfl)
    ((Memref.whole main_arg4 : Memref sig .tc .hbm S1024x512 .f32).slice (Rect.unit (s := S1024x512) ![0, 0] S512x512.size h) (fun _ => rfl))
    (ovM ![0, 0, 0] h') amt_8.symm (q := q) (fs := m ((c : Thread nD τ).loc main_arg4)) (D := box3 0 0 512 0 512) ?_ (g := ovB m c) ?_ (by rw [locPay_8]; unfold ovP; exact BI.Entails.refl _)
  · show (((View.whole cc0_scratch1).slice (Rect.unit (s := S3x1024x512) ![0, 0, 0] S1x512x512.size h')).reshape S512x512 _).set = _
    rw [View.set_reshape, View.set_slice_whole]; exact unit_set3 (n := 3) (k := 1024) (l := 512) rfl rfl h'
  · funext x
    obtain ⟨x0, x1, rfl⟩ : ∃ (x0 : Fin 512) (x1 : Fin 512), x = ix2 x0 x1 := ⟨x 0, x 1, eq_ix2 x⟩
    have e₁ : (ovM ![0, 0, 0] h').view.read (Elt F) (ovB m c) (ix2 x0 x1)
      = ovB m c ((Rect.unit (s := S3x1024x512) ![0, 0, 0] S1x512x512.size h').emb (Shape.reshapeEquiv (squeezes_S1x512x512_S512x512).numel_eq (ix2 x0 x1))) := rfl
    have e₂ : (((Memref.whole main_arg4 : Memref sig .tc .hbm S1024x512 .f32).slice (Rect.unit (s := S1024x512) ![0, 0] S512x512.size h) (fun _ => rfl)).view).read (Elt F)
        (m ((c : Thread nD τ).loc main_arg4)) (ix2 x0 x1) = (m ((c : Thread nD τ).loc main_arg4) : Vec F S1024x512 .f32) ((Rect.unit (s := S1024x512) ![0, 0] S512x512.size h).emb (ix2 x0 x1)) := rfl
    have h0 : x0.val < 512 := x0.isLt
    have h1 : x1.val < 512 := x1.isLt
    rw [e₁, e₂, emb2 (k := 1024) (l := 512) (a := 512) (b := 512) rfl h (ix2 x0 x1) (hp := by show _ + x0.val < _; omega) (hq := by show _ + x1.val < _; omega),
      emb_sq (n := 3) (k := 1024) (l := 512) (a := 512) (b := 512) rfl h' _ x0 x1 (hr := by decide) (hp := by omega) (hq' := by omega)]
    rfl

theorem lc_9 (c : Dev nD) {k : ℕ} {q : PosShare TreeShare} {h h' h'' hsrc hdst hsem} {Q : PUnit → sProp 𝕄} :
    iprop(bas m K c k ∗ aP m c main_arg1 q ∗ wvE c 0 512 1024 ∗ tk c 9) ⊢ iprop((iprop(bas m K c k ∗ cr c 9) -∗ Q ⟨⟩)
      -∗ WP c (Prog.lift (.enqueueDma ((Memref.whole main_arg1 : Memref sig .tc .hbm S512x1024 .f32).slice (Rect.unit (s := S512x1024) ![0, 512] S512x512.size h) (fun _ => rfl))
          (.here (wvM ![0, 0, 512] h'))
          (.dma ((cc0_scratch8.slice (Rect.unit (s := S4) ![2] S1.size h'')).squeeze S_ squeezes_S1_S_).sem) hsrc hdst hsem)) Q) := by
  unfold aP wvE
  refine lcopy m K c (n := 9) (by decide) (by decide) (sem8 (i := 2) (by decide) rfl)
    ((Memref.whole main_arg1 : Memref sig .tc .hbm S512x1024 .f32).slice (Rect.unit (s := S512x1024) ![0, 512] S512x512.size h) (fun _ => rfl))
    (wvM ![0, 0, 512] h') amt_9.symm (q := q) (fs := m ((c : Thread nD τ).loc main_arg1)) (D := box3 0 0 512 512 1024) ?_ (g := wvB m c) ?_ (by rw [locPay_9]; unfold wvP; exact BI.Entails.refl _)
  · show (((View.whole cc0_scratch0).slice (Rect.unit (s := S3x512x1024) ![0, 0, 512] S1x512x512.size h')).reshape S512x512 _).set = _
    rw [View.set_reshape, View.set_slice_whole]; exact unit_set3 (n := 3) (k := 512) (l := 1024) rfl rfl h'
  · funext x
    obtain ⟨x0, x1, rfl⟩ : ∃ (x0 : Fin 512) (x1 : Fin 512), x = ix2 x0 x1 := ⟨x 0, x 1, eq_ix2 x⟩
    have e₁ : (wvM ![0, 0, 512] h').view.read (Elt F) (wvB m c) (ix2 x0 x1)
      = wvB m c ((Rect.unit (s := S3x512x1024) ![0, 0, 512] S1x512x512.size h').emb (Shape.reshapeEquiv (squeezes_S1x512x512_S512x512).numel_eq (ix2 x0 x1))) := rfl
    have e₂ : (((Memref.whole main_arg1 : Memref sig .tc .hbm S512x1024 .f32).slice (Rect.unit (s := S512x1024) ![0, 512] S512x512.size h) (fun _ => rfl)).view).read (Elt F)
        (m ((c : Thread nD τ).loc main_arg1)) (ix2 x0 x1) = (m ((c : Thread nD τ).loc main_arg1) : Vec F S512x1024 .f32) ((Rect.unit (s := S512x1024) ![0, 512] S512x512.size h).emb (ix2 x0 x1)) := rfl
    have h0 : x0.val < 512 := x0.isLt
    have h1 : x1.val < 512 := x1.isLt
    rw [e₁, e₂, emb2 (k := 512) (l := 1024) (a := 512) (b := 512) rfl h (ix2 x0 x1) (hp := by show _ + x0.val < _; omega) (hq := by show _ + x1.val < _; omega),
      emb_sq (n := 3) (k := 512) (l := 1024) (a := 512) (b := 512) rfl h' _ x0 x1 (hr := by decide) (hp := by omega) (hq' := by omega)]
    rfl

theorem lc_10 (c : Dev nD) {k : ℕ} {q : PosShare TreeShare} {h h' h'' hsrc hdst hsem} {Q : PUnit → sProp 𝕄} :
    iprop(bas m K c k ∗ aP m c main_arg4 q ∗ ovE c 0 512 1024 ∗ tk c 10) ⊢ iprop((iprop(bas m K c k ∗ cr c 10) -∗ Q ⟨⟩)
      -∗ WP c (Prog.lift (.enqueueDma ((Memref.whole main_arg4 : Memref sig .tc .hbm S1024x512 .f32).slice (Rect.unit (s := S1024x512) ![512, 0] S512x512.size h) (fun _ => rfl))
          (.here (ovM ![0, 512, 0] h'))
          (.dma ((cc0_scratch8.slice (Rect.unit (s := S4) ![3] S1.size h'')).squeeze S_ squeezes_S1_S_).sem) hsrc hdst hsem)) Q) := by
  unfold aP ovE
  refine lcopy m K c (n := 10) (by decide) (by decide) (sem8 (i := 3) (by decide) rfl)
    ((Memref.whole main_arg4 : Memref sig .tc .hbm S1024x512 .f32).slice (Rect.unit (s := S1024x512) ![512, 0] S512x512.size h) (fun _ => rfl))
    (ovM ![0, 512, 0] h') amt_10.symm (q := q) (fs := m ((c : Thread nD τ).loc main_arg4)) (D := box3 0 512 1024 0 512) ?_ (g := ovB m c) ?_ (by rw [locPay_10]; unfold ovP; exact BI.Entails.refl _)
  · show (((View.whole cc0_scratch1).slice (Rect.unit (s := S3x1024x512) ![0, 512, 0] S1x512x512.size h')).reshape S512x512 _).set = _
    rw [View.set_reshape, View.set_slice_whole]; exact unit_set3 (n := 3) (k := 1024) (l := 512) rfl rfl h'
  · funext x
    obtain ⟨x0, x1, rfl⟩ : ∃ (x0 : Fin 512) (x1 : Fin 512), x = ix2 x0 x1 := ⟨x 0, x 1, eq_ix2 x⟩
    have e₁ : (ovM ![0, 512, 0] h').view.read (Elt F) (ovB m c) (ix2 x0 x1)
      = ovB m c ((Rect.unit (s := S3x1024x512) ![0, 512, 0] S1x512x512.size h').emb (Shape.reshapeEquiv (squeezes_S1x512x512_S512x512).numel_eq (ix2 x0 x1))) := rfl
    have e₂ : (((Memref.whole main_arg4 : Memref sig .tc .hbm S1024x512 .f32).slice (Rect.unit (s := S1024x512) ![512, 0] S512x512.size h) (fun _ => rfl)).view).read (Elt F)
        (m ((c : Thread nD τ).loc main_arg4)) (ix2 x0 x1) = (m ((c : Thread nD τ).loc main_arg4) : Vec F S1024x512 .f32) ((Rect.unit (s := S1024x512) ![512, 0] S512x512.size h).emb (ix2 x0 x1)) := rfl
    have h0 : x0.val < 512 := x0.isLt
    have h1 : x1.val < 512 := x1.isLt
    rw [e₁, e₂, emb2 (k := 1024) (l := 512) (a := 512) (b := 512) rfl h (ix2 x0 x1) (hp := by show _ + x0.val < _; omega) (hq := by show _ + x1.val < _; omega),
      emb_sq (n := 3) (k := 1024) (l := 512) (a := 512) (b := 512) rfl h' _ x0 x1 (hr := by decide) (hp := by omega) (hq' := by omega)]
    rfl

theorem lc_3 (c : Dev nD) {k : ℕ} {q : PosShare TreeShare} {h' h'' hsrc hdst hsem} {Q : PUnit → sProp 𝕄} :
    iprop(bas m K c k ∗ aP m c main_arg2 q ∗ wvE c 1 0 1024 ∗ tk c 3) ⊢ iprop((iprop(bas m K c k ∗ cr c 3) -∗ Q ⟨⟩)
      -∗ WP c (Prog.lift (.enqueueDma (Memref.whole main_arg2 : Memref sig .tc .hbm S512x1024 .f32) (.here (wvRowM ![1, 0, 0] h'))
          (.dma ((cc0_scratch7.slice (Rect.unit (s := S3x2) ![1, 0] S1x1.size h'')).squeeze S_ squeezes_S1x1_S_).sem) hsrc hdst hsem)) Q) := by
  unfold aP wvE
  refine lcopy m K c (n := 3) (by decide) (by decide) (sem7 (r := 1) (s := 0) (by decide) (by decide) rfl)
    (Memref.whole main_arg2 : Memref sig .tc .hbm S512x1024 .f32)
    (wvRowM ![1, 0, 0] h') amt_3.symm (q := q) (fs := m ((c : Thread nD τ).loc main_arg2)) (D := box3 1 0 512 0 1024) ?_ (g := wvB m c) ?_ (by rw [locPay_3]; unfold wvP; exact BI.Entails.refl _)
  · show (((View.whole cc0_scratch0).slice (Rect.unit (s := S3x512x1024) ![1, 0, 0] S1x512x1024.size h')).reshape S512x1024 _).set = _
    rw [View.set_reshape, View.set_slice_whole]; exact unit_set3 (n := 3) (k := 512) (l := 1024) rfl rfl h'
  · funext x
    obtain ⟨x0, x1, rfl⟩ : ∃ (x0 : Fin 512) (x1 : Fin 1024), x = ix2 x0 x1 := ⟨x 0, x 1, eq_ix2 x⟩
    have e₁ : (wvRowM ![1, 0, 0] h').view.read (Elt F) (wvB m c) (ix2 x0 x1)
      = wvB m c ((Rect.unit (s := S3x512x1024) ![1, 0, 0] S1x512x1024.size h').emb (Shape.reshapeEquiv (squeezes_S1x512x1024_S512x1024).numel_eq (ix2 x0 x1))) := rfl
    have e₂ : (Memref.whole main_arg2 : Memref sig .tc .hbm S512x1024 .f32).view.read (Elt F)
        (m ((c : Thread nD τ).loc main_arg2)) (ix2 x0 x1) = (m ((c : Thread nD τ).loc main_arg2) : Vec F S512x1024 .f32) (ix2 x0 x1) := rfl
    have h0 : x0.val < 512 := x0.isLt
    have h1 : x1.val < 1024 := x1.isLt
    rw [e₁, e₂,
      emb_sq (n := 3) (k := 512) (l := 1024) (a := 512) (b := 1024) rfl h' _ x0 x1 (hr := by decide) (hp := by omega) (hq' := by omega)]
    show (m ((c : Thread nD τ).loc main_arg2) : Vec F S512x1024 .f32) (ix2 ⟨0 + x0.val, _⟩ ⟨0 + x1.val, _⟩) = _
    congr 1
    exact congrArg₂ (ix2 (n0 := 512) (n1 := 1024)) (Fin.ext (Nat.zero_add x0.val)) (Fin.ext (Nat.zero_add x1.val))

theorem lc_4 (c : Dev nD) {k : ℕ} {q : PosShare TreeShare} {h' h'' hsrc hdst hsem} {Q : PUnit → sProp 𝕄} :
    iprop(bas m K c k ∗ aP m c main_arg5 q ∗ ovE c 1 0 1024 ∗ tk c 4) ⊢ iprop((iprop(bas m K c k ∗ cr c 4) -∗ Q ⟨⟩)
      -∗ WP c (Prog.lift (.enqueueDma (Memref.whole main_arg5 : Memref sig .tc .hbm S1024x512 .f32) (.here (ovRowM ![1, 0, 0] h'))
          (.dma ((cc0_scratch7.slice (Rect.unit (s := S3x2) ![1, 1] S1x1.size h'')).squeeze S_ squeezes_S1x1_S_).sem) hsrc hdst hsem)) Q) := by
  unfold aP ovE
  refine lcopy m K c (n := 4) (by decide) (by decide) (sem7 (r := 1) (s := 1) (by decide) (by decide) rfl)
    (Memref.whole main_arg5 : Memref sig .tc .hbm S1024x512 .f32)
    (ovRowM ![1, 0, 0] h') amt_4.symm (q := q) (fs := m ((c : Thread nD τ).loc main_arg5)) (D := box3 1 0 1024 0 512) ?_ (g := ovB m c) ?_ (by rw [locPay_4]; unfold ovP; exact BI.Entails.refl _)
  · show (((View.whole cc0_scratch1).slice (Rect.unit (s := S3x1024x512) ![1, 0, 0] S1x1024x512.size h')).reshape S1024x512 _).set = _
    rw [View.set_reshape, View.set_slice_whole]; exact unit_set3 (n := 3) (k := 1024) (l := 512) rfl rfl h'
  · funext x
    obtain ⟨x0, x1, rfl⟩ : ∃ (x0 : Fin 1024) (x1 : Fin 512), x = ix2 x0 x1 := ⟨x 0, x 1, eq_ix2 x⟩
    have e₁ : (ovRowM ![1, 0, 0] h').view.read (Elt F) (ovB m c) (ix2 x0 x1)
      = ovB m c ((Rect.unit (s := S3x1024x512) ![1, 0, 0] S1x1024x512.size h').emb (Shape.reshapeEquiv (squeezes_S1x1024x512_S1024x512).numel_eq (ix2 x0 x1))) := rfl
    have e₂ : (Memref.whole main_arg5 : Memref sig .tc .hbm S1024x512 .f32).view.read (Elt F)
        (m ((c : Thread nD τ).loc main_arg5)) (ix2 x0 x1) = (m ((c : Thread nD τ).loc main_arg5) : Vec F S1024x512 .f32) (ix2 x0 x1) := rfl
    have h0 : x0.val < 1024 := x0.isLt
    have h1 : x1.val < 512 := x1.isLt
    rw [e₁, e₂,
      emb_sq (n := 3) (k := 1024) (l := 512) (a := 1024) (b := 512) rfl h' _ x0 x1 (hr := by decide) (hp := by omega) (hq' := by omega)]
    show (m ((c : Thread nD τ).loc main_arg5) : Vec F S1024x512 .f32) (ix2 ⟨0 + x0.val, _⟩ ⟨0 + x1.val, _⟩) = _
    congr 1
    exact congrArg₂ (ix2 (n0 := 1024) (n1 := 512)) (Fin.ext (Nat.zero_add x0.val)) (Fin.ext (Nat.zero_add x1.val))

theorem lc_5 (c : Dev nD) {k : ℕ} {q : PosShare TreeShare} {h' h'' hsrc hdst hsem} {Q : PUnit → sProp 𝕄} :
    iprop(bas m K c k ∗ aP m c main_arg3 q ∗ wvE c 2 0 1024 ∗ tk c 5) ⊢ iprop((iprop(bas m K c k ∗ cr c 5) -∗ Q ⟨⟩)
      -∗ WP c (Prog.lift (.enqueueDma (Memref.whole main_arg3 : Memref sig .tc .hbm S512x1024 .f32) (.here (wvRowM ![2, 0, 0] h'))
          (.dma ((cc0_scratch7.slice (Rect.unit (s := S3x2) ![2, 0] S1x1.size h'')).squeeze S_ squeezes_S1x1_S_).sem) hsrc hdst hsem)) Q) := by
  unfold aP wvE
  refine lcopy m K c (n := 5) (by decide) (by decide) (sem7 (r := 2) (s := 0) (by decide) (by decide) rfl)
    (Memref.whole main_arg3 : Memref sig .tc .hbm S512x1024 .f32)
    (wvRowM ![2, 0, 0] h') amt_5.symm (q := q) (fs := m ((c : Thread nD τ).loc main_arg3)) (D := box3 2 0 512 0 1024) ?_ (g := wvB m c) ?_ (by rw [locPay_5]; unfold wvP; exact BI.Entails.refl _)
  · show (((View.whole cc0_scratch0).slice (Rect.unit (s := S3x512x1024) ![2, 0, 0] S1x512x1024.size h')).reshape S512x1024 _).set = _
    rw [View.set_reshape, View.set_slice_whole]; exact unit_set3 (n := 3) (k := 512) (l := 1024) rfl rfl h'
  · funext x
    obtain ⟨x0, x1, rfl⟩ : ∃ (x0 : Fin 512) (x1 : Fin 1024), x = ix2 x0 x1 := ⟨x 0, x 1, eq_ix2 x⟩
    have e₁ : (wvRowM ![2, 0, 0] h').view.read (Elt F) (wvB m c) (ix2 x0 x1)
      = wvB m c ((Rect.unit (s := S3x512x1024) ![2, 0, 0] S1x512x1024.size h').emb (Shape.reshapeEquiv (squeezes_S1x512x1024_S512x1024).numel_eq (ix2 x0 x1))) := rfl
    have e₂ : (Memref.whole main_arg3 : Memref sig .tc .hbm S512x1024 .f32).view.read (Elt F)
        (m ((c : Thread nD τ).loc main_arg3)) (ix2 x0 x1) = (m ((c : Thread nD τ).loc main_arg3) : Vec F S512x1024 .f32) (ix2 x0 x1) := rfl
    have h0 : x0.val < 512 := x0.isLt
    have h1 : x1.val < 1024 := x1.isLt
    rw [e₁, e₂,
      emb_sq (n := 3) (k := 512) (l := 1024) (a := 512) (b := 1024) rfl h' _ x0 x1 (hr := by decide) (hp := by omega) (hq' := by omega)]
    show (m ((c : Thread nD τ).loc main_arg3) : Vec F S512x1024 .f32) (ix2 ⟨0 + x0.val, _⟩ ⟨0 + x1.val, _⟩) = _
    congr 1
    exact congrArg₂ (ix2 (n0 := 512) (n1 := 1024)) (Fin.ext (Nat.zero_add x0.val)) (Fin.ext (Nat.zero_add x1.val))

theorem lc_6 (c : Dev nD) {k : ℕ} {q : PosShare TreeShare} {h' h'' hsrc hdst hsem} {Q : PUnit → sProp 𝕄} :
    iprop(bas m K c k ∗ aP m c main_arg6 q ∗ ovE c 2 0 1024 ∗ tk c 6) ⊢ iprop((iprop(bas m K c k ∗ cr c 6) -∗ Q ⟨⟩)
      -∗ WP c (Prog.lift (.enqueueDma (Memref.whole main_arg6 : Memref sig .tc .hbm S1024x512 .f32) (.here (ovRowM ![2, 0, 0] h'))
          (.dma ((cc0_scratch7.slice (Rect.unit (s := S3x2) ![2, 1] S1x1.size h'')).squeeze S_ squeezes_S1x1_S_).sem) hsrc hdst hsem)) Q) := by
  unfold aP ovE
  refine lcopy m K c (n := 6) (by decide) (by decide) (sem7 (r := 2) (s := 1) (by decide) (by decide) rfl)
    (Memref.whole main_arg6 : Memref sig .tc .hbm S1024x512 .f32)
    (ovRowM ![2, 0, 0] h') amt_6.symm (q := q) (fs := m ((c : Thread nD τ).loc main_arg6)) (D := box3 2 0 1024 0 512) ?_ (g := ovB m c) ?_ (by rw [locPay_6]; unfold ovP; exact BI.Entails.refl _)
  · show (((View.whole cc0_scratch1).slice (Rect.unit (s := S3x1024x512) ![2, 0, 0] S1x1024x512.size h')).reshape S1024x512 _).set = _
    rw [View.set_reshape, View.set_slice_whole]; exact unit_set3 (n := 3) (k := 1024) (l := 512) rfl rfl h'
  · funext x
    obtain ⟨x0, x1, rfl⟩ : ∃ (x0 : Fin 1024) (x1 : Fin 512), x = ix2 x0 x1 := ⟨x 0, x 1, eq_ix2 x⟩
    have e₁ : (ovRowM ![2, 0, 0] h').view.read (Elt F) (ovB m c) (ix2 x0 x1)
      = ovB m c ((Rect.unit (s := S3x1024x512) ![2, 0, 0] S1x1024x512.size h').emb (Shape.reshapeEquiv (squeezes_S1x1024x512_S1024x512).numel_eq (ix2 x0 x1))) := rfl
    have e₂ : (Memref.whole main_arg6 : Memref sig .tc .hbm S1024x512 .f32).view.read (Elt F)
        (m ((c : Thread nD τ).loc main_arg6)) (ix2 x0 x1) = (m ((c : Thread nD τ).loc main_arg6) : Vec F S1024x512 .f32) (ix2 x0 x1) := rfl
    have h0 : x0.val < 1024 := x0.isLt
    have h1 : x1.val < 512 := x1.isLt
    rw [e₁, e₂,
      emb_sq (n := 3) (k := 1024) (l := 512) (a := 1024) (b := 512) rfl h' _ x0 x1 (hr := by decide) (hp := by omega) (hq' := by omega)]
    show (m ((c : Thread nD τ).loc main_arg6) : Vec F S1024x512 .f32) (ix2 ⟨0 + x0.val, _⟩ ⟨0 + x1.val, _⟩) = _
    congr 1
    exact congrArg₂ (ix2 (n0 := 1024) (n1 := 512)) (Fin.ext (Nat.zero_add x0.val)) (Fin.ext (Nat.zero_add x1.val))

end Cert.P
-- ==== Proof.Named.lean ====
/-
The kernel's loads and stores, under the names of the values that they read and write.
-/
module

public import proofs.«01_k».proof.Proof.Copies
public import Idealize.ShloMosaic.Lib.Pipeline.Value

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

/-- A device's own number as the kernel computes it, and the printed condition of a part of the body that every device but `s` runs. -/
abbrev mw (c : Dev nD) : BitVec 32 := Scalar.remsi (Scalar.divsi (Dev.word c) 1#32) 8#32
theorem wcond {s : ℕ} (hs : s < 8) (c : Dev nD) :
    Scalar.cmpi .ne (Scalar.extui (Scalar.cmpi .ne (mw c) (BitVec.ofNat 32 s)) : BitVec 32) 0#32 = 1#1 ↔ s ≠ c.val :=
  (by decide : ∀ (s : Fin 8) (c : Dev nD),
    Scalar.cmpi .ne (Scalar.extui (Scalar.cmpi .ne (mw c) (BitVec.ofNat 32 s.val)) : BitVec 32) 0#32 = 1#1 ↔ s.val ≠ c.val) ⟨s, hs⟩ c

variable (c : Dev nD)

theorem pay5_eq (v : Vec F S1x1x8x512 .bf16) : k0_pay5 (k0_pay4 v) = v := by unfold k0_pay5 k0_pay4; dsimp only; exact shapeCast_shapeCast v _ _
theorem pay8_eq (v : Vec F S1x1x8x512 .bf16) : k0_pay8 v = v := by unfold k0_pay8; dsimp only; exact shapeCast_shapeCast v _ _
theorem pay11_eq (v : Vec F S1x1x8x512 .bf16) : k0_pay11 v = v := by unfold k0_pay11; dsimp only; exact shapeCast_shapeCast v _ _
theorem pay13_eq (v : Vec F S1x1x8x512 .bf16) : k0_pay13 v = v := by unfold k0_pay13; dsimp only; exact shapeCast_shapeCast v _ _
theorem pay19_eq (v : Vec F S1x1x8x512 .bf16) : k0_pay19 (k0_pay18 v) = v := by unfold k0_pay19 k0_pay18; dsimp only; exact shapeCast_shapeCast v _ _

/-! ## Loads of weights -/

theorem l_w0lo {h hl} {Q : Vec F S1x512x512 .f32 → sProp 𝕄} :
    wvP m c 0 0 512 ⊢ iprop((wvP m c 0 0 512 -∗ Q (w0lo m c))
      -∗ WP c (Prog.lift (.load (Memref.whole cc0_scratch0 : Memref sig .tc .vmem S3x512x1024 .f32) (Rect.unit (s := S3x512x1024) ![0, 0, 0] S1x512x512.size h).toLoadRect hl)) Q) := by
  have e : w0lo m c = fun y : S1x512x512.Idx => wvB m c (ix3 0 (y 1) ⟨0 + (y 2).val, by have := (y 2).isLt; change _ < 512 at this; omega⟩) := by
    funext y
    exact congrArg (wvB m c) (congrArg (ix3 (n0 := 3) (n1 := 512) (n2 := 1024) 0 (y 1)) (Fin.ext (Nat.zero_add (y 2).val).symm))
  rw [e]
  exact ld_wv m c (r := 0) (p := 0) (w := 512) (a := 0) (b := 512) (by decide) (by decide) (by decide) (by decide) (o := ![0, 0, 0]) rfl (h := h) (hl := hl) (Q := Q)

theorem l_o0lo {h hl} {Q : Vec F S1x512x512 .f32 → sProp 𝕄} :
    ovP m c 0 0 512 ⊢ iprop((ovP m c 0 0 512 -∗ Q (o0lo m c))
      -∗ WP c (Prog.lift (.load (Memref.whole cc0_scratch1 : Memref sig .tc .vmem S3x1024x512 .f32) (Rect.unit (s := S3x1024x512) ![0, 0, 0] S1x512x512.size h).toLoadRect hl)) Q) := by
  have e : o0lo m c = fun y : S1x512x512.Idx => ovB m c (ix3 0 ⟨0 + (y 1).val, by have := (y 1).isLt; change _ < 512 at this; omega⟩ (y 2)) := by
    funext y
    exact congrArg (fun a => ovB m c (ix3 (n0 := 3) (n1 := 1024) (n2 := 512) 0 a (y 2))) (Fin.ext (Nat.zero_add (y 1).val).symm)
  rw [e]
  exact ld_ov m c (r := 0) (p := 0) (w := 512) (a := 0) (b := 512) (by decide) (by decide) (by decide) (by decide) (o := ![0, 0, 0]) rfl (h := h) (hl := hl) (Q := Q)

theorem l_w0hi {h hl} {Q : Vec F S1x512x512 .f32 → sProp 𝕄} :
    wvP m c 0 512 1024 ⊢ iprop((wvP m c 0 512 1024 -∗ Q (w0hi m c))
      -∗ WP c (Prog.lift (.load (Memref.whole cc0_scratch0 : Memref sig .tc .vmem S3x512x1024 .f32) (Rect.unit (s := S3x512x1024) ![0, 0, 512] S1x512x512.size h).toLoadRect hl)) Q) := by
  exact ld_wv m c (r := 0) (p := 512) (w := 512) (a := 512) (b := 1024) (by decide) (by decide) (by decide) (by decide) (o := ![0, 0, 512]) rfl (h := h) (hl := hl) (Q := Q)

theorem l_o0hi {h hl} {Q : Vec F S1x512x512 .f32 → sProp 𝕄} :
    ovP m c 0 512 1024 ⊢ iprop((ovP m c 0 512 1024 -∗ Q (o0hi m c))
      -∗ WP c (Prog.lift (.load (Memref.whole cc0_scratch1 : Memref sig .tc .vmem S3x1024x512 .f32) (Rect.unit (s := S3x1024x512) ![0, 512, 0] S1x512x512.size h).toLoadRect hl)) Q) := by
  exact ld_ov m c (r := 0) (p := 512) (w := 512) (a := 512) (b := 1024) (by decide) (by decide) (by decide) (by decide) (o := ![0, 512, 0]) rfl (h := h) (hl := hl) (Q := Q)

theorem l_wRow (r : Fin 3) {o : Fin 3 → ℕ} (ho : o = ![r.val, 0, 0]) {h hl} {Q : Vec F S1x512x1024 .f32 → sProp 𝕄} :
    wvP m c r.val 0 1024 ⊢ iprop((wvP m c r.val 0 1024 -∗ Q (wRow m c r))
      -∗ WP c (Prog.lift (.load (Memref.whole cc0_scratch0 : Memref sig .tc .vmem S3x512x1024 .f32) (Rect.unit (s := S3x512x1024) o S1x512x1024.size h).toLoadRect hl)) Q) := by
  have e : wRow m c r = fun y : S1x512x1024.Idx => wvB m c (ix3 r (y 1) ⟨0 + (y 2).val, by have := (y 2).isLt; change _ < 1024 at this; omega⟩) := by
    funext y
    exact congrArg (wvB m c) (congrArg (ix3 (n0 := 3) (n1 := 512) (n2 := 1024) r (y 1)) (Fin.ext (Nat.zero_add (y 2).val).symm))
  rw [e]
  exact ld_wv m c (r := r.val) (p := 0) (w := 1024) (a := 0) (b := 1024) r.isLt (by decide) (by decide) (by decide) (o := o) ho (h := h) (hl := hl) (Q := Q)

theorem l_oRow (r : Fin 3) {o : Fin 3 → ℕ} (ho : o = ![r.val, 0, 0]) {h hl} {Q : Vec F S1x1024x512 .f32 → sProp 𝕄} :
    ovP m c r.val 0 1024 ⊢ iprop((ovP m c r.val 0 1024 -∗ Q (oRow m c r))
      -∗ WP c (Prog.lift (.load (Memref.whole cc0_scratch1 : Memref sig .tc .vmem S3x1024x512 .f32) (Rect.unit (s := S3x1024x512) o S1x1024x512.size h).toLoadRect hl)) Q) := by
  have e : oRow m c r = fun y : S1x1024x512.Idx => ovB m c (ix3 r ⟨0 + (y 1).val, by have := (y 1).isLt; change _ < 1024 at this; omega⟩ (y 2)) := by
    funext y
    exact congrArg (fun a => ovB m c (ix3 (n0 := 3) (n1 := 1024) (n2 := 512) r a (y 2))) (Fin.ext (Nat.zero_add (y 1).val).symm)
  rw [e]
  exact ld_ov m c (r := r.val) (p := 0) (w := 1024) (a := 0) (b := 1024) r.isLt (by decide) (by decide) (by decide) (o := o) ho (h := h) (hl := hl) (Q := Q)

/-! ## Loads of gathered blocks -/

theorem l_g0lo {h hl} {Q : Vec F S1x4x8x512 .bf16 → sProp 𝕄} :
    acR m c 0 0 4 ⊢ iprop((acR m c 0 0 4 -∗ Q (loHalf (gv0 m)))
      -∗ WP c (Prog.lift (.load (Memref.whole cc0_scratch5 : Memref sig .tc .vmem S2x8x8x512 .bf16) (Rect.unit (s := S2x8x8x512) ![0, 0, 0, 0] S1x4x8x512.size h).toLoadRect hl)) Q) := by
  have e : loHalf (gv0 m) = fun y : S1x4x8x512.Idx => allg (av m 0) (ix4 0 ⟨0 + (y 1).val, by have := (y 1).isLt; change _ < 4 at this; omega⟩ (y 2) (y 3)) := by
    funext y
    show allg (av m 0) (ix4 0 ⟨(y 1).val, _⟩ (y 2) (y 3)) = _
    exact congrArg (fun a => allg (av m 0) (ix4 (n0 := 1) (n1 := 8) (n2 := 8) (n3 := 512) 0 a (y 2) (y 3))) (Fin.ext (Nat.zero_add (y 1).val).symm)
  rw [e]
  exact ld_ac m c (r := 0) (lo := 0) (by decide) (by decide) (o := ![0, 0, 0, 0]) rfl (h := h) (hl := hl) (Q := Q)

theorem l_g0hi {h hl} {Q : Vec F S1x4x8x512 .bf16 → sProp 𝕄} :
    acR m c 0 4 8 ⊢ iprop((acR m c 0 4 8 -∗ Q (hiHalf (gv0 m)))
      -∗ WP c (Prog.lift (.load (Memref.whole cc0_scratch5 : Memref sig .tc .vmem S2x8x8x512 .bf16) (Rect.unit (s := S2x8x8x512) ![0, 4, 0, 0] S1x4x8x512.size h).toLoadRect hl)) Q) := by
  have e : hiHalf (gv0 m) = fun y : S1x4x8x512.Idx => allg (av m 0) (ix4 0 ⟨4 + (y 1).val, by have := (y 1).isLt; change _ < 4 at this; omega⟩ (y 2) (y 3)) := by
    funext y
    rfl
  rw [e]
  exact ld_ac m c (r := 0) (lo := 4) (by decide) (by decide) (o := ![0, 4, 0, 0]) rfl (h := h) (hl := hl) (Q := Q)

theorem l_g1lo {h hl} {Q : Vec F S1x4x8x512 .bf16 → sProp 𝕄} :
    acR m c 1 0 4 ⊢ iprop((acR m c 1 0 4 -∗ Q (loHalf (gv1 m)))
      -∗ WP c (Prog.lift (.load (Memref.whole cc0_scratch5 : Memref sig .tc .vmem S2x8x8x512 .bf16) (Rect.unit (s := S2x8x8x512) ![1, 0, 0, 0] S1x4x8x512.size h).toLoadRect hl)) Q) := by
  have e : loHalf (gv1 m) = fun y : S1x4x8x512.Idx => allg (av m 1) (ix4 0 ⟨0 + (y 1).val, by have := (y 1).isLt; change _ < 4 at this; omega⟩ (y 2) (y 3)) := by
    funext y
    show allg (av m 1) (ix4 0 ⟨(y 1).val, _⟩ (y 2) (y 3)) = _
    exact congrArg (fun a => allg (av m 1) (ix4 (n0 := 1) (n1 := 8) (n2 := 8) (n3 := 512) 0 a (y 2) (y 3))) (Fin.ext (Nat.zero_add (y 1).val).symm)
  rw [e]
  exact ld_ac m c (r := 1) (lo := 0) (by decide) (by decide) (o := ![1, 0, 0, 0]) rfl (h := h) (hl := hl) (Q := Q)

theorem l_g1hi {h hl} {Q : Vec F S1x4x8x512 .bf16 → sProp 𝕄} :
    acR m c 1 4 8 ⊢ iprop((acR m c 1 4 8 -∗ Q (hiHalf (gv1 m)))
      -∗ WP c (Prog.lift (.load (Memref.whole cc0_scratch5 : Memref sig .tc .vmem S2x8x8x512 .bf16) (Rect.unit (s := S2x8x8x512) ![1, 4, 0, 0] S1x4x8x512.size h).toLoadRect hl)) Q) := by
  have e : hiHalf (gv1 m) = fun y : S1x4x8x512.Idx => allg (av m 1) (ix4 0 ⟨4 + (y 1).val, by have := (y 1).isLt; change _ < 4 at this; omega⟩ (y 2) (y 3)) := by
    funext y
    rfl
  rw [e]
  exact ld_ac m c (r := 1) (lo := 4) (by decide) (by decide) (o := ![1, 4, 0, 0]) rfl (h := h) (hl := hl) (Q := Q)

/-! ## Stores of partial products -/

theorem sv_lo {r : ℕ} {a b : Vec F S1x4x8x512 .bf16} (h : sv m r c = glue a b) (y : S1x4x8x512.Idx) :
    sv m r c (ix4 0 ⟨0 + (y 1).val, by have := (y 1).isLt; change _ < 4 at this; omega⟩ (y 2) (y 3)) = a y := by
  have h1 : (y 1).val < 4 := (y 1).isLt
  have h0 : (y 0).val = 0 := by have := (y 0).isLt; change _ < 1 at this; omega
  rw [h]
  unfold glue
  rw [dif_pos (by show 0 + (y 1).val < 4; omega)]
  congr 1
  funext x
  fin_cases x
  · exact Fin.ext h0.symm
  · exact Fin.ext (Nat.zero_add _)
  · rfl
  · rfl
theorem sv_hi {r : ℕ} {a b : Vec F S1x4x8x512 .bf16} (h : sv m r c = glue a b) (y : S1x4x8x512.Idx) :
    sv m r c (ix4 0 ⟨4 + (y 1).val, by have := (y 1).isLt; change _ < 4 at this; omega⟩ (y 2) (y 3)) = b y := by
  have h1 : (y 1).val < 4 := (y 1).isLt
  have h0 : (y 0).val = 0 := by have := (y 0).isLt; change _ < 1 at this; omega
  rw [h]
  unfold glue
  rw [dif_neg (by show ¬ 4 + (y 1).val < 4; omega)]
  congr 1
  funext x
  fin_cases x
  · exact Fin.ext h0.symm
  · exact Fin.ext (Nat.add_sub_cancel_left 4 _)
  · rfl
  · rfl

theorem s_sv0 {h hx hm} {Q : PUnit → sProp 𝕄} :
    sbE c 0 0 8 ⊢ iprop((sbR m c 0 0 8 -∗ Q ⟨⟩)
      -∗ WP c (Prog.lift (.store (Memref.whole cc0_scratch2 : Memref sig .tc .vmem S3x8x8x512 .bf16) (Rect.unit (s := S3x8x8x512) ![0, 0, 0, 0] S1x8x8x512.size h)
          (k0_pay3 (k0_pay1 (xB m c) (w0lo m c) (o0lo m c)) (k0_pay2 (xB m c) (w0hi m c)) (o0hi m c)) Finset.univ hx hm)) Q) :=
  st_sb m c (r := 0) (lo := 0) (w := 8) (by decide) (by decide) (o := ![0, 0, 0, 0]) rfl (h := h) (hx := hx) (hm := hm)
    (v := (k0_pay3 (k0_pay1 (xB m c) (w0lo m c) (o0lo m c)) (k0_pay2 (xB m c) (w0hi m c)) (o0hi m c))) (fun y => by
    have h0 : (y 0).val = 0 := by have := (y 0).isLt; change _ < 1 at this; omega
    show sv0 m c _ = sv0 m c y
    congr 1
    funext x
    fin_cases x
    · exact Fin.ext h0.symm
    · exact Fin.ext (Nat.zero_add _)
    · rfl
    · rfl) (Q := Q)

theorem s_sv1lo {h hx hm} {Q : PUnit → sProp 𝕄} :
    sbE c 1 0 4 ⊢ iprop((sbR m c 1 0 4 -∗ Q ⟨⟩)
      -∗ WP c (Prog.lift (.store (Memref.whole cc0_scratch2 : Memref sig .tc .vmem S3x8x8x512 .bf16) (Rect.unit (s := S3x8x8x512) ![1, 0, 0, 0] S1x4x8x512.size h)
          (k0_pay9 (loHalf (gv0 m)) (wRow m c 1) (oRow m c 1)) Finset.univ hx hm)) Q) :=
  st_sb m c (r := 1) (lo := 0) (w := 4) (by decide) (by decide) (o := ![1, 0, 0, 0]) rfl (h := h) (hx := hx) (hm := hm)
    (v := (k0_pay9 (loHalf (gv0 m)) (wRow m c 1) (oRow m c 1))) (fun y => sv_lo m c (r := 1) rfl y) (Q := Q)

theorem s_sv1hi {h hx hm} {Q : PUnit → sProp 𝕄} :
    sbE c 1 4 8 ⊢ iprop((sbR m c 1 4 8 -∗ Q ⟨⟩)
      -∗ WP c (Prog.lift (.store (Memref.whole cc0_scratch2 : Memref sig .tc .vmem S3x8x8x512 .bf16) (Rect.unit (s := S3x8x8x512) ![1, 4, 0, 0] S1x4x8x512.size h)
          (k0_pay10 (hiHalf (gv0 m)) (wRow m c 1) (oRow m c 1)) Finset.univ hx hm)) Q) :=
  st_sb m c (r := 1) (lo := 4) (w := 4) (by decide) (by decide) (o := ![1, 4, 0, 0]) rfl (h := h) (hx := hx) (hm := hm)
    (v := (k0_pay10 (hiHalf (gv0 m)) (wRow m c 1) (oRow m c 1))) (fun y => sv_hi m c (r := 1) rfl y) (Q := Q)

theorem s_sv2lo {h hx hm} {Q : PUnit → sProp 𝕄} :
    sbE c 2 0 4 ⊢ iprop((sbR m c 2 0 4 -∗ Q ⟨⟩)
      -∗ WP c (Prog.lift (.store (Memref.whole cc0_scratch2 : Memref sig .tc .vmem S3x8x8x512 .bf16) (Rect.unit (s := S3x8x8x512) ![2, 0, 0, 0] S1x4x8x512.size h)
          (k0_pay15 (k0_pay14 (loHalf (gv1 m)) (wRow m c 2) (oRow m c 2))) Finset.univ hx hm)) Q) :=
  st_sb m c (r := 2) (lo := 0) (w := 4) (by decide) (by decide) (o := ![2, 0, 0, 0]) rfl (h := h) (hx := hx) (hm := hm)
    (v := (k0_pay15 (k0_pay14 (loHalf (gv1 m)) (wRow m c 2) (oRow m c 2)))) (fun y => sv_lo m c (r := 2) rfl y) (Q := Q)

theorem s_sv2hi {h hx hm} {Q : PUnit → sProp 𝕄} :
    sbE c 2 4 8 ⊢ iprop((sbR m c 2 4 8 -∗ Q ⟨⟩)
      -∗ WP c (Prog.lift (.store (Memref.whole cc0_scratch2 : Memref sig .tc .vmem S3x8x8x512 .bf16) (Rect.unit (s := S3x8x8x512) ![2, 4, 0, 0] S1x4x8x512.size h)
          (k0_pay17 (k0_pay16 (hiHalf (gv1 m))) (wRow m c 2) (oRow m c 2)) Finset.univ hx hm)) Q) :=
  st_sb m c (r := 2) (lo := 4) (w := 4) (by decide) (by decide) (o := ![2, 4, 0, 0]) rfl (h := h) (hx := hx) (hm := hm)
    (v := (k0_pay17 (k0_pay16 (hiHalf (gv1 m))) (wRow m c 2) (oRow m c 2))) (fun y => sv_hi m c (r := 2) rfl y) (Q := Q)

theorem s_out {h hx hm} {Q : PUnit → sProp 𝕄} :
    outE c ⊢ iprop((outP m c -∗ Q ⟨⟩)
      -∗ WP c (Prog.lift (.store (Memref.whole cc0_stg0_0 : Memref sig .tc .vmem S8x512 .f32)
          (Rect.unit (s := S8x512) ![0, 0] S8x512.size h) (k0_pay21 (k0_pay20 (gath (sv m 2) c))) Finset.univ hx hm)) Q) :=
  st_out m c (h := h) (hx := hx) (hm := hm) (Q := Q)

theorem av0_eq : av m 0 c = k0_pay7 (k0_pay6 (gath (sv m 0) c)) := rfl
theorem av1_eq : av m 1 c = k0_pay12 (gath (sv m 1) c) := rfl

end Cert.P
-- ==== Proof.Rows.lean ====
/-
The buffers cut into rows and slots, and how the pieces come together for the transfers.
-/
module

public import proofs.«01_k».proof.Proof.Named

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

/-! ## Boxes -/

theorem box_runs {n k : ℕ} (r a b : ℕ) : (box r a b : Finset (⟨4, ![n, k, 8, 512]⟩ : Shape).Idx) = (Finset.Ico a b).biUnion fun s => box r s (s + 1) := by
  ext i
  rw [Finset.mem_biUnion, mem_box]
  constructor
  · intro h
    exact ⟨(i 1).val, by rw [Finset.mem_Ico]; omega, by rw [mem_box]; omega⟩
  · rintro ⟨s, hs, h⟩
    rw [Finset.mem_Ico] at hs
    rw [mem_box] at h
    omega
theorem box_disj {n k : ℕ} (r : ℕ) {s s' : ℕ} (h : s ≠ s') :
    Disjoint (box r s (s + 1) : Finset (⟨4, ![n, k, 8, 512]⟩ : Shape).Idx) (box r s' (s' + 1)) := by
  rw [Finset.disjoint_left]
  intro i hi hi'
  rw [mem_box] at hi hi'
  omega

/-- Two disjoint parts of a buffer at one valuation. -/
theorem cut {ℓ : Loc nD τ sig} {q : PosShare TreeShare} {f : Buf (Elt F) ℓ} {S I J : Finset (Idx ℓ)} (h : S = I ∪ J) (hd : Disjoint I J) :
    (ℓ ↦[S]{q} f : sProp 𝕄) = iprop((ℓ ↦[I]{q} f) ∗ ℓ ↦[J]{q} f) := by
  rw [h]
  have e : (ℓ ↦[I ∪ J]{q} f : sProp 𝕄) ⊣⊢ iprop((ℓ ↦[I]{q} f) ∗ ℓ ↦[J]{q} f) := pointsTo_union hd
  exact BI.equiv_iff.mp ⟨e.1, e.2⟩

theorem box_cut {n k : ℕ} (r : ℕ) {a b d : ℕ} (h : a ≤ b) (h' : b ≤ d) :
    (box r a d : Finset (⟨4, ![n, k, 8, 512]⟩ : Shape).Idx) = box r a b ∪ box r b d ∧ Disjoint (box r a b : Finset (⟨4, ![n, k, 8, 512]⟩ : Shape).Idx) (box r b d) := by
  constructor
  · ext i; rw [Finset.mem_union, mem_box, mem_box, mem_box]; omega
  · rw [Finset.disjoint_left]; intro i hi hi'; rw [mem_box] at hi hi'; omega
theorem box3_cut {n k l : ℕ} (r a b : ℕ) {p q u : ℕ} (h : p ≤ q) (h' : q ≤ u) :
    (box3 r a b p u : Finset (⟨3, ![n, k, l]⟩ : Shape).Idx) = box3 r a b p q ∪ box3 r a b q u
      ∧ Disjoint (box3 r a b p q : Finset (⟨3, ![n, k, l]⟩ : Shape).Idx) (box3 r a b q u) := by
  constructor
  · ext i; rw [Finset.mem_union, mem_box3, mem_box3, mem_box3]; omega
  · rw [Finset.disjoint_left]; intro i hi hi'; rw [mem_box3] at hi hi'; omega
theorem box3_cut' {n k l : ℕ} (r a b : ℕ) {p q u : ℕ} (h : p ≤ q) (h' : q ≤ u) :
    (box3 r p u a b : Finset (⟨3, ![n, k, l]⟩ : Shape).Idx) = box3 r p q a b ∪ box3 r q u a b
      ∧ Disjoint (box3 r p q a b : Finset (⟨3, ![n, k, l]⟩ : Shape).Idx) (box3 r q u a b) := by
  constructor
  · ext i; rw [Finset.mem_union, mem_box3, mem_box3, mem_box3]; omega
  · rw [Finset.disjoint_left]; intro i hi hi'; rw [mem_box3] at hi hi'; omega

/-- The rows of a whole array. -/
theorem rows3 {k : ℕ} : (Finset.univ : Finset (⟨4, ![3, k, 8, 512]⟩ : Shape).Idx) = box 0 0 k ∪ (box 1 0 k ∪ box 2 0 k)
    ∧ Disjoint (box 0 0 k : Finset (⟨4, ![3, k, 8, 512]⟩ : Shape).Idx) (box 1 0 k ∪ box 2 0 k)
    ∧ Disjoint (box 1 0 k : Finset (⟨4, ![3, k, 8, 512]⟩ : Shape).Idx) (box 2 0 k) := by
  refine ⟨?_, ?_, ?_⟩
  · ext i
    have h0 : (i 0).val < 3 := (i 0).isLt
    have h1 : (i 1).val < k := (i 1).isLt
    rw [Finset.mem_union, Finset.mem_union, mem_box, mem_box, mem_box]
    simp only [Finset.mem_univ, true_iff]
    omega
  · rw [Finset.disjoint_left]; intro i hi hi'; rw [Finset.mem_union, mem_box, mem_box] at hi'; rw [mem_box] at hi; omega
  · rw [Finset.disjoint_left]; intro i hi hi'; rw [mem_box] at hi hi'; omega
theorem rows2 {k : ℕ} : (Finset.univ : Finset (⟨4, ![2, k, 8, 512]⟩ : Shape).Idx) = box 0 0 k ∪ box 1 0 k
    ∧ Disjoint (box 0 0 k : Finset (⟨4, ![2, k, 8, 512]⟩ : Shape).Idx) (box 1 0 k) := by
  refine ⟨?_, ?_⟩
  · ext i
    have h0 : (i 0).val < 2 := (i 0).isLt
    have h1 : (i 1).val < k := (i 1).isLt
    rw [Finset.mem_union, mem_box, mem_box]
    simp only [Finset.mem_univ, true_iff]
    omega
  · rw [Finset.disjoint_left]; intro i hi hi'; rw [mem_box] at hi hi'; omega
theorem rowsW {k l : ℕ} : (Finset.univ : Finset (⟨3, ![3, k, l]⟩ : Shape).Idx) = box3 0 0 k 0 l ∪ (box3 1 0 k 0 l ∪ box3 2 0 k 0 l)
    ∧ Disjoint (box3 0 0 k 0 l : Finset (⟨3, ![3, k, l]⟩ : Shape).Idx) (box3 1 0 k 0 l ∪ box3 2 0 k 0 l)
    ∧ Disjoint (box3 1 0 k 0 l : Finset (⟨3, ![3, k, l]⟩ : Shape).Idx) (box3 2 0 k 0 l) := by
  refine ⟨?_, ?_, ?_⟩
  · ext i
    have h0 : (i 0).val < 3 := (i 0).isLt
    have h1 : (i 1).val < k := (i 1).isLt
    have h2 : (i 2).val < l := (i 2).isLt
    rw [Finset.mem_union, Finset.mem_union, mem_box3, mem_box3, mem_box3]
    simp only [Finset.mem_univ, true_iff]
    omega
  · rw [Finset.disjoint_left]; intro i hi hi'; rw [Finset.mem_union, mem_box3, mem_box3] at hi'; rw [mem_box3] at hi; omega
  · rw [Finset.disjoint_left]; intro i hi hi'; rw [mem_box3] at hi hi'; omega

/-! ## Rows of the buffers -/

theorem rows_2 (c : Dev nD) (f : Buf (Elt F) ((c : Thread nD τ).loc cc0_scratch2)) : ((c : Thread nD τ).loc cc0_scratch2 ↦{fullShare} f : sProp 𝕄)
    = iprop(((c : Thread nD τ).loc cc0_scratch2 ↦[(box 0 0 8 : Finset (⟨4, ![3, 8, 8, 512]⟩ : Shape).Idx)]{fullShare} f) ∗ ((c : Thread nD τ).loc cc0_scratch2 ↦[(box 1 0 8 : Finset (⟨4, ![3, 8, 8, 512]⟩ : Shape).Idx)]{fullShare} f) ∗ (c : Thread nD τ).loc cc0_scratch2 ↦[(box 2 0 8 : Finset (⟨4, ![3, 8, 8, 512]⟩ : Shape).Idx)]{fullShare} f) := by
  rw [← cut (ℓ := (c : Thread nD τ).loc cc0_scratch2) (I := (box 1 0 8 : Finset (⟨4, ![3, 8, 8, 512]⟩ : Shape).Idx)) rfl rows3.2.2]
  exact cut (ℓ := (c : Thread nD τ).loc cc0_scratch2) (I := (box 0 0 8 : Finset (⟨4, ![3, 8, 8, 512]⟩ : Shape).Idx)) rows3.1 rows3.2.1

theorem rows_3 (c : Dev nD) (f : Buf (Elt F) ((c : Thread nD τ).loc cc0_scratch3)) : ((c : Thread nD τ).loc cc0_scratch3 ↦{fullShare} f : sProp 𝕄)
    = iprop(((c : Thread nD τ).loc cc0_scratch3 ↦[(box 0 0 8 : Finset (⟨4, ![3, 8, 8, 512]⟩ : Shape).Idx)]{fullShare} f) ∗ ((c : Thread nD τ).loc cc0_scratch3 ↦[(box 1 0 8 : Finset (⟨4, ![3, 8, 8, 512]⟩ : Shape).Idx)]{fullShare} f) ∗ (c : Thread nD τ).loc cc0_scratch3 ↦[(box 2 0 8 : Finset (⟨4, ![3, 8, 8, 512]⟩ : Shape).Idx)]{fullShare} f) := by
  rw [← cut (ℓ := (c : Thread nD τ).loc cc0_scratch3) (I := (box 1 0 8 : Finset (⟨4, ![3, 8, 8, 512]⟩ : Shape).Idx)) rfl rows3.2.2]
  exact cut (ℓ := (c : Thread nD τ).loc cc0_scratch3) (I := (box 0 0 8 : Finset (⟨4, ![3, 8, 8, 512]⟩ : Shape).Idx)) rows3.1 rows3.2.1

theorem rows_4 (c : Dev nD) (f : Buf (Elt F) ((c : Thread nD τ).loc cc0_scratch4)) : ((c : Thread nD τ).loc cc0_scratch4 ↦{fullShare} f : sProp 𝕄)
    = iprop(((c : Thread nD τ).loc cc0_scratch4 ↦[(box 0 0 1 : Finset (⟨4, ![2, 1, 8, 512]⟩ : Shape).Idx)]{fullShare} f) ∗ (c : Thread nD τ).loc cc0_scratch4 ↦[(box 1 0 1 : Finset (⟨4, ![2, 1, 8, 512]⟩ : Shape).Idx)]{fullShare} f) :=
  cut (ℓ := (c : Thread nD τ).loc cc0_scratch4) (I := (box 0 0 1 : Finset (⟨4, ![2, 1, 8, 512]⟩ : Shape).Idx)) rows2.1 rows2.2

theorem rows_5 (c : Dev nD) (f : Buf (Elt F) ((c : Thread nD τ).loc cc0_scratch5)) : ((c : Thread nD τ).loc cc0_scratch5 ↦{fullShare} f : sProp 𝕄)
    = iprop(((c : Thread nD τ).loc cc0_scratch5 ↦[(box 0 0 8 : Finset (⟨4, ![2, 8, 8, 512]⟩ : Shape).Idx)]{fullShare} f) ∗ (c : Thread nD τ).loc cc0_scratch5 ↦[(box 1 0 8 : Finset (⟨4, ![2, 8, 8, 512]⟩ : Shape).Idx)]{fullShare} f) :=
  cut (ℓ := (c : Thread nD τ).loc cc0_scratch5) (I := (box 0 0 8 : Finset (⟨4, ![2, 8, 8, 512]⟩ : Shape).Idx)) rows2.1 rows2.2

theorem rows_0 (c : Dev nD) (f : Buf (Elt F) ((c : Thread nD τ).loc cc0_scratch0)) : ((c : Thread nD τ).loc cc0_scratch0 ↦{fullShare} f : sProp 𝕄)
    = iprop((((c : Thread nD τ).loc cc0_scratch0 ↦[(box3 0 0 512 0 512 : Finset (⟨3, ![3, 512, 1024]⟩ : Shape).Idx)]{fullShare} f) ∗ ((c : Thread nD τ).loc cc0_scratch0 ↦[(box3 0 0 512 512 1024 : Finset (⟨3, ![3, 512, 1024]⟩ : Shape).Idx)]{fullShare} f)) ∗ ((c : Thread nD τ).loc cc0_scratch0 ↦[(box3 1 0 512 0 1024 : Finset (⟨3, ![3, 512, 1024]⟩ : Shape).Idx)]{fullShare} f) ∗ ((c : Thread nD τ).loc cc0_scratch0 ↦[(box3 2 0 512 0 1024 : Finset (⟨3, ![3, 512, 1024]⟩ : Shape).Idx)]{fullShare} f)) := by
  have e := box3_cut (n := 3) (k := 512) (l := 1024) 0 0 512 (p := 0) (q := 512) (u := 1024) (by decide) (by decide)
  rw [← cut (ℓ := (c : Thread nD τ).loc cc0_scratch0) (I := (box3 1 0 512 0 1024 : Finset (⟨3, ![3, 512, 1024]⟩ : Shape).Idx)) rfl rowsW.2.2, ← cut (ℓ := (c : Thread nD τ).loc cc0_scratch0) (I := (box3 0 0 512 0 512 : Finset (⟨3, ![3, 512, 1024]⟩ : Shape).Idx)) e.1 e.2]
  exact cut (ℓ := (c : Thread nD τ).loc cc0_scratch0) (I := (box3 0 0 512 0 1024 : Finset (⟨3, ![3, 512, 1024]⟩ : Shape).Idx)) rowsW.1 rowsW.2.1
/-- The array of weights at any contents, in its parts; and the parts at the weights, whole. -/
theorem wv_open (c : Dev nD) : iprop(∃ f : Buf (Elt F) ((c : Thread nD τ).loc cc0_scratch0), (c : Thread nD τ).loc cc0_scratch0 ↦{fullShare} f)
    ⊢ iprop((wvE (F := F) c 0 0 512 ∗ wvE (F := F) c 0 512 1024) ∗ wvE (F := F) c 1 0 1024 ∗ wvE (F := F) c 2 0 1024) := by
  unfold wvE
  iintro ⟨%f, H⟩
  ihave H := (Entails.of_eq (rows_0 c f)) $$ H
  icases H with ⟨⟨H0, H0'⟩, H1, H2⟩
  isplitl [H0 H0']
  · isplitl [H0]; · iexists f; iexact H0
    iexists f; iexact H0'
  isplitl [H1]; · iexists f; iexact H1
  iexists f; iexact H2
theorem wv_close (c : Dev nD) : iprop((wvP m c 0 0 512 ∗ wvP m c 0 512 1024) ∗ wvP m c 1 0 1024 ∗ wvP m c 2 0 1024)
    ⊢ iprop(∃ f : Buf (Elt F) ((c : Thread nD τ).loc cc0_scratch0), (c : Thread nD τ).loc cc0_scratch0 ↦{fullShare} f) := by
  unfold wvP
  rw [← rows_0 c (wvB m c)]
  iintro H
  iexists wvB m c
  iexact H

theorem rows_1 (c : Dev nD) (f : Buf (Elt F) ((c : Thread nD τ).loc cc0_scratch1)) : ((c : Thread nD τ).loc cc0_scratch1 ↦{fullShare} f : sProp 𝕄)
    = iprop((((c : Thread nD τ).loc cc0_scratch1 ↦[(box3 0 0 512 0 512 : Finset (⟨3, ![3, 1024, 512]⟩ : Shape).Idx)]{fullShare} f) ∗ ((c : Thread nD τ).loc cc0_scratch1 ↦[(box3 0 512 1024 0 512 : Finset (⟨3, ![3, 1024, 512]⟩ : Shape).Idx)]{fullShare} f)) ∗ ((c : Thread nD τ).loc cc0_scratch1 ↦[(box3 1 0 1024 0 512 : Finset (⟨3, ![3, 1024, 512]⟩ : Shape).Idx)]{fullShare} f) ∗ ((c : Thread nD τ).loc cc0_scratch1 ↦[(box3 2 0 1024 0 512 : Finset (⟨3, ![3, 1024, 512]⟩ : Shape).Idx)]{fullShare} f)) := by
  have e := box3_cut' (n := 3) (k := 1024) (l := 512) 0 0 512 (p := 0) (q := 512) (u := 1024) (by decide) (by decide)
  rw [← cut (ℓ := (c : Thread nD τ).loc cc0_scratch1) (I := (box3 1 0 1024 0 512 : Finset (⟨3, ![3, 1024, 512]⟩ : Shape).Idx)) rfl rowsW.2.2, ← cut (ℓ := (c : Thread nD τ).loc cc0_scratch1) (I := (box3 0 0 512 0 512 : Finset (⟨3, ![3, 1024, 512]⟩ : Shape).Idx)) e.1 e.2]
  exact cut (ℓ := (c : Thread nD τ).loc cc0_scratch1) (I := (box3 0 0 1024 0 512 : Finset (⟨3, ![3, 1024, 512]⟩ : Shape).Idx)) rowsW.1 rowsW.2.1
/-- The array of weights at any contents, in its parts; and the parts at the weights, whole. -/
theorem ov_open (c : Dev nD) : iprop(∃ f : Buf (Elt F) ((c : Thread nD τ).loc cc0_scratch1), (c : Thread nD τ).loc cc0_scratch1 ↦{fullShare} f)
    ⊢ iprop((ovE (F := F) c 0 0 512 ∗ ovE (F := F) c 0 512 1024) ∗ ovE (F := F) c 1 0 1024 ∗ ovE (F := F) c 2 0 1024) := by
  unfold ovE
  iintro ⟨%f, H⟩
  ihave H := (Entails.of_eq (rows_1 c f)) $$ H
  icases H with ⟨⟨H0, H0'⟩, H1, H2⟩
  isplitl [H0 H0']
  · isplitl [H0]; · iexists f; iexact H0
    iexists f; iexact H0'
  isplitl [H1]; · iexists f; iexact H1
  iexists f; iexact H2
theorem ov_close (c : Dev nD) : iprop((ovP m c 0 0 512 ∗ ovP m c 0 512 1024) ∗ ovP m c 1 0 1024 ∗ ovP m c 2 0 1024)
    ⊢ iprop(∃ f : Buf (Elt F) ((c : Thread nD τ).loc cc0_scratch1), (c : Thread nD τ).loc cc0_scratch1 ↦{fullShare} f) := by
  unfold ovP
  rw [← rows_1 c (ovB m c)]
  iintro H
  iexists ovB m c
  iexact H

/-! ## Slots -/

theorem sb_ran (c : Dev nD) (r a b : ℕ) : sbR m c r a b = ran (sbSlot m c r) a b := by
  unfold sbR ran sbSlot
  rw [box_runs r a b]
  exact pointsTo_biUnion (ℓ := (c : Thread nD τ).loc cc0_scratch2) (q := fullShare) (f := sbB m c) (Finset.Ico a b) (fun s => (box r s (s + 1) : Finset (⟨4, ![3, 8, 8, 512]⟩ : Shape).Idx))
    (fun t _ t' _ h => box_disj r h)

theorem rs_ran (c : Dev nD) (r a b : ℕ) : rsR m c r a b = ran (rsSlot m c r) a b := by
  unfold rsR ran rsSlot
  rw [box_runs r a b]
  exact pointsTo_biUnion (ℓ := (c : Thread nD τ).loc cc0_scratch3) (q := fullShare) (f := rsB m c) (Finset.Ico a b) (fun s => (box r s (s + 1) : Finset (⟨4, ![3, 8, 8, 512]⟩ : Shape).Idx))
    (fun t _ t' _ h => box_disj r h)

theorem ac_ran (c : Dev nD) (r a b : ℕ) : acR m c r a b = ran (acSlot m c r) a b := by
  unfold acR ran acSlot
  rw [box_runs r a b]
  exact pointsTo_biUnion (ℓ := (c : Thread nD τ).loc cc0_scratch5) (q := fullShare) (f := acB m) (Finset.Ico a b) (fun s => (box r s (s + 1) : Finset (⟨4, ![2, 8, 8, 512]⟩ : Shape).Idx))
    (fun t _ t' _ h => box_disj r h)

theorem rsE_intro (c : Dev nD) (r s : ℕ) (f : Buf (Elt F) ((c : Thread nD τ).loc cc0_scratch3)) :
    ((c : Thread nD τ).loc cc0_scratch3 ↦[(box r s (s + 1) : Finset (⟨4, ![3, 8, 8, 512]⟩ : Shape).Idx)]{fullShare} f : sProp 𝕄) ⊢ rsSlotE (F := F) c r s := by
  unfold rsSlotE
  iintro H
  iexists f
  iexact H
theorem rsE_ran (c : Dev nD) (r : ℕ) (f : Buf (Elt F) ((c : Thread nD τ).loc cc0_scratch3)) :
    ((c : Thread nD τ).loc cc0_scratch3 ↦[(box r 0 8 : Finset (⟨4, ![3, 8, 8, 512]⟩ : Shape).Idx)]{fullShare} f : sProp 𝕄) ⊢ ran (rsSlotE (F := F) c r) 0 8 := by
  rw [box_runs r 0 8]
  refine (Entails.of_eq (pointsTo_biUnion (ℓ := (c : Thread nD τ).loc cc0_scratch3) (q := fullShare) (f := f) (Finset.Ico 0 8) (fun s => (box r s (s + 1) : Finset (⟨4, ![3, 8, 8, 512]⟩ : Shape).Idx))
    (fun t _ t' _ h => box_disj r h))).trans ?_
  unfold ran
  exact bigSep_mono fun s _ => rsE_intro c r s f

theorem acE_intro (c : Dev nD) (r s : ℕ) (f : Buf (Elt F) ((c : Thread nD τ).loc cc0_scratch5)) :
    ((c : Thread nD τ).loc cc0_scratch5 ↦[(box r s (s + 1) : Finset (⟨4, ![2, 8, 8, 512]⟩ : Shape).Idx)]{fullShare} f : sProp 𝕄) ⊢ acSlotE (F := F) c r s := by
  unfold acSlotE
  iintro H
  iexists f
  iexact H
theorem acE_ran (c : Dev nD) (r : ℕ) (f : Buf (Elt F) ((c : Thread nD τ).loc cc0_scratch5)) :
    ((c : Thread nD τ).loc cc0_scratch5 ↦[(box r 0 8 : Finset (⟨4, ![2, 8, 8, 512]⟩ : Shape).Idx)]{fullShare} f : sProp 𝕄) ⊢ ran (acSlotE (F := F) c r) 0 8 := by
  rw [box_runs r 0 8]
  refine (Entails.of_eq (pointsTo_biUnion (ℓ := (c : Thread nD τ).loc cc0_scratch5) (q := fullShare) (f := f) (Finset.Ico 0 8) (fun s => (box r s (s + 1) : Finset (⟨4, ![2, 8, 8, 512]⟩ : Shape).Idx))
    (fun t _ t' _ h => box_disj r h))).trans ?_
  unfold ran
  exact bigSep_mono fun s _ => acE_intro c r s f

/-- The array of sent blocks at any contents: its rows, the last two in halves. -/
theorem sb_open (c : Dev nD) : iprop(∃ f : Buf (Elt F) ((c : Thread nD τ).loc cc0_scratch2), (c : Thread nD τ).loc cc0_scratch2 ↦{fullShare} f)
    ⊢ iprop(sbE (F := F) c 0 0 8 ∗ (sbE (F := F) c 1 0 4 ∗ sbE (F := F) c 1 4 8) ∗ (sbE (F := F) c 2 0 4 ∗ sbE (F := F) c 2 4 8)) := by
  unfold sbE
  iintro ⟨%f, H⟩
  have e := fun r => box_cut (n := 3) (k := 8) r (a := 0) (b := 4) (d := 8) (by decide) (by decide)
  ihave H := (Entails.of_eq (rows_2 c f)) $$ H
  icases H with ⟨H0, H1, H2⟩
  ihave H1 := (Entails.of_eq (cut (ℓ := (c : Thread nD τ).loc cc0_scratch2) (q := fullShare) (f := f) (e 1).1 (e 1).2)) $$ H1
  ihave H2 := (Entails.of_eq (cut (ℓ := (c : Thread nD τ).loc cc0_scratch2) (q := fullShare) (f := f) (e 2).1 (e 2).2)) $$ H2
  icases H1 with ⟨H1, H1'⟩
  icases H2 with ⟨H2, H2'⟩
  isplitl [H0]; · iexists f; iexact H0
  isplitl [H1 H1']
  · isplitl [H1]; · iexists f; iexact H1
    iexists f; iexact H1'
  isplitl [H2]; · iexists f; iexact H2
  iexists f; iexact H2'
theorem sb_close (c : Dev nD) : iprop(sbR m c 0 0 8 ∗ sbR m c 1 0 8 ∗ sbR m c 2 0 8)
    ⊢ iprop(∃ f : Buf (Elt F) ((c : Thread nD τ).loc cc0_scratch2), (c : Thread nD τ).loc cc0_scratch2 ↦{fullShare} f) := by
  unfold sbR
  rw [← rows_2 c (sbB m c)]
  iintro H
  iexists sbB m c
  iexact H
theorem rs_open (c : Dev nD) : iprop(∃ f : Buf (Elt F) ((c : Thread nD τ).loc cc0_scratch3), (c : Thread nD τ).loc cc0_scratch3 ↦{fullShare} f)
    ⊢ iprop(ran (rsSlotE (F := F) c 0) 0 8 ∗ ran (rsSlotE (F := F) c 1) 0 8 ∗ ran (rsSlotE (F := F) c 2) 0 8) := by
  iintro ⟨%f, H⟩
  ihave H := (Entails.of_eq (rows_3 c f)) $$ H
  icases H with ⟨H0, H1, H2⟩
  isplitl [H0]; · iapply (rsE_ran c 0 f) $$ H0
  isplitl [H1]; · iapply (rsE_ran c 1 f) $$ H1
  iapply (rsE_ran c 2 f) $$ H2
theorem rs_close (c : Dev nD) : iprop(rsR m c 0 0 8 ∗ rsR m c 1 0 8 ∗ rsR m c 2 0 8)
    ⊢ iprop(∃ f : Buf (Elt F) ((c : Thread nD τ).loc cc0_scratch3), (c : Thread nD τ).loc cc0_scratch3 ↦{fullShare} f) := by
  unfold rsR
  rw [← rows_3 c (rsB m c)]
  iintro H
  iexists rsB m c
  iexact H
theorem ag_open (c : Dev nD) : iprop(∃ f : Buf (Elt F) ((c : Thread nD τ).loc cc0_scratch4), (c : Thread nD τ).loc cc0_scratch4 ↦{fullShare} f)
    ⊢ iprop(agE (F := F) c 0 ∗ agE (F := F) c 1) := by
  unfold agE
  iintro ⟨%f, H⟩
  ihave H := (Entails.of_eq (rows_4 c f)) $$ H
  icases H with ⟨H0, H1⟩
  isplitl [H0]; · iexists f; iexact H0
  iexists f; iexact H1
theorem ag_close (c : Dev nD) : iprop(agR m c 0 fullShare ∗ agR m c 1 fullShare)
    ⊢ iprop(∃ f : Buf (Elt F) ((c : Thread nD τ).loc cc0_scratch4), (c : Thread nD τ).loc cc0_scratch4 ↦{fullShare} f) := by
  unfold agR
  rw [← rows_4 c (agB m c)]
  iintro H
  iexists agB m c
  iexact H
theorem ac_open (c : Dev nD) : iprop(∃ f : Buf (Elt F) ((c : Thread nD τ).loc cc0_scratch5), (c : Thread nD τ).loc cc0_scratch5 ↦{fullShare} f)
    ⊢ iprop(ran (acSlotE (F := F) c 0) 0 8 ∗ ran (acSlotE (F := F) c 1) 0 8) := by
  iintro ⟨%f, H⟩
  ihave H := (Entails.of_eq (rows_5 c f)) $$ H
  icases H with ⟨H0, H1⟩
  isplitl [H0]; · iapply (acE_ran c 0 f) $$ H0
  iapply (acE_ran c 1 f) $$ H1
theorem ac_close (c : Dev nD) : iprop((acR m c 0 0 4 ∗ acR m c 0 4 8) ∗ (acR m c 1 0 4 ∗ acR m c 1 4 8))
    ⊢ iprop(∃ f : Buf (Elt F) ((c : Thread nD τ).loc cc0_scratch5), (c : Thread nD τ).loc cc0_scratch5 ↦{fullShare} f) := by
  have e := fun r => box_cut (n := 2) (k := 8) r (a := 0) (b := 4) (d := 8) (by decide) (by decide)
  unfold acR
  rw [← cut (ℓ := (c : Thread nD τ).loc cc0_scratch5) (q := fullShare) (f := acB m) (e 0).1 (e 0).2,
    ← cut (ℓ := (c : Thread nD τ).loc cc0_scratch5) (q := fullShare) (f := acB m) (e 1).1 (e 1).2, ← rows_5 c (acB m)]
  iintro H
  iexists acB m
  iexact H

/-! ## A device's own slots and the others' -/

theorem assoc_eq (P Q R : sProp 𝕄) : iprop((P ∗ Q) ∗ R) = iprop(P ∗ Q ∗ R) := by
  have e : iprop((P ∗ Q) ∗ R) ⊣⊢ iprop(P ∗ Q ∗ R) := Laws.sep_assoc
  exact BI.equiv_iff.mp ⟨e.1, e.2⟩
theorem join_own (c : Dev nD) (Φ Z : ℕ → sProp 𝕄) (a b : ℕ) :
    iprop(ran (fun s => own c s (Φ s)) a b ∗ ran (fun s => oth c s iprop(Φ s ∗ Z s)) a b) = iprop(ran Φ a b ∗ ran (fun s => oth c s (Z s)) a b) := by
  rw [ran_oth_sep, ran_own_oth c Φ a b]
  exact (assoc_eq _ _ _).symm

/-- A device's own slot of the blocks that it sends, of the reduced block's tokens and of the gathered blocks, if its number is in a run. -/
def ownS (c : Dev nD) (r a b : ℕ) : sProp 𝕄 := ran (fun s => own c s (sbSlot m c r s)) a b
def ownG (c : Dev nD) (r a b : ℕ) : sProp 𝕄 := ran (fun s => own c s (agTok m c r s)) a b
def ownC (c : Dev nD) (r a b : ℕ) : sProp 𝕄 := ran (fun s => own c s (acSlot m c r s)) a b
theorem ownS_all (c : Dev nD) (r : ℕ) : ownS m c r 0 8 = sbSlot m c r c.val := ran_own c _
theorem ownC_all (c : Dev nD) (r : ℕ) : ownC m c r 0 8 = acSlot m c r c.val := ran_own c _
theorem ownS_halves (c : Dev nD) (r : ℕ) : iprop(ownS m c r 0 4 ∗ ownS m c r 4 8) = sbSlot m c r c.val := by
  rw [← ownS_all]; exact (ran_append _ (by decide) (by decide)).symm
theorem ownC_halves (c : Dev nD) (r : ℕ) : acSlot m c r c.val = iprop(ownC m c r 0 4 ∗ ownC m c r 4 8) := by
  rw [← ownC_all]; exact ran_append _ (by decide) (by decide)

/-- The rights to the two ends of a transfer to device `s`, and with them the slot that it writes. -/
def rsK (c : Dev nD) (r s : ℕ) : sProp 𝕄 := oth c s iprop(dutyTok (ER (F := F)) (dcell c (num 12 r s)) 0 0 ∗ dutyTok (ER (F := F)) (dcell (dv s) (num 36 r c.val)) 0 0)
def agK (c : Dev nD) (r s : ℕ) : sProp 𝕄 := oth c s iprop(dutyTok (ER (F := F)) (dcell c (num 60 r s)) 0 0 ∗ dutyTok (ER (F := F)) (dcell (dv s) (num 84 r c.val)) 0 0)
def rsT (c : Dev nD) (r s : ℕ) : sProp 𝕄 := oth c s iprop(rsSlotE (dv s) r c.val
  ∗ (dutyTok (ER (F := F)) (dcell c (num 12 r s)) 0 0 ∗ dutyTok (ER (F := F)) (dcell (dv s) (num 36 r c.val)) 0 0))
def agT (c : Dev nD) (r s : ℕ) : sProp 𝕄 := oth c s iprop(acSlotE (dv s) r c.val
  ∗ (dutyTok (ER (F := F)) (dcell c (num 60 r s)) 0 0 ∗ dutyTok (ER (F := F)) (dcell (dv s) (num 84 r c.val)) 0 0))
/-- The values of a row's semaphores, and their positions. -/
def sems (b : ℕ) (c : Dev nD) (r s : ℕ) : sProp 𝕄 := oth c s (semVal (dcell c (num b r s)) 0)
def poss (b : ℕ) (c : Dev nD) (r s : ℕ) : sProp 𝕄 := oth c s (atPos (ER (F := F)) (dcell c (num b r s)) 0 ∅ 0)

theorem sb_go (c : Dev nD) (r a b : ℕ) : iprop(sbR m c r a b ∗ ran (rsT c r) a b) = iprop(ownS m c r a b ∗ ran (rsIn m c r) a b) := by
  rw [sb_ran]; exact (join_own c _ _ a b).symm
theorem ag_cut (c : Dev nD) (r : ℕ) : agR m c r fullShare = iprop(agR m c r (shareDrop fullShare 8) ∗ ran (agTok m c r) 0 8) := by
  unfold agR ran agTok
  rw [← Finset.range_eq_Ico]
  have e : ((c : Thread nD τ).loc cc0_scratch4 ↦[(box r 0 1 : Finset (⟨4, ![2, 1, 8, 512]⟩ : Shape).Idx)]{fullShare} agB m c : sProp 𝕄)
      ⊣⊢ iprop(((c : Thread nD τ).loc cc0_scratch4 ↦[(box r 0 1 : Finset (⟨4, ![2, 1, 8, 512]⟩ : Shape).Idx)]{shareDrop fullShare 8} agB m c)
        ∗ bigSep (Finset.range 8) (fun i => (c : Thread nD τ).loc cc0_scratch4 ↦[(box r 0 1 : Finset (⟨4, ![2, 1, 8, 512]⟩ : Shape).Idx)]{shareTokN fullShare i} agB m c)) :=
    Transfers.pointsTo_toks_range fullShare 8
  exact BI.equiv_iff.mp ⟨e.1, e.2⟩
theorem ag_go (c : Dev nD) (r : ℕ) : iprop(agR m c r fullShare ∗ ran (agT c r) 0 8)
    = iprop(agR m c r (shareDrop fullShare 8) ∗ ownG m c r 0 8 ∗ ran (agIn m c r) 0 8) := by
  rw [ag_cut, assoc_eq _ _ _]
  exact congrArg (fun P => iprop(agR m c r (shareDrop fullShare 8) ∗ P)) (join_own c _ _ 0 8).symm

theorem out_pay (b : ℕ) (c : Dev nD) (r : ℕ) (Φ : ℕ → sProp 𝕄) (h : ∀ s, s < 8 → pay m c (num b r s) = Φ s) {a e : ℕ} (he : e ≤ 8) :
    iprop(ran (fun s => own c s (Φ s)) a e ∗ ran (dmOut m b c r) a e) = iprop(ran Φ a e ∗ ran (sems b c r) a e) := by
  rw [show ran (dmOut m b c r) a e = ran (fun s => oth c s iprop(Φ s ∗ semVal (dcell c (num b r s)) 0)) a e from
    ran_congr fun s _ hs => by unfold dmOut; rw [h s (by omega)]]
  exact join_own c _ _ a e

theorem rs_done (c : Dev nD) {r : ℕ} (hr : r < 3) : iprop(rsSlot m c r c.val ∗ ran (dmOut m 36 c r) 0 8) = iprop(rsR m c r 0 8 ∗ ran (sems 36 c r) 0 8) := by
  rw [rs_ran, ← ran_own c (rsSlot m c r)]
  exact out_pay m 36 c r _ (fun s hs => pay_rs m c hr hs) le_rfl
theorem ac_done (c : Dev nD) {r a e : ℕ} (hr : r < 2) (he : e ≤ 8) : iprop(ownC m c r a e ∗ ran (dmOut m 84 c r) a e) = iprop(acR m c r a e ∗ ran (sems 84 c r) a e) := by
  rw [ac_ran]
  exact out_pay m 84 c r _ (fun s hs => pay_ac m c hr hs) he
theorem sb_end (c : Dev nD) {r : ℕ} (hr : r < 3) : iprop(sbSlot m c r c.val ∗ ran (dmOut m 12 c r) 0 8) = iprop(sbR m c r 0 8 ∗ ran (sems 12 c r) 0 8) := by
  rw [sb_ran, ← ran_own c (sbSlot m c r)]
  exact out_pay m 12 c r _ (fun s hs => pay_sb m c hr hs) le_rfl
theorem ag_end (c : Dev nD) {r : ℕ} (hr : r < 2) : iprop(agR m c r (shareDrop fullShare 8) ∗ ownG m c r 0 8 ∗ ran (dmOut m 60 c r) 0 8)
    = iprop(agR m c r fullShare ∗ ran (sems 60 c r) 0 8) := by
  rw [ag_cut, assoc_eq _ _ _]
  exact congrArg (fun P => iprop(agR m c r (shareDrop fullShare 8) ∗ P)) (out_pay m 60 c r _ (fun s hs => pay_ag m c hr hs) le_rfl)

theorem rs_sent (c : Dev nD) (r : ℕ) : iprop(ran (rsOut (F := F) c r) 0 8 ∗ ran (poss (F := F) 12 c r) 0 8) = ran (dmIn 12 c r) 0 8 :=
  (ran_oth_sep c _ _ 0 8).symm
theorem rs_sent_halves (c : Dev nD) (r : ℕ) : iprop((ran (rsOut (F := F) c r) 0 4 ∗ ran (rsOut (F := F) c r) 4 8) ∗ ran (poss (F := F) 12 c r) 0 8) = ran (dmIn 12 c r) 0 8 := by
  rw [← ran_append (rsOut (F := F) c r) (a := 0) (b := 4) (c := 8) (by decide) (by decide)]; exact rs_sent c r
theorem ag_sent (c : Dev nD) (r : ℕ) : iprop(ran (agOut (F := F) c r) 0 8 ∗ ran (poss (F := F) 60 c r) 0 8) = ran (dmIn 60 c r) 0 8 :=
  (ran_oth_sep c _ _ 0 8).symm

/-! ## The barrier -/

theorem dv_val {s : ℕ} (h : s < 8) : (dv s).val = s := Nat.mod_eq_of_lt h
theorem dv_self (p : Dev nD) : dv p.val = p := Fin.ext (Nat.mod_eq_of_lt p.isLt)

/-- The slots of a device's two arrays of received blocks: its own stay, the others go with the signals. -/
def barKeep (c : Dev nD) : sProp 𝕄 :=
  iprop(rsSlotE (F := F) c 0 c.val ∗ rsSlotE (F := F) c 1 c.val ∗ rsSlotE (F := F) c 2 c.val ∗ acSlotE (F := F) c 0 c.val ∗ acSlotE (F := F) c 1 c.val)
theorem bar_in (c : Dev nD) :
    iprop((ran (rsSlotE (F := F) c 0) 0 8 ∗ ran (rsSlotE (F := F) c 1) 0 8 ∗ ran (rsSlotE (F := F) c 2) 0 8 ∗ ran (acSlotE (F := F) c 0) 0 8 ∗ ran (acSlotE (F := F) c 1) 0 8)
      ∗ ran (fun s => oth c s (dutyTok (ER (F := F)) (barCell (dv s)) 0 c)) 0 8)
    = iprop(barKeep c ∗ ran (sgIn c) 0 8) := by
  rw [show ran (sgIn (F := F) c) 0 8 = ran (fun s => oth c s iprop((rsSlotE (F := F) c 0 s ∗ rsSlotE (F := F) c 1 s ∗ rsSlotE (F := F) c 2 s ∗ acSlotE (F := F) c 0 s ∗ acSlotE (F := F) c 1 s)
      ∗ dutyTok (ER (F := F)) (barCell (dv s)) 0 c)) 0 8 from ran_congr fun s _ hs => by unfold sgIn barPay; rw [dv_val hs]]
  unfold barKeep
  rw [← ran_own c (fun s => iprop(rsSlotE (F := F) c 0 s ∗ rsSlotE (F := F) c 1 s ∗ rsSlotE (F := F) c 2 s ∗ acSlotE (F := F) c 0 s ∗ acSlotE (F := F) c 1 s)), join_own,
    ran_sep, ran_sep, ran_sep, ran_sep]
theorem bar_all (c : Dev nD) (Φ : Dev nD → sProp 𝕄) : bigSep (Finset.univ.erase c) Φ = ran (fun s => oth c s (Φ (dv s))) 0 8 := by
  unfold ran
  rw [show Finset.Ico 0 8 = (Finset.univ : Finset (Fin 8)).map Fin.valEmbedding by decide, bigSep_map, bigSep_erase (Finset.mem_univ c)]
  rw [show oth c (Fin.valEmbedding c) (Φ (dv (Fin.valEmbedding c))) = iprop(emp) by unfold oth; exact if_pos rfl]
  refine Eq.trans ?_ (equiv_iff.mp emp_sep).symm
  refine bigSep_congr fun p hp => ?_
  have hne : p ≠ c := Finset.ne_of_mem_erase hp
  unfold oth
  exact (congrArg Φ (dv_self p).symm).trans (if_neg (fun h : p.val = c.val => hne (Fin.ext h))).symm
/-- What a device has gathered at the barrier, with its rights to transfers. -/
theorem bar_out (c : Dev nD) :
    iprop(bigSep (Finset.univ.erase c) (fun p => barPay (F := F) p c)
      ∗ (ran (rsK c 0) 0 8 ∗ ran (rsK c 1) 0 8 ∗ ran (rsK c 2) 0 8 ∗ ran (agK c 0) 0 8 ∗ ran (agK c 1) 0 8))
    ⊢ iprop(ran (rsT (F := F) c 0) 0 8 ∗ ran (rsT (F := F) c 1) 0 8 ∗ ran (rsT (F := F) c 2) 0 8 ∗ ran (agT (F := F) c 0) 0 8 ∗ ran (agT (F := F) c 1) 0 8) := by
  rw [bar_all c (fun p => barPay p c)]
  unfold barPay rsT agT rsK agK
  simp only [ran_oth_sep]
  iintro ⟨⟨A0, A1, A2, B0, B1⟩, ⟨K0, K0'⟩, ⟨K1, K1'⟩, ⟨K2, K2'⟩, ⟨L0, L0'⟩, ⟨L1, L1'⟩⟩
  isplitl [A0 K0 K0']
  · isplitl [A0]; · iexact A0
    isplitl [K0]; · iexact K0
    iexact K0'
  isplitl [A1 K1 K1']
  · isplitl [A1]; · iexact A1
    isplitl [K1]; · iexact K1
    iexact K1'
  isplitl [A2 K2 K2']
  · isplitl [A2]; · iexact A2
    isplitl [K2]; · iexact K2
    iexact K2'
  isplitl [B0 L0 L0']
  · isplitl [B0]; · iexact B0
    isplitl [L0]; · iexact L0
    iexact L0'
  isplitl [B1]; · iexact B1
  isplitl [L1]; · iexact L1
  iexact L1'

end Cert.P
-- ==== Proof.Glue.lean ====
/-
The steps of the kernel that need no transfer: reading the device's number, the barrier.
-/
module

public import proofs.«01_k».proof.Proof.Rows

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ)

/-- The credit of a device's barrier, and its position. -/
def barC (c : Dev nD) : sProp 𝕄 := iprop(cred (tallyAt (barCell c) () 7) ∗ atPos (ER (F := F)) (barCell c) 0 ∅ 0)
def barZ (c : Dev nD) : sProp 𝕄 := semVal (barCell c) 0
/-- What a device has gathered at the barrier, and its rights to transfers. -/
def barGot (c : Dev nD) : sProp 𝕄 := bigSep (Finset.univ.erase c) (fun p => barPay (F := F) p c)
def rights (c : Dev nD) : sProp 𝕄 := iprop(ran (rsK (F := F) c 0) 0 8 ∗ ran (rsK c 1) 0 8 ∗ ran (rsK c 2) 0 8 ∗ ran (agK c 0) 0 8 ∗ ran (agK c 1) 0 8)

theorem g_bar (c : Dev nD) {sem : Sem sig} (hs : sem = barS) {w : BitVec 32} (hw : w = 7#32) {Q : PUnit → sProp 𝕄} :
    iprop(bas m K c 8 ∗ barC c) ⊢ iprop((iprop(bas m K c 8 ∗ barGot c ∗ barZ c) -∗ Q ⟨⟩) -∗ WP c (semWaitWord sem w) Q) := by
  unfold bas barC barGot barZ
  iintro ⟨⟨#HR, HO⟩, HP⟩ Hk
  iapply (wait_bar m K c hs hw) $$ [HP HO]
  · isplitr; · iexact HR
    isplitl [HP]; · iexact HP
    iexact HO
  iintro ⟨⟨HP, HZ⟩, HO⟩
  iapply Hk
  isplitl [HO]
  · isplitr; · iexact HR
    iexact HO
  isplitl [HP]; · iexact HP
  iexact HZ

theorem rights_go (c : Dev nD) : iprop(barGot (F := F) c ∗ rights c)
    ⊢ iprop(ran (rsT (F := F) c 0) 0 8 ∗ ran (rsT (F := F) c 1) 0 8 ∗ ran (rsT (F := F) c 2) 0 8 ∗ ran (agT (F := F) c 0) 0 8 ∗ ran (agT (F := F) c 1) 0 8) := by
  unfold barGot rights; exact bar_out c

theorem dev_in (c : Dev nD) {Q : Dev nD → sProp 𝕄} : Q c ⊢ WP c (Prog.lift .deviceId) Q := by
  show Q c ⊢ WP c (.op .deviceId fun x => pure x) Q
  unfold WP; rw [wp_deviceId]
  exact ret_in c

theorem rs_sent3 (c : Dev nD) (r : ℕ) : iprop(ran (rsOut (F := F) c r) 0 4 ∗ ran (rsOut (F := F) c r) 4 8 ∗ ran (poss (F := F) 12 c r) 0 8) = ran (dmIn 12 c r) 0 8 := by
  rw [← assoc_eq]; exact rs_sent_halves c r

end Cert.P
-- ==== Proof.PartsA.lean ====
/-
The kernel, from its start to the first layer's sends.
-/
module

public import proofs.«01_k».proof.Proof.Glue

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ) (c : Dev nD)

/-- The copies of the argument and of the first layer's weights are started. -/
theorem part1 {Q : _ → sProp 𝕄} :
    iprop(bas m K c 0 ∗ aP m c main_arg0 (fullShare.right) ∗ xvE c ∗ tk c 11 ∗ aP m c main_arg1 (fullShare.right.left) ∗ wvE c 0 0 512 ∗ tk c 7 ∗ aP m c main_arg4 (fullShare.right.left) ∗ ovE c 0 0 512 ∗ tk c 8 ∗ aP m c main_arg1 (fullShare.right.right) ∗ wvE c 0 512 1024 ∗ tk c 9 ∗ aP m c main_arg4 (fullShare.right.right) ∗ ovE c 0 512 1024 ∗ tk c 10)
      ⊢ iprop((iprop(bas m K c 0 ∗ cr c 11 ∗ cr c 7 ∗ cr c 8 ∗ cr c 9 ∗ cr c 10) -∗ Q ⟨c, mw c, SemArray.scalar (sig.barrier 0 rfl), Scalar.extui (Scalar.cmpi .ne (mw c) 0#32), 0#32⟩)
        -∗ WP c (k0_part1_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 ) Q) := by
  unfold k0_part1_skel
  iintro ⟨HB, AR11, XV, TK11, AR7, WL, TK7, AR8, OL, TK8, AR9, WH, TK9, AR10, OH, TK10⟩ Hk
  iapply (bind_in c)
  iapply (dev_in c)
  iapply (bind_in c)
  iapply (lc_x m K c (k := 0) (q := fullShare.right)) $$ [HB AR11 XV TK11]
  · isplitl [HB]; · iexact HB
    isplitl [AR11]; · iexact AR11
    isplitl [XV]; · iexact XV
    iexact TK11
  iintro ⟨HB, CR11⟩
  iapply (bind_in c)
  iapply (lc_7 m K c (k := 0) (q := fullShare.right.left)) $$ [HB AR7 WL TK7]
  · isplitl [HB]; · iexact HB
    isplitl [AR7]; · iexact AR7
    isplitl [WL]; · iexact WL
    iexact TK7
  iintro ⟨HB, CR7⟩
  iapply (bind_in c)
  iapply (lc_8 m K c (k := 0) (q := fullShare.right.left)) $$ [HB AR8 OL TK8]
  · isplitl [HB]; · iexact HB
    isplitl [AR8]; · iexact AR8
    isplitl [OL]; · iexact OL
    iexact TK8
  iintro ⟨HB, CR8⟩
  iapply (bind_in c)
  iapply (lc_9 m K c (k := 0) (q := fullShare.right.right)) $$ [HB AR9 WH TK9]
  · isplitl [HB]; · iexact HB
    isplitl [AR9]; · iexact AR9
    isplitl [WH]; · iexact WH
    iexact TK9
  iintro ⟨HB, CR9⟩
  iapply (bind_in c)
  iapply (lc_10 m K c (k := 0) (q := fullShare.right.right)) $$ [HB AR10 OH TK10]
  · isplitl [HB]; · iexact HB
    isplitl [AR10]; · iexact AR10
    isplitl [OH]; · iexact OH
    iexact TK10
  iintro ⟨HB, CR10⟩
  iapply (ret_in c)
  iapply Hk
  isplitl [HB]; · iexact HB
  isplitl [CR11]; · iexact CR11
  isplitl [CR7]; · iexact CR7
  isplitl [CR8]; · iexact CR8
  isplitl [CR9]; · iexact CR9
  iexact CR10

/-- The barrier is signalled, the argument is read. -/
theorem part2 {Q : _ → sProp 𝕄} :
    iprop(bas m K c 0 ∗ ran (sgIn c) 0 8 ∗ cr c 11 ∗ ps c 11 ∗ cr c 7 ∗ ps c 7)
      ⊢ iprop((iprop(bas m K c 8 ∗ prog (sgIn c) (sgOut c) 0 8 8 ∗ sz c 11 ∗ xvP m c ∗ sz c 7 ∗ wvP m c 0 0 512) -∗ Q (xB m c))
        -∗ WP c (k0_part2_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (SemArray.scalar (sig.barrier 0 rfl)) (Scalar.extui (Scalar.cmpi .ne (mw c) 0#32)) 0#32) Q) := by
  unfold k0_part2_skel
  iintro ⟨HB, SG, CR11, PS11, CR7, PS7⟩ Hk
  ihave SG := (Entails.of_eq (prog_start (F := F) (sgIn c) (sgOut c) 0 8).symm) $$ [SG]
  · iexact SG
  iapply (guard_in c)
  iapply (g_signal m K c (s := 0) (by decide) (by revert c; decide) (fun _ => Fin.ext k0_dev1_eq) rfl rfl) $$ [HB SG]
  · isplitl [HB]; · iexact HB
    iexact SG
  iintro ⟨HB, SG⟩
  iapply (guard_in c)
  iapply (g_signal m K c (s := 1) (by decide) (by revert c; decide) (fun _ => Fin.ext k0_dev2_eq) rfl rfl) $$ [HB SG]
  · isplitl [HB]; · iexact HB
    iexact SG
  iintro ⟨HB, SG⟩
  iapply (guard_in c)
  iapply (g_signal m K c (s := 2) (by decide) (by revert c; decide) (fun _ => Fin.ext k0_dev3_eq) rfl rfl) $$ [HB SG]
  · isplitl [HB]; · iexact HB
    iexact SG
  iintro ⟨HB, SG⟩
  iapply (guard_in c)
  iapply (g_signal m K c (s := 3) (by decide) (by revert c; decide) (fun _ => Fin.ext k0_dev4_eq) rfl rfl) $$ [HB SG]
  · isplitl [HB]; · iexact HB
    iexact SG
  iintro ⟨HB, SG⟩
  iapply (guard_in c)
  iapply (g_signal m K c (s := 4) (by decide) (by revert c; decide) (fun _ => Fin.ext k0_dev5_eq) rfl rfl) $$ [HB SG]
  · isplitl [HB]; · iexact HB
    iexact SG
  iintro ⟨HB, SG⟩
  iapply (guard_in c)
  iapply (g_signal m K c (s := 5) (by decide) (by revert c; decide) (fun _ => Fin.ext k0_dev6_eq) rfl rfl) $$ [HB SG]
  · isplitl [HB]; · iexact HB
    iexact SG
  iintro ⟨HB, SG⟩
  iapply (guard_in c)
  iapply (g_signal m K c (s := 6) (by decide) (by revert c; decide) (fun _ => Fin.ext k0_dev7_eq) rfl rfl) $$ [HB SG]
  · isplitl [HB]; · iexact HB
    iexact SG
  iintro ⟨HB, SG⟩
  iapply (guard_in c)
  iapply (g_signal m K c (s := 7) (by decide) (by revert c; decide) (fun _ => Fin.ext k0_dev8_eq) rfl rfl) $$ [HB SG]
  · isplitl [HB]; · iexact HB
    iexact SG
  iintro ⟨HB, SG⟩
  iapply (bind_in c)
  iapply (lwait m K c (n := 11) (k := 8) (by decide) (by decide) sem9 amt_11.symm) $$ [HB CR11 PS11]
  · isplitl [HB]; · iexact HB
    isplitl [CR11]; · iexact CR11
    iexact PS11
  iintro ⟨HB, XV, SZ11⟩
  ihave XV := (Entails.of_eq (locPay_11 m c)) $$ [XV]
  · iexact XV
  iapply (bind_in c)
  iapply (ld_x m c) $$ [XV]
  · iexact XV
  iintro XV
  iapply (bind_in c)
  iapply (lwait m K c (n := 7) (k := 8) (by decide) (by decide) (sem8 (i := 0) (by decide) rfl) amt_7.symm) $$ [HB CR7 PS7]
  · isplitl [HB]; · iexact HB
    isplitl [CR7]; · iexact CR7
    iexact PS7
  iintro ⟨HB, WL, SZ7⟩
  ihave WL := (Entails.of_eq (locPay_7 m c)) $$ [WL]
  · iexact WL
  iapply (ret_in c)
  iapply Hk
  isplitl [HB]; · iexact HB
  isplitl [SG]; · iexact SG
  isplitl [SZ11]; · iexact SZ11
  isplitl [XV]; · iexact XV
  isplitl [SZ7]; · iexact SZ7
  iexact WL

/-- The first half of the first layer. -/
theorem part3 {Q : _ → sProp 𝕄} :
    iprop(bas m K c 8 ∗ wvP m c 0 0 512 ∗ cr c 8 ∗ ps c 8 ∗ cr c 9 ∗ ps c 9)
      ⊢ iprop((iprop(bas m K c 8 ∗ wvP m c 0 0 512 ∗ sz c 8 ∗ ovP m c 0 0 512 ∗ sz c 9 ∗ wvP m c 0 512 1024) -∗ Q ⟨k0_pay1 (xB m c) (w0lo m c) (o0lo m c), k0_pay2 (xB m c) (w0hi m c)⟩)
        -∗ WP c (k0_part3_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 (xB m c)) Q) := by
  unfold k0_part3_skel
  iintro ⟨HB, WL, CR8, PS8, CR9, PS9⟩ Hk
  iapply (bind_in c)
  iapply (l_w0lo m c) $$ [WL]
  · iexact WL
  iintro WL
  iapply (bind_in c)
  iapply (lwait m K c (n := 8) (k := 8) (by decide) (by decide) (sem8 (i := 1) (by decide) rfl) amt_8.symm) $$ [HB CR8 PS8]
  · isplitl [HB]; · iexact HB
    isplitl [CR8]; · iexact CR8
    iexact PS8
  iintro ⟨HB, OL, SZ8⟩
  ihave OL := (Entails.of_eq (locPay_8 m c)) $$ [OL]
  · iexact OL
  iapply (bind_in c)
  iapply (l_o0lo m c) $$ [OL]
  · iexact OL
  iintro OL
  iapply (bind_in c)
  iapply (lwait m K c (n := 9) (k := 8) (by decide) (by decide) (sem8 (i := 2) (by decide) rfl) amt_9.symm) $$ [HB CR9 PS9]
  · isplitl [HB]; · iexact HB
    isplitl [CR9]; · iexact CR9
    iexact PS9
  iintro ⟨HB, WH, SZ9⟩
  ihave WH := (Entails.of_eq (locPay_9 m c)) $$ [WH]
  · iexact WH
  iapply (bind_in c)
  iapply (l_w0hi m c) $$ [WH]
  · iexact WH
  iintro WH
  iapply (ret_in c)
  iapply Hk
  isplitl [HB]; · iexact HB
  isplitl [WL]; · iexact WL
  isplitl [SZ8]; · iexact SZ8
  isplitl [OL]; · iexact OL
  isplitl [SZ9]; · iexact SZ9
  iexact WH

/-- The first layer's partial sums are stored, the barrier is passed, and the first six are sent. -/
theorem part4 {Q : _ → sProp 𝕄} :
    iprop(bas m K c 8 ∗ cr c 10 ∗ ps c 10 ∗ sbE c 0 0 8 ∗ barC c ∗ rights c)
      ⊢ iprop((iprop(bas m K c 14 ∗ sz c 10 ∗ ovP m c 0 512 1024 ∗ barZ c ∗ ran (agT c 0) 0 8 ∗ ran (agT c 1) 0 8 ∗ ran (rsT c 1) 0 4 ∗ ran (rsT c 1) 4 8 ∗ ran (rsT c 2) 0 4 ∗ ran (rsT c 2) 4 8 ∗ ownS m c 0 0 8 ∗ prog (rsIn m c 0) (rsOut c 0) 0 6 8) -∗ Q ⟨⟩)
        -∗ WP c (k0_part4_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (SemArray.scalar (sig.barrier 0 rfl)) (k0_pay1 (xB m c) (w0lo m c) (o0lo m c)) (k0_pay2 (xB m c) (w0hi m c))) Q) := by
  unfold k0_part4_skel
  iintro ⟨HB, CR10, PS10, SB0, BC, KS⟩ Hk
  iapply (bind_in c)
  iapply (lwait m K c (n := 10) (k := 8) (by decide) (by decide) (sem8 (i := 3) (by decide) rfl) amt_10.symm) $$ [HB CR10 PS10]
  · isplitl [HB]; · iexact HB
    isplitl [CR10]; · iexact CR10
    iexact PS10
  iintro ⟨HB, OH, SZ10⟩
  ihave OH := (Entails.of_eq (locPay_10 m c)) $$ [OH]
  · iexact OH
  iapply (bind_in c)
  iapply (l_o0hi m c) $$ [OH]
  · iexact OH
  iintro OH
  iapply (bind_in c)
  iapply (dl_sb c (r := 0) (lo := 0) (w := 8) rfl) $$ [SB0]
  · iexact SB0
  iintro %v SB0
  iapply (bind_in c)
  iapply (s_sv0 m c) $$ [SB0]
  · iexact SB0
  iintro SB0
  iapply (bind_in c)
  iapply (g_bar m K c rfl rfl) $$ [HB BC]
  · isplitl [HB]; · iexact HB
    iexact BC
  iintro ⟨HB, BG, BZ⟩
  ihave HT := (rights_go (F := F) c) $$ [BG KS]
  · isplitl [BG]; · iexact BG
    iexact KS
  icases HT with ⟨RT0, RT1, RT2, AT0, AT1⟩
  ihave HT := (Entails.of_eq (ran_append (F := F) (rsT c 1) (a := 0) (b := 4) (c := 8) (by decide) (by decide))) $$ [RT1]
  · iexact RT1
  icases HT with ⟨RT1a, RT1b⟩
  ihave HT := (Entails.of_eq (ran_append (F := F) (rsT c 2) (a := 0) (b := 4) (c := 8) (by decide) (by decide))) $$ [RT2]
  · iexact RT2
  icases HT with ⟨RT2a, RT2b⟩
  ihave HT := (Entails.of_eq (sb_go m c 0 0 8)) $$ [SB0 RT0]
  · isplitl [SB0]; · iexact SB0
    iexact RT0
  icases HT with ⟨OS0, RS0⟩
  ihave RS0 := (Entails.of_eq (prog_start (F := F) (rsIn m c 0) (rsOut c 0) 0 8).symm) $$ [RS0]
  · iexact RS0
  iapply (guard_in c)
  iapply (g_rs m K c (r := 0) (s := 0) (i := 8) (a := 0) (e := 8) (by decide) (by decide) (by decide) (by decide) rfl (by revert c; decide) (fun _ => Fin.ext k0_dev9_eq) (fun _ => rfl) (fun _ => k0_off2_eq c) (fun _ => rfl) (fun _ => k0_off1_eq c)) $$ [HB RS0]
  · isplitl [HB]; · iexact HB
    iexact RS0
  iintro ⟨HB, RS0⟩
  iapply (guard_in c)
  iapply (g_rs m K c (r := 0) (s := 1) (i := 9) (a := 0) (e := 8) (by decide) (by decide) (by decide) (by decide) rfl (by revert c; decide) (fun _ => Fin.ext k0_dev10_eq) (fun _ => rfl) (fun _ => k0_off4_eq c) (fun _ => rfl) (fun _ => k0_off3_eq c)) $$ [HB RS0]
  · isplitl [HB]; · iexact HB
    iexact RS0
  iintro ⟨HB, RS0⟩
  iapply (guard_in c)
  iapply (g_rs m K c (r := 0) (s := 2) (i := 10) (a := 0) (e := 8) (by decide) (by decide) (by decide) (by decide) rfl (by revert c; decide) (fun _ => Fin.ext k0_dev11_eq) (fun _ => rfl) (fun _ => k0_off6_eq c) (fun _ => rfl) (fun _ => k0_off5_eq c)) $$ [HB RS0]
  · isplitl [HB]; · iexact HB
    iexact RS0
  iintro ⟨HB, RS0⟩
  iapply (guard_in c)
  iapply (g_rs m K c (r := 0) (s := 3) (i := 11) (a := 0) (e := 8) (by decide) (by decide) (by decide) (by decide) rfl (by revert c; decide) (fun _ => Fin.ext k0_dev12_eq) (fun _ => rfl) (fun _ => k0_off8_eq c) (fun _ => rfl) (fun _ => k0_off7_eq c)) $$ [HB RS0]
  · isplitl [HB]; · iexact HB
    iexact RS0
  iintro ⟨HB, RS0⟩
  iapply (guard_in c)
  iapply (g_rs m K c (r := 0) (s := 4) (i := 12) (a := 0) (e := 8) (by decide) (by decide) (by decide) (by decide) rfl (by revert c; decide) (fun _ => Fin.ext k0_dev13_eq) (fun _ => rfl) (fun _ => k0_off10_eq c) (fun _ => rfl) (fun _ => k0_off9_eq c)) $$ [HB RS0]
  · isplitl [HB]; · iexact HB
    iexact RS0
  iintro ⟨HB, RS0⟩
  iapply (g_rs m K c (r := 0) (s := 5) (i := 13) (a := 0) (e := 8) (by decide) (by decide) (by decide) (by decide) rfl (by revert c; decide) (fun _ => Fin.ext k0_dev14_eq) (fun _ => rfl) (fun _ => k0_off12_eq c) (fun _ => rfl) (fun _ => k0_off11_eq c)) $$ [HB RS0]
  · isplitl [HB]; · iexact HB
    iexact RS0
  iintro ⟨HB, RS0⟩
  iapply Hk
  isplitl [HB]; · iexact HB
  isplitl [SZ10]; · iexact SZ10
  isplitl [OH]; · iexact OH
  isplitl [BZ]; · iexact BZ
  isplitl [AT0]; · iexact AT0
  isplitl [AT1]; · iexact AT1
  isplitl [RT1a]; · iexact RT1a
  isplitl [RT1b]; · iexact RT1b
  isplitl [RT2a]; · iexact RT2a
  isplitl [RT2b]; · iexact RT2b
  isplitl [OS0]; · iexact OS0
  iexact RS0

/-- The last two are sent, and the weights of the two other layers are fetched. -/
theorem part5 {Q : _ → sProp 𝕄} :
    iprop(bas m K c 14 ∗ prog (rsIn m c 0) (rsOut c 0) 0 6 8 ∗ ran (poss 12 c 0) 0 8 ∗ aP m c main_arg2 (fullShare.right) ∗ wvE c 1 0 1024 ∗ tk c 3 ∗ aP m c main_arg5 (fullShare.right) ∗ ovE c 1 0 1024 ∗ tk c 4 ∗ aP m c main_arg3 (fullShare.right) ∗ wvE c 2 0 1024 ∗ tk c 5 ∗ aP m c main_arg6 (fullShare.right) ∗ ovE c 2 0 1024 ∗ tk c 6 ∗ ownS m c 0 0 8)
      ⊢ iprop((iprop(bas m K c 16 ∗ ran (dmIn 12 c 0) 0 8 ∗ cr c 3 ∗ cr c 4 ∗ cr c 5 ∗ cr c 6 ∗ sbSlot m c 0 c.val) -∗ Q (k0_pay4 (sbOwn m c 0)))
        -∗ WP c (k0_part5_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c)) Q) := by
  unfold k0_part5_skel
  iintro ⟨HB, RS0, PW0, AR3, W1, TK3, AR4, O1, TK4, AR5, W2, TK5, AR6, O2, TK6, OS0⟩ Hk
  iapply (guard_in c)
  iapply (g_rs m K c (r := 0) (s := 6) (i := 14) (a := 0) (e := 8) (by decide) (by decide) (by decide) (by decide) rfl (by revert c; decide) (fun _ => Fin.ext k0_dev15_eq) (fun _ => rfl) (fun _ => k0_off14_eq c) (fun _ => rfl) (fun _ => k0_off13_eq c)) $$ [HB RS0]
  · isplitl [HB]; · iexact HB
    iexact RS0
  iintro ⟨HB, RS0⟩
  iapply (guard_in c)
  iapply (g_rs m K c (r := 0) (s := 7) (i := 15) (a := 0) (e := 8) (by decide) (by decide) (by decide) (by decide) rfl (by revert c; decide) (fun _ => Fin.ext k0_dev16_eq) (fun _ => rfl) (fun _ => k0_off16_eq c) (fun _ => rfl) (fun _ => k0_off15_eq c)) $$ [HB RS0]
  · isplitl [HB]; · iexact HB
    iexact RS0
  iintro ⟨HB, RS0⟩
  ihave RS0 := (Entails.of_eq (prog_end (F := F) (rsIn m c 0) (rsOut c 0) 0 8)) $$ [RS0]
  · iexact RS0
  ihave RW0 := (Entails.of_eq (rs_sent (F := F) c 0)) $$ [RS0 PW0]
  · isplitl [RS0]; · iexact RS0
    iexact PW0
  iapply (bind_in c)
  iapply (lc_3 m K c (k := 16) (q := fullShare.right)) $$ [HB AR3 W1 TK3]
  · isplitl [HB]; · iexact HB
    isplitl [AR3]; · iexact AR3
    isplitl [W1]; · iexact W1
    iexact TK3
  iintro ⟨HB, CR3⟩
  iapply (bind_in c)
  iapply (lc_4 m K c (k := 16) (q := fullShare.right)) $$ [HB AR4 O1 TK4]
  · isplitl [HB]; · iexact HB
    isplitl [AR4]; · iexact AR4
    isplitl [O1]; · iexact O1
    iexact TK4
  iintro ⟨HB, CR4⟩
  iapply (bind_in c)
  iapply (lc_5 m K c (k := 16) (q := fullShare.right)) $$ [HB AR5 W2 TK5]
  · isplitl [HB]; · iexact HB
    isplitl [AR5]; · iexact AR5
    isplitl [W2]; · iexact W2
    iexact TK5
  iintro ⟨HB, CR5⟩
  iapply (bind_in c)
  iapply (lc_6 m K c (k := 16) (q := fullShare.right)) $$ [HB AR6 O2 TK6]
  · isplitl [HB]; · iexact HB
    isplitl [AR6]; · iexact AR6
    isplitl [O2]; · iexact O2
    iexact TK6
  iintro ⟨HB, CR6⟩
  ihave OS0 := (Entails.of_eq (ownS_all m c 0)) $$ [OS0]
  · iexact OS0
  iapply (bind_in c)
  iapply (ld_sb m c (r := 0) (by decide) (k0_off17_eq c)) $$ [OS0]
  · iexact OS0
  iintro OS0
  iapply (ret_in c)
  iapply Hk
  isplitl [HB]; · iexact HB
  isplitl [RW0]; · iexact RW0
  isplitl [CR3]; · iexact CR3
  isplitl [CR4]; · iexact CR4
  isplitl [CR5]; · iexact CR5
  isplitl [CR6]; · iexact CR6
  iexact OS0

end Cert.P
-- ==== Proof.PartsB.lean ====
/-
The kernel, from the first layer's receives to the second layer's first sends.
-/
module

public import proofs.«01_k».proof.Proof.Glue

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ) (c : Dev nD)

/-- The first layer's partial sums are received. -/
theorem part6 {Q : _ → sProp 𝕄} :
    iprop(bas m K c 16 ∗ rsSlotE c 0 c.val ∗ ran (dmIn 36 c 0) 0 8)
      ⊢ iprop((iprop(bas m K c 16 ∗ ran (sems 36 c 0) 0 8 ∗ rsR m c 0 0 8) -∗ Q (k0_pay6 (gath (sv m 0) c)))
        -∗ WP c (k0_part6_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (k0_pay4 (sbOwn m c 0))) Q) := by
  unfold k0_part6_skel
  iintro ⟨HB, RK0, RI0⟩ Hk
  iapply (bind_in c)
  iapply (dl_rs c (r := 0) (k0_off17_eq c)) $$ [RK0]
  · iexact RK0
  iintro %v RK0
  iapply (bind_in c)
  iapply (st_rs m c (r := 0) (by decide) (k0_off17_eq c) (pay5_eq (sbOwn m c 0)).symm) $$ [RK0]
  · iexact RK0
  iintro RK0
  ihave RI0 := (Entails.of_eq (prog_start (F := F) (dmIn 36 c 0) (dmOut m 36 c 0) 0 8).symm) $$ [RI0]
  · iexact RI0
  iapply (guard_in c)
  iapply (g_wait m K c (b := 36) (r := 0) (s := 0) (k := 16) (a := 0) (e := 8) (Or.inr (Or.inl ⟨rfl, by decide⟩)) (by decide) (by decide) (by decide) (by decide) (wcond (s := 0) (by decide) c) (fun _ => sem_rsR (r := 0) (s := 0) (by decide) (by decide) rfl) (fun _ => rfl)) $$ [HB RI0]
  · isplitl [HB]; · iexact HB
    iexact RI0
  iintro ⟨HB, RI0⟩
  iapply (guard_in c)
  iapply (g_wait m K c (b := 36) (r := 0) (s := 1) (k := 16) (a := 0) (e := 8) (Or.inr (Or.inl ⟨rfl, by decide⟩)) (by decide) (by decide) (by decide) (by decide) (wcond (s := 1) (by decide) c) (fun _ => sem_rsR (r := 0) (s := 1) (by decide) (by decide) rfl) (fun _ => rfl)) $$ [HB RI0]
  · isplitl [HB]; · iexact HB
    iexact RI0
  iintro ⟨HB, RI0⟩
  iapply (guard_in c)
  iapply (g_wait m K c (b := 36) (r := 0) (s := 2) (k := 16) (a := 0) (e := 8) (Or.inr (Or.inl ⟨rfl, by decide⟩)) (by decide) (by decide) (by decide) (by decide) (wcond (s := 2) (by decide) c) (fun _ => sem_rsR (r := 0) (s := 2) (by decide) (by decide) rfl) (fun _ => rfl)) $$ [HB RI0]
  · isplitl [HB]; · iexact HB
    iexact RI0
  iintro ⟨HB, RI0⟩
  iapply (guard_in c)
  iapply (g_wait m K c (b := 36) (r := 0) (s := 3) (k := 16) (a := 0) (e := 8) (Or.inr (Or.inl ⟨rfl, by decide⟩)) (by decide) (by decide) (by decide) (by decide) (wcond (s := 3) (by decide) c) (fun _ => sem_rsR (r := 0) (s := 3) (by decide) (by decide) rfl) (fun _ => rfl)) $$ [HB RI0]
  · isplitl [HB]; · iexact HB
    iexact RI0
  iintro ⟨HB, RI0⟩
  iapply (guard_in c)
  iapply (g_wait m K c (b := 36) (r := 0) (s := 4) (k := 16) (a := 0) (e := 8) (Or.inr (Or.inl ⟨rfl, by decide⟩)) (by decide) (by decide) (by decide) (by decide) (wcond (s := 4) (by decide) c) (fun _ => sem_rsR (r := 0) (s := 4) (by decide) (by decide) rfl) (fun _ => rfl)) $$ [HB RI0]
  · isplitl [HB]; · iexact HB
    iexact RI0
  iintro ⟨HB, RI0⟩
  iapply (guard_in c)
  iapply (g_wait m K c (b := 36) (r := 0) (s := 5) (k := 16) (a := 0) (e := 8) (Or.inr (Or.inl ⟨rfl, by decide⟩)) (by decide) (by decide) (by decide) (by decide) (wcond (s := 5) (by decide) c) (fun _ => sem_rsR (r := 0) (s := 5) (by decide) (by decide) rfl) (fun _ => rfl)) $$ [HB RI0]
  · isplitl [HB]; · iexact HB
    iexact RI0
  iintro ⟨HB, RI0⟩
  iapply (guard_in c)
  iapply (g_wait m K c (b := 36) (r := 0) (s := 6) (k := 16) (a := 0) (e := 8) (Or.inr (Or.inl ⟨rfl, by decide⟩)) (by decide) (by decide) (by decide) (by decide) (wcond (s := 6) (by decide) c) (fun _ => sem_rsR (r := 0) (s := 6) (by decide) (by decide) rfl) (fun _ => rfl)) $$ [HB RI0]
  · isplitl [HB]; · iexact HB
    iexact RI0
  iintro ⟨HB, RI0⟩
  iapply (guard_in c)
  iapply (g_wait m K c (b := 36) (r := 0) (s := 7) (k := 16) (a := 0) (e := 8) (Or.inr (Or.inl ⟨rfl, by decide⟩)) (by decide) (by decide) (by decide) (by decide) (wcond (s := 7) (by decide) c) (fun _ => sem_rsR (r := 0) (s := 7) (by decide) (by decide) rfl) (fun _ => rfl)) $$ [HB RI0]
  · isplitl [HB]; · iexact HB
    iexact RI0
  iintro ⟨HB, RI0⟩
  ihave RI0 := (Entails.of_eq (prog_end (F := F) (dmIn 36 c 0) (dmOut m 36 c 0) 0 8)) $$ [RI0]
  · iexact RI0
  ihave HT := (Entails.of_eq (rs_done m c (r := 0) (by decide))) $$ [RK0 RI0]
  · isplitl [RK0]; · iexact RK0
    iexact RI0
  icases HT with ⟨RR0, ZR0⟩
  iapply (bind_in c)
  iapply (ld_rs m c (r := 0) (by decide) rfl) $$ [RR0]
  · iexact RR0
  iintro RR0
  iapply (ret_in c)
  iapply Hk
  isplitl [HB]; · iexact HB
  isplitl [ZR0]; · iexact ZR0
  iexact RR0

/-- The first layer's result is stored and sent. -/
theorem part7 {Q : _ → sProp 𝕄} :
    iprop(bas m K c 16 ∗ agE c 0 ∗ ran (agT c 0) 0 8)
      ⊢ iprop((iprop(bas m K c 23 ∗ agR m c 0 (shareDrop fullShare 8) ∗ ownG m c 0 0 8 ∗ prog (agIn m c 0) (agOut c 0) 0 7 8) -∗ Q ⟨⟩)
        -∗ WP c (k0_part7_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (k0_pay6 (gath (sv m 0) c))) Q) := by
  unfold k0_part7_skel
  iintro ⟨HB, AG0, AT0⟩ Hk
  iapply (bind_in c)
  iapply (dl_ag c (r := 0) rfl) $$ [AG0]
  · iexact AG0
  iintro %v AG0
  iapply (bind_in c)
  iapply (st_ag m c (r := 0) (by decide) rfl (av0_eq m c)) $$ [AG0]
  · iexact AG0
  iintro AG0
  ihave HT := (Entails.of_eq (ag_go m c 0)) $$ [AG0 AT0]
  · isplitl [AG0]; · iexact AG0
    iexact AT0
  icases HT with ⟨AG0, OG0, AI0⟩
  ihave AI0 := (Entails.of_eq (prog_start (F := F) (agIn m c 0) (agOut c 0) 0 8).symm) $$ [AI0]
  · iexact AI0
  iapply (guard_in c)
  iapply (g_ag m K c (r := 0) (s := 0) (i := 16) (a := 0) (e := 8) (by decide) (by decide) (by decide) (by decide) rfl (by revert c; decide) (fun _ => Fin.ext k0_dev17_eq) (fun _ => rfl) (fun _ => k0_off19_eq c) (fun _ => rfl) (fun _ => k0_off18_eq c)) $$ [HB AI0]
  · isplitl [HB]; · iexact HB
    iexact AI0
  iintro ⟨HB, AI0⟩
  iapply (guard_in c)
  iapply (g_ag m K c (r := 0) (s := 1) (i := 17) (a := 0) (e := 8) (by decide) (by decide) (by decide) (by decide) rfl (by revert c; decide) (fun _ => Fin.ext k0_dev18_eq) (fun _ => rfl) (fun _ => k0_off21_eq c) (fun _ => rfl) (fun _ => k0_off20_eq c)) $$ [HB AI0]
  · isplitl [HB]; · iexact HB
    iexact AI0
  iintro ⟨HB, AI0⟩
  iapply (guard_in c)
  iapply (g_ag m K c (r := 0) (s := 2) (i := 18) (a := 0) (e := 8) (by decide) (by decide) (by decide) (by decide) rfl (by revert c; decide) (fun _ => Fin.ext k0_dev19_eq) (fun _ => rfl) (fun _ => k0_off23_eq c) (fun _ => rfl) (fun _ => k0_off22_eq c)) $$ [HB AI0]
  · isplitl [HB]; · iexact HB
    iexact AI0
  iintro ⟨HB, AI0⟩
  iapply (guard_in c)
  iapply (g_ag m K c (r := 0) (s := 3) (i := 19) (a := 0) (e := 8) (by decide) (by decide) (by decide) (by decide) rfl (by revert c; decide) (fun _ => Fin.ext k0_dev20_eq) (fun _ => rfl) (fun _ => k0_off25_eq c) (fun _ => rfl) (fun _ => k0_off24_eq c)) $$ [HB AI0]
  · isplitl [HB]; · iexact HB
    iexact AI0
  iintro ⟨HB, AI0⟩
  iapply (guard_in c)
  iapply (g_ag m K c (r := 0) (s := 4) (i := 20) (a := 0) (e := 8) (by decide) (by decide) (by decide) (by decide) rfl (by revert c; decide) (fun _ => Fin.ext k0_dev21_eq) (fun _ => rfl) (fun _ => k0_off27_eq c) (fun _ => rfl) (fun _ => k0_off26_eq c)) $$ [HB AI0]
  · isplitl [HB]; · iexact HB
    iexact AI0
  iintro ⟨HB, AI0⟩
  iapply (guard_in c)
  iapply (g_ag m K c (r := 0) (s := 5) (i := 21) (a := 0) (e := 8) (by decide) (by decide) (by decide) (by decide) rfl (by revert c; decide) (fun _ => Fin.ext k0_dev22_eq) (fun _ => rfl) (fun _ => k0_off29_eq c) (fun _ => rfl) (fun _ => k0_off28_eq c)) $$ [HB AI0]
  · isplitl [HB]; · iexact HB
    iexact AI0
  iintro ⟨HB, AI0⟩
  iapply (g_ag m K c (r := 0) (s := 6) (i := 22) (a := 0) (e := 8) (by decide) (by decide) (by decide) (by decide) rfl (by revert c; decide) (fun _ => Fin.ext k0_dev23_eq) (fun _ => rfl) (fun _ => k0_off31_eq c) (fun _ => rfl) (fun _ => k0_off30_eq c)) $$ [HB AI0]
  · isplitl [HB]; · iexact HB
    iexact AI0
  iintro ⟨HB, AI0⟩
  iapply Hk
  isplitl [HB]; · iexact HB
  isplitl [AG0]; · iexact AG0
  isplitl [OG0]; · iexact OG0
  iexact AI0

/-- The first half of the first layer's results arrives. -/
theorem part8 {Q : _ → sProp 𝕄} :
    iprop(bas m K c 23 ∗ prog (agIn m c 0) (agOut c 0) 0 7 8 ∗ ran (poss 60 c 0) 0 8 ∗ agR m c 0 (shareDrop fullShare 8) ∗ acSlotE c 0 c.val ∗ cr c 3 ∗ ps c 3 ∗ cr c 4 ∗ ps c 4 ∗ ran (dmIn 84 c 0) 0 4)
      ⊢ iprop((iprop(bas m K c 24 ∗ ran (dmIn 60 c 0) 0 8 ∗ agR m c 0 (shareDrop fullShare 8) ∗ ownC m c 0 4 8 ∗ sz c 3 ∗ wvP m c 1 0 1024 ∗ sz c 4 ∗ ovP m c 1 0 1024 ∗ acR m c 0 0 4 ∗ ran (sems 84 c 0) 0 4) -∗ Q ⟨⟩)
        -∗ WP c (k0_part8_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c)) Q) := by
  unfold k0_part8_skel
  iintro ⟨HB, AI0, PG0, AG0, CK0, CR3, PS3, CR4, PS4, CI0a⟩ Hk
  iapply (guard_in c)
  iapply (g_ag m K c (r := 0) (s := 7) (i := 23) (a := 0) (e := 8) (by decide) (by decide) (by decide) (by decide) rfl (by revert c; decide) (fun _ => Fin.ext k0_dev24_eq) (fun _ => rfl) (fun _ => k0_off33_eq c) (fun _ => rfl) (fun _ => k0_off32_eq c)) $$ [HB AI0]
  · isplitl [HB]; · iexact HB
    iexact AI0
  iintro ⟨HB, AI0⟩
  ihave AI0 := (Entails.of_eq (prog_end (F := F) (agIn m c 0) (agOut c 0) 0 8)) $$ [AI0]
  · iexact AI0
  ihave GW0 := (Entails.of_eq (ag_sent (F := F) c 0)) $$ [AI0 PG0]
  · isplitl [AI0]; · iexact AI0
    iexact PG0
  iapply (bind_in c)
  iapply (ld_ag m c (r := 0) (by decide) (q := shareDrop fullShare 8) rfl) $$ [AG0]
  · iexact AG0
  iintro AG0
  iapply (bind_in c)
  iapply (dl_ac c (r := 0) (k0_off34_eq c)) $$ [CK0]
  · iexact CK0
  iintro %v CK0
  iapply (bind_in c)
  iapply (st_ac m c (r := 0) (by decide) (k0_off34_eq c) (pay8_eq (av m 0 c)).symm) $$ [CK0]
  · iexact CK0
  iintro CK0
  ihave HT := (Entails.of_eq (ownC_halves m c 0)) $$ [CK0]
  · iexact CK0
  icases HT with ⟨OC0a, OC0b⟩
  iapply (bind_in c)
  iapply (lwait m K c (n := 3) (k := 24) (by decide) (by decide) (sem7 (r := 1) (s := 0) (by decide) (by decide) rfl) amt_3.symm) $$ [HB CR3 PS3]
  · isplitl [HB]; · iexact HB
    isplitl [CR3]; · iexact CR3
    iexact PS3
  iintro ⟨HB, W1, SZ3⟩
  ihave W1 := (Entails.of_eq (locPay_3 m c)) $$ [W1]
  · iexact W1
  iapply (bind_in c)
  iapply (lwait m K c (n := 4) (k := 24) (by decide) (by decide) (sem7 (r := 1) (s := 1) (by decide) (by decide) rfl) amt_4.symm) $$ [HB CR4 PS4]
  · isplitl [HB]; · iexact HB
    isplitl [CR4]; · iexact CR4
    iexact PS4
  iintro ⟨HB, O1, SZ4⟩
  ihave O1 := (Entails.of_eq (locPay_4 m c)) $$ [O1]
  · iexact O1
  ihave CI0a := (Entails.of_eq (prog_start (F := F) (dmIn 84 c 0) (dmOut m 84 c 0) 0 4).symm) $$ [CI0a]
  · iexact CI0a
  iapply (guard_in c)
  iapply (g_wait m K c (b := 84) (r := 0) (s := 0) (k := 24) (a := 0) (e := 4) (Or.inr (Or.inr (Or.inr ⟨rfl, by decide⟩))) (by decide) (by decide) (by decide) (by decide) (wcond (s := 0) (by decide) c) (fun _ => sem_agR (r := 0) (s := 0) (by decide) (by decide) rfl) (fun _ => rfl)) $$ [HB CI0a]
  · isplitl [HB]; · iexact HB
    iexact CI0a
  iintro ⟨HB, CI0a⟩
  iapply (guard_in c)
  iapply (g_wait m K c (b := 84) (r := 0) (s := 1) (k := 24) (a := 0) (e := 4) (Or.inr (Or.inr (Or.inr ⟨rfl, by decide⟩))) (by decide) (by decide) (by decide) (by decide) (wcond (s := 1) (by decide) c) (fun _ => sem_agR (r := 0) (s := 1) (by decide) (by decide) rfl) (fun _ => rfl)) $$ [HB CI0a]
  · isplitl [HB]; · iexact HB
    iexact CI0a
  iintro ⟨HB, CI0a⟩
  iapply (guard_in c)
  iapply (g_wait m K c (b := 84) (r := 0) (s := 2) (k := 24) (a := 0) (e := 4) (Or.inr (Or.inr (Or.inr ⟨rfl, by decide⟩))) (by decide) (by decide) (by decide) (by decide) (wcond (s := 2) (by decide) c) (fun _ => sem_agR (r := 0) (s := 2) (by decide) (by decide) rfl) (fun _ => rfl)) $$ [HB CI0a]
  · isplitl [HB]; · iexact HB
    iexact CI0a
  iintro ⟨HB, CI0a⟩
  iapply (g_wait m K c (b := 84) (r := 0) (s := 3) (k := 24) (a := 0) (e := 4) (Or.inr (Or.inr (Or.inr ⟨rfl, by decide⟩))) (by decide) (by decide) (by decide) (by decide) (wcond (s := 3) (by decide) c) (fun _ => sem_agR (r := 0) (s := 3) (by decide) (by decide) rfl) (fun _ => rfl)) $$ [HB CI0a]
  · isplitl [HB]; · iexact HB
    iexact CI0a
  iintro ⟨HB, CI0a⟩
  ihave CI0a := (Entails.of_eq (prog_end (F := F) (dmIn 84 c 0) (dmOut m 84 c 0) 0 4)) $$ [CI0a]
  · iexact CI0a
  ihave HT := (Entails.of_eq (ac_done m c (r := 0) (a := 0) (e := 4) (by decide) (by decide))) $$ [OC0a CI0a]
  · isplitl [OC0a]; · iexact OC0a
    iexact CI0a
  icases HT with ⟨AC0a, ZC0a⟩
  iapply Hk
  isplitl [HB]; · iexact HB
  isplitl [GW0]; · iexact GW0
  isplitl [AG0]; · iexact AG0
  isplitl [OC0b]; · iexact OC0b
  isplitl [SZ3]; · iexact SZ3
  isplitl [W1]; · iexact W1
  isplitl [SZ4]; · iexact SZ4
  isplitl [O1]; · iexact O1
  isplitl [AC0a]; · iexact AC0a
  iexact ZC0a

/-- The second layer on the first half, and its sends. -/
theorem part9 {Q : _ → sProp 𝕄} :
    iprop(bas m K c 24 ∗ acR m c 0 0 4 ∗ wvP m c 1 0 1024 ∗ ovP m c 1 0 1024 ∗ sbE c 1 0 4 ∗ ran (rsT c 1) 0 4)
      ⊢ iprop((iprop(bas m K c 28 ∗ acR m c 0 0 4 ∗ wvP m c 1 0 1024 ∗ ovP m c 1 0 1024 ∗ ownS m c 1 0 4 ∗ ran (rsOut c 1) 0 4) -∗ Q (Scalar.cmpi .ne (mw c) 4#32))
        -∗ WP c (k0_part9_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c)) Q) := by
  unfold k0_part9_skel
  iintro ⟨HB, AC0a, W1, O1, SB1a, RT1a⟩ Hk
  iapply (bind_in c)
  iapply (l_g0lo m c) $$ [AC0a]
  · iexact AC0a
  iintro AC0a
  iapply (bind_in c)
  iapply (l_wRow m c 1 rfl) $$ [W1]
  · iexact W1
  iintro W1
  iapply (bind_in c)
  iapply (l_oRow m c 1 rfl) $$ [O1]
  · iexact O1
  iintro O1
  iapply (bind_in c)
  iapply (dl_sb c (r := 1) (lo := 0) (w := 4) rfl) $$ [SB1a]
  · iexact SB1a
  iintro %v SB1a
  iapply (bind_in c)
  iapply (s_sv1lo m c) $$ [SB1a]
  · iexact SB1a
  iintro SB1a
  ihave HT := (Entails.of_eq (sb_go m c 1 0 4)) $$ [SB1a RT1a]
  · isplitl [SB1a]; · iexact SB1a
    iexact RT1a
  icases HT with ⟨OS1a, RS1a⟩
  ihave RS1a := (Entails.of_eq (prog_start (F := F) (rsIn m c 1) (rsOut c 1) 0 4).symm) $$ [RS1a]
  · iexact RS1a
  iapply (guard_in c)
  iapply (g_rs m K c (r := 1) (s := 0) (i := 24) (a := 0) (e := 4) (by decide) (by decide) (by decide) (by decide) rfl (by revert c; decide) (fun _ => Fin.ext k0_dev25_eq) (fun _ => rfl) (fun _ => k0_off36_eq c) (fun _ => rfl) (fun _ => k0_off35_eq c)) $$ [HB RS1a]
  · isplitl [HB]; · iexact HB
    iexact RS1a
  iintro ⟨HB, RS1a⟩
  iapply (guard_in c)
  iapply (g_rs m K c (r := 1) (s := 1) (i := 25) (a := 0) (e := 4) (by decide) (by decide) (by decide) (by decide) rfl (by revert c; decide) (fun _ => Fin.ext k0_dev26_eq) (fun _ => rfl) (fun _ => k0_off38_eq c) (fun _ => rfl) (fun _ => k0_off37_eq c)) $$ [HB RS1a]
  · isplitl [HB]; · iexact HB
    iexact RS1a
  iintro ⟨HB, RS1a⟩
  iapply (guard_in c)
  iapply (g_rs m K c (r := 1) (s := 2) (i := 26) (a := 0) (e := 4) (by decide) (by decide) (by decide) (by decide) rfl (by revert c; decide) (fun _ => Fin.ext k0_dev27_eq) (fun _ => rfl) (fun _ => k0_off40_eq c) (fun _ => rfl) (fun _ => k0_off39_eq c)) $$ [HB RS1a]
  · isplitl [HB]; · iexact HB
    iexact RS1a
  iintro ⟨HB, RS1a⟩
  iapply (guard_in c)
  iapply (g_rs m K c (r := 1) (s := 3) (i := 27) (a := 0) (e := 4) (by decide) (by decide) (by decide) (by decide) rfl (by revert c; decide) (fun _ => Fin.ext k0_dev28_eq) (fun _ => rfl) (fun _ => k0_off42_eq c) (fun _ => rfl) (fun _ => k0_off41_eq c)) $$ [HB RS1a]
  · isplitl [HB]; · iexact HB
    iexact RS1a
  iintro ⟨HB, RS1a⟩
  ihave RS1a := (Entails.of_eq (prog_end (F := F) (rsIn m c 1) (rsOut c 1) 0 4)) $$ [RS1a]
  · iexact RS1a
  iapply (ret_in c)
  iapply Hk
  isplitl [HB]; · iexact HB
  isplitl [AC0a]; · iexact AC0a
  isplitl [W1]; · iexact W1
  isplitl [O1]; · iexact O1
  isplitl [OS1a]; · iexact OS1a
  iexact RS1a

end Cert.P
-- ==== Proof.PartsC.lean ====
/-
The kernel, through the second layer.
-/
module

public import proofs.«01_k».proof.Proof.Glue

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ) (c : Dev nD)

/-- The second half arrives, and the second layer on it. -/
theorem part10 {Q : _ → sProp 𝕄} :
    iprop(bas m K c 28 ∗ ran (dmIn 84 c 0) 4 8 ∗ ownC m c 0 4 8 ∗ wvP m c 1 0 1024 ∗ ovP m c 1 0 1024 ∗ sbE c 1 4 8)
      ⊢ iprop((iprop(bas m K c 28 ∗ ran (sems 84 c 0) 4 8 ∗ acR m c 0 4 8 ∗ wvP m c 1 0 1024 ∗ ovP m c 1 0 1024 ∗ sbR m c 1 4 8) -∗ Q (Scalar.extui (Scalar.cmpi .ne (mw c) 4#32)))
        -∗ WP c (k0_part10_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 (mw c) (Scalar.cmpi .ne (mw c) 4#32)) Q) := by
  unfold k0_part10_skel
  iintro ⟨HB, CI0b, OC0b, W1, O1, SB1b⟩ Hk
  ihave CI0b := (Entails.of_eq (prog_start (F := F) (dmIn 84 c 0) (dmOut m 84 c 0) 4 8).symm) $$ [CI0b]
  · iexact CI0b
  iapply (guard_in c)
  iapply (g_wait m K c (b := 84) (r := 0) (s := 4) (k := 28) (a := 4) (e := 8) (Or.inr (Or.inr (Or.inr ⟨rfl, by decide⟩))) (by decide) (by decide) (by decide) (by decide) (wcond (s := 4) (by decide) c) (fun _ => sem_agR (r := 0) (s := 4) (by decide) (by decide) rfl) (fun _ => rfl)) $$ [HB CI0b]
  · isplitl [HB]; · iexact HB
    iexact CI0b
  iintro ⟨HB, CI0b⟩
  iapply (guard_in c)
  iapply (g_wait m K c (b := 84) (r := 0) (s := 5) (k := 28) (a := 4) (e := 8) (Or.inr (Or.inr (Or.inr ⟨rfl, by decide⟩))) (by decide) (by decide) (by decide) (by decide) (wcond (s := 5) (by decide) c) (fun _ => sem_agR (r := 0) (s := 5) (by decide) (by decide) rfl) (fun _ => rfl)) $$ [HB CI0b]
  · isplitl [HB]; · iexact HB
    iexact CI0b
  iintro ⟨HB, CI0b⟩
  iapply (guard_in c)
  iapply (g_wait m K c (b := 84) (r := 0) (s := 6) (k := 28) (a := 4) (e := 8) (Or.inr (Or.inr (Or.inr ⟨rfl, by decide⟩))) (by decide) (by decide) (by decide) (by decide) (wcond (s := 6) (by decide) c) (fun _ => sem_agR (r := 0) (s := 6) (by decide) (by decide) rfl) (fun _ => rfl)) $$ [HB CI0b]
  · isplitl [HB]; · iexact HB
    iexact CI0b
  iintro ⟨HB, CI0b⟩
  iapply (guard_in c)
  iapply (g_wait m K c (b := 84) (r := 0) (s := 7) (k := 28) (a := 4) (e := 8) (Or.inr (Or.inr (Or.inr ⟨rfl, by decide⟩))) (by decide) (by decide) (by decide) (by decide) (wcond (s := 7) (by decide) c) (fun _ => sem_agR (r := 0) (s := 7) (by decide) (by decide) rfl) (fun _ => rfl)) $$ [HB CI0b]
  · isplitl [HB]; · iexact HB
    iexact CI0b
  iintro ⟨HB, CI0b⟩
  ihave CI0b := (Entails.of_eq (prog_end (F := F) (dmIn 84 c 0) (dmOut m 84 c 0) 4 8)) $$ [CI0b]
  · iexact CI0b
  ihave HT := (Entails.of_eq (ac_done m c (r := 0) (a := 4) (e := 8) (by decide) (by decide))) $$ [OC0b CI0b]
  · isplitl [OC0b]; · iexact OC0b
    iexact CI0b
  icases HT with ⟨AC0b, ZC0b⟩
  iapply (bind_in c)
  iapply (l_g0hi m c) $$ [AC0b]
  · iexact AC0b
  iintro AC0b
  iapply (bind_in c)
  iapply (l_wRow m c 1 rfl) $$ [W1]
  · iexact W1
  iintro W1
  iapply (bind_in c)
  iapply (l_oRow m c 1 rfl) $$ [O1]
  · iexact O1
  iintro O1
  iapply (bind_in c)
  iapply (dl_sb c (r := 1) (lo := 4) (w := 4) rfl) $$ [SB1b]
  · iexact SB1b
  iintro %v SB1b
  iapply (bind_in c)
  iapply (s_sv1hi m c) $$ [SB1b]
  · iexact SB1b
  iintro SB1b
  iapply (ret_in c)
  iapply Hk
  isplitl [HB]; · iexact HB
  isplitl [ZC0b]; · iexact ZC0b
  isplitl [AC0b]; · iexact AC0b
  isplitl [W1]; · iexact W1
  isplitl [O1]; · iexact O1
  iexact SB1b

/-- The second layer's other sends, and its first receives. -/
theorem part11 {Q : _ → sProp 𝕄} :
    iprop(bas m K c 28 ∗ sbR m c 1 4 8 ∗ ran (rsT c 1) 4 8 ∗ ownS m c 1 0 4 ∗ ran (rsOut c 1) 0 4 ∗ ran (poss 12 c 1) 0 8 ∗ rsSlotE c 1 c.val ∗ ran (dmIn 36 c 1) 0 8)
      ⊢ iprop((iprop(bas m K c 32 ∗ ran (dmIn 12 c 1) 0 8 ∗ sbSlot m c 1 c.val ∗ rsSlot m c 1 c.val ∗ prog (dmIn 36 c 1) (dmOut m 36 c 1) 0 4 8) -∗ Q 4#32)
        -∗ WP c (k0_part11_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (Scalar.extui (Scalar.cmpi .ne (mw c) 4#32))) Q) := by
  unfold k0_part11_skel
  iintro ⟨HB, SB1b, RT1b, OS1a, RS1a, PW1, RK1, RI1⟩ Hk
  ihave HT := (Entails.of_eq (sb_go m c 1 4 8)) $$ [SB1b RT1b]
  · isplitl [SB1b]; · iexact SB1b
    iexact RT1b
  icases HT with ⟨OS1b, RS1b⟩
  ihave RS1b := (Entails.of_eq (prog_start (F := F) (rsIn m c 1) (rsOut c 1) 4 8).symm) $$ [RS1b]
  · iexact RS1b
  iapply (guard_in c)
  iapply (g_rs m K c (r := 1) (s := 4) (i := 28) (a := 4) (e := 8) (by decide) (by decide) (by decide) (by decide) rfl (by revert c; decide) (fun _ => Fin.ext k0_dev29_eq) (fun _ => rfl) (fun _ => k0_off44_eq c) (fun _ => rfl) (fun _ => k0_off43_eq c)) $$ [HB RS1b]
  · isplitl [HB]; · iexact HB
    iexact RS1b
  iintro ⟨HB, RS1b⟩
  iapply (guard_in c)
  iapply (g_rs m K c (r := 1) (s := 5) (i := 29) (a := 4) (e := 8) (by decide) (by decide) (by decide) (by decide) rfl (by revert c; decide) (fun _ => Fin.ext k0_dev30_eq) (fun _ => rfl) (fun _ => k0_off46_eq c) (fun _ => rfl) (fun _ => k0_off45_eq c)) $$ [HB RS1b]
  · isplitl [HB]; · iexact HB
    iexact RS1b
  iintro ⟨HB, RS1b⟩
  iapply (guard_in c)
  iapply (g_rs m K c (r := 1) (s := 6) (i := 30) (a := 4) (e := 8) (by decide) (by decide) (by decide) (by decide) rfl (by revert c; decide) (fun _ => Fin.ext k0_dev31_eq) (fun _ => rfl) (fun _ => k0_off48_eq c) (fun _ => rfl) (fun _ => k0_off47_eq c)) $$ [HB RS1b]
  · isplitl [HB]; · iexact HB
    iexact RS1b
  iintro ⟨HB, RS1b⟩
  iapply (guard_in c)
  iapply (g_rs m K c (r := 1) (s := 7) (i := 31) (a := 4) (e := 8) (by decide) (by decide) (by decide) (by decide) rfl (by revert c; decide) (fun _ => Fin.ext k0_dev32_eq) (fun _ => rfl) (fun _ => k0_off50_eq c) (fun _ => rfl) (fun _ => k0_off49_eq c)) $$ [HB RS1b]
  · isplitl [HB]; · iexact HB
    iexact RS1b
  iintro ⟨HB, RS1b⟩
  ihave RS1b := (Entails.of_eq (prog_end (F := F) (rsIn m c 1) (rsOut c 1) 4 8)) $$ [RS1b]
  · iexact RS1b
  ihave OS1 := (Entails.of_eq (ownS_halves m c 1)) $$ [OS1a OS1b]
  · isplitl [OS1a]; · iexact OS1a
    iexact OS1b
  ihave RW1 := (Entails.of_eq (rs_sent3 (F := F) c 1)) $$ [RS1a RS1b PW1]
  · isplitl [RS1a]; · iexact RS1a
    isplitl [RS1b]; · iexact RS1b
    iexact PW1
  iapply (bind_in c)
  iapply (ld_sb m c (r := 1) (by decide) (k0_off51_eq c)) $$ [OS1]
  · iexact OS1
  iintro OS1
  iapply (bind_in c)
  iapply (dl_rs c (r := 1) (k0_off51_eq c)) $$ [RK1]
  · iexact RK1
  iintro %v RK1
  iapply (bind_in c)
  iapply (st_rs m c (r := 1) (by decide) (k0_off51_eq c) (pay11_eq (sbOwn m c 1)).symm) $$ [RK1]
  · iexact RK1
  iintro RK1
  ihave RI1 := (Entails.of_eq (prog_start (F := F) (dmIn 36 c 1) (dmOut m 36 c 1) 0 8).symm) $$ [RI1]
  · iexact RI1
  iapply (guard_in c)
  iapply (g_wait m K c (b := 36) (r := 1) (s := 0) (k := 32) (a := 0) (e := 8) (Or.inr (Or.inl ⟨rfl, by decide⟩)) (by decide) (by decide) (by decide) (by decide) (wcond (s := 0) (by decide) c) (fun _ => sem_rsR (r := 1) (s := 0) (by decide) (by decide) rfl) (fun _ => rfl)) $$ [HB RI1]
  · isplitl [HB]; · iexact HB
    iexact RI1
  iintro ⟨HB, RI1⟩
  iapply (guard_in c)
  iapply (g_wait m K c (b := 36) (r := 1) (s := 1) (k := 32) (a := 0) (e := 8) (Or.inr (Or.inl ⟨rfl, by decide⟩)) (by decide) (by decide) (by decide) (by decide) (wcond (s := 1) (by decide) c) (fun _ => sem_rsR (r := 1) (s := 1) (by decide) (by decide) rfl) (fun _ => rfl)) $$ [HB RI1]
  · isplitl [HB]; · iexact HB
    iexact RI1
  iintro ⟨HB, RI1⟩
  iapply (guard_in c)
  iapply (g_wait m K c (b := 36) (r := 1) (s := 2) (k := 32) (a := 0) (e := 8) (Or.inr (Or.inl ⟨rfl, by decide⟩)) (by decide) (by decide) (by decide) (by decide) (wcond (s := 2) (by decide) c) (fun _ => sem_rsR (r := 1) (s := 2) (by decide) (by decide) rfl) (fun _ => rfl)) $$ [HB RI1]
  · isplitl [HB]; · iexact HB
    iexact RI1
  iintro ⟨HB, RI1⟩
  iapply (guard_in c)
  iapply (g_wait m K c (b := 36) (r := 1) (s := 3) (k := 32) (a := 0) (e := 8) (Or.inr (Or.inl ⟨rfl, by decide⟩)) (by decide) (by decide) (by decide) (by decide) (wcond (s := 3) (by decide) c) (fun _ => sem_rsR (r := 1) (s := 3) (by decide) (by decide) rfl) (fun _ => rfl)) $$ [HB RI1]
  · isplitl [HB]; · iexact HB
    iexact RI1
  iintro ⟨HB, RI1⟩
  iapply (ret_in c)
  iapply Hk
  isplitl [HB]; · iexact HB
  isplitl [RW1]; · iexact RW1
  isplitl [OS1]; · iexact OS1
  isplitl [RK1]; · iexact RK1
  iexact RI1

/-- The second layer's partial sums are added up; the sum is sent. -/
theorem part12 {Q : _ → sProp 𝕄} :
    iprop(bas m K c 32 ∗ prog (dmIn 36 c 1) (dmOut m 36 c 1) 0 4 8 ∗ rsSlot m c 1 c.val ∗ agE c 1 ∗ ran (agT c 1) 0 8)
      ⊢ iprop((iprop(bas m K c 35 ∗ ran (sems 36 c 1) 0 8 ∗ rsR m c 1 0 8 ∗ agR m c 1 (shareDrop fullShare 8) ∗ ownG m c 1 0 8 ∗ prog (agIn m c 1) (agOut c 1) 0 3 8) -∗ Q ⟨⟩)
        -∗ WP c (k0_part12_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) 4#32) Q) := by
  unfold k0_part12_skel
  iintro ⟨HB, RI1, RK1, AG1, AT1⟩ Hk
  iapply (guard_in c)
  iapply (g_wait m K c (b := 36) (r := 1) (s := 4) (k := 32) (a := 0) (e := 8) (Or.inr (Or.inl ⟨rfl, by decide⟩)) (by decide) (by decide) (by decide) (by decide) (wcond (s := 4) (by decide) c) (fun _ => sem_rsR (r := 1) (s := 4) (by decide) (by decide) rfl) (fun _ => rfl)) $$ [HB RI1]
  · isplitl [HB]; · iexact HB
    iexact RI1
  iintro ⟨HB, RI1⟩
  iapply (guard_in c)
  iapply (g_wait m K c (b := 36) (r := 1) (s := 5) (k := 32) (a := 0) (e := 8) (Or.inr (Or.inl ⟨rfl, by decide⟩)) (by decide) (by decide) (by decide) (by decide) (wcond (s := 5) (by decide) c) (fun _ => sem_rsR (r := 1) (s := 5) (by decide) (by decide) rfl) (fun _ => rfl)) $$ [HB RI1]
  · isplitl [HB]; · iexact HB
    iexact RI1
  iintro ⟨HB, RI1⟩
  iapply (guard_in c)
  iapply (g_wait m K c (b := 36) (r := 1) (s := 6) (k := 32) (a := 0) (e := 8) (Or.inr (Or.inl ⟨rfl, by decide⟩)) (by decide) (by decide) (by decide) (by decide) (wcond (s := 6) (by decide) c) (fun _ => sem_rsR (r := 1) (s := 6) (by decide) (by decide) rfl) (fun _ => rfl)) $$ [HB RI1]
  · isplitl [HB]; · iexact HB
    iexact RI1
  iintro ⟨HB, RI1⟩
  iapply (guard_in c)
  iapply (g_wait m K c (b := 36) (r := 1) (s := 7) (k := 32) (a := 0) (e := 8) (Or.inr (Or.inl ⟨rfl, by decide⟩)) (by decide) (by decide) (by decide) (by decide) (wcond (s := 7) (by decide) c) (fun _ => sem_rsR (r := 1) (s := 7) (by decide) (by decide) rfl) (fun _ => rfl)) $$ [HB RI1]
  · isplitl [HB]; · iexact HB
    iexact RI1
  iintro ⟨HB, RI1⟩
  ihave RI1 := (Entails.of_eq (prog_end (F := F) (dmIn 36 c 1) (dmOut m 36 c 1) 0 8)) $$ [RI1]
  · iexact RI1
  ihave HT := (Entails.of_eq (rs_done m c (r := 1) (by decide))) $$ [RK1 RI1]
  · isplitl [RK1]; · iexact RK1
    iexact RI1
  icases HT with ⟨RR1, ZR1⟩
  iapply (bind_in c)
  iapply (ld_rs m c (r := 1) (by decide) rfl) $$ [RR1]
  · iexact RR1
  iintro RR1
  iapply (bind_in c)
  iapply (dl_ag c (r := 1) rfl) $$ [AG1]
  · iexact AG1
  iintro %v AG1
  iapply (bind_in c)
  iapply (st_ag m c (r := 1) (by decide) rfl (av1_eq m c)) $$ [AG1]
  · iexact AG1
  iintro AG1
  ihave HT := (Entails.of_eq (ag_go m c 1)) $$ [AG1 AT1]
  · isplitl [AG1]; · iexact AG1
    iexact AT1
  icases HT with ⟨AG1, OG1, AI1⟩
  ihave AI1 := (Entails.of_eq (prog_start (F := F) (agIn m c 1) (agOut c 1) 0 8).symm) $$ [AI1]
  · iexact AI1
  iapply (guard_in c)
  iapply (g_ag m K c (r := 1) (s := 0) (i := 32) (a := 0) (e := 8) (by decide) (by decide) (by decide) (by decide) rfl (by revert c; decide) (fun _ => Fin.ext k0_dev33_eq) (fun _ => rfl) (fun _ => k0_off53_eq c) (fun _ => rfl) (fun _ => k0_off52_eq c)) $$ [HB AI1]
  · isplitl [HB]; · iexact HB
    iexact AI1
  iintro ⟨HB, AI1⟩
  iapply (guard_in c)
  iapply (g_ag m K c (r := 1) (s := 1) (i := 33) (a := 0) (e := 8) (by decide) (by decide) (by decide) (by decide) rfl (by revert c; decide) (fun _ => Fin.ext k0_dev34_eq) (fun _ => rfl) (fun _ => k0_off55_eq c) (fun _ => rfl) (fun _ => k0_off54_eq c)) $$ [HB AI1]
  · isplitl [HB]; · iexact HB
    iexact AI1
  iintro ⟨HB, AI1⟩
  iapply (g_ag m K c (r := 1) (s := 2) (i := 34) (a := 0) (e := 8) (by decide) (by decide) (by decide) (by decide) rfl (by revert c; decide) (fun _ => Fin.ext k0_dev35_eq) (fun _ => rfl) (fun _ => k0_off57_eq c) (fun _ => rfl) (fun _ => k0_off56_eq c)) $$ [HB AI1]
  · isplitl [HB]; · iexact HB
    iexact AI1
  iintro ⟨HB, AI1⟩
  iapply Hk
  isplitl [HB]; · iexact HB
  isplitl [ZR1]; · iexact ZR1
  isplitl [RR1]; · iexact RR1
  isplitl [AG1]; · iexact AG1
  isplitl [OG1]; · iexact OG1
  iexact AI1

/-- The other sends of the second layer's result. -/
theorem part13 {Q : _ → sProp 𝕄} :
    iprop(bas m K c 35 ∗ prog (agIn m c 1) (agOut c 1) 0 3 8 ∗ ran (poss 60 c 1) 0 8 ∗ agR m c 1 (shareDrop fullShare 8) ∗ acSlotE c 1 c.val ∗ cr c 5 ∗ ps c 5)
      ⊢ iprop((iprop(bas m K c 40 ∗ ran (dmIn 60 c 1) 0 8 ∗ agR m c 1 (shareDrop fullShare 8) ∗ ownC m c 1 0 4 ∗ ownC m c 1 4 8 ∗ sz c 5 ∗ wvP m c 2 0 1024) -∗ Q ⟨⟩)
        -∗ WP c (k0_part13_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c)) Q) := by
  unfold k0_part13_skel
  iintro ⟨HB, AI1, PG1, AG1, CK1, CR5, PS5⟩ Hk
  iapply (guard_in c)
  iapply (g_ag m K c (r := 1) (s := 3) (i := 35) (a := 0) (e := 8) (by decide) (by decide) (by decide) (by decide) rfl (by revert c; decide) (fun _ => Fin.ext k0_dev36_eq) (fun _ => rfl) (fun _ => k0_off59_eq c) (fun _ => rfl) (fun _ => k0_off58_eq c)) $$ [HB AI1]
  · isplitl [HB]; · iexact HB
    iexact AI1
  iintro ⟨HB, AI1⟩
  iapply (guard_in c)
  iapply (g_ag m K c (r := 1) (s := 4) (i := 36) (a := 0) (e := 8) (by decide) (by decide) (by decide) (by decide) rfl (by revert c; decide) (fun _ => Fin.ext k0_dev37_eq) (fun _ => rfl) (fun _ => k0_off61_eq c) (fun _ => rfl) (fun _ => k0_off60_eq c)) $$ [HB AI1]
  · isplitl [HB]; · iexact HB
    iexact AI1
  iintro ⟨HB, AI1⟩
  iapply (guard_in c)
  iapply (g_ag m K c (r := 1) (s := 5) (i := 37) (a := 0) (e := 8) (by decide) (by decide) (by decide) (by decide) rfl (by revert c; decide) (fun _ => Fin.ext k0_dev38_eq) (fun _ => rfl) (fun _ => k0_off63_eq c) (fun _ => rfl) (fun _ => k0_off62_eq c)) $$ [HB AI1]
  · isplitl [HB]; · iexact HB
    iexact AI1
  iintro ⟨HB, AI1⟩
  iapply (guard_in c)
  iapply (g_ag m K c (r := 1) (s := 6) (i := 38) (a := 0) (e := 8) (by decide) (by decide) (by decide) (by decide) rfl (by revert c; decide) (fun _ => Fin.ext k0_dev39_eq) (fun _ => rfl) (fun _ => k0_off65_eq c) (fun _ => rfl) (fun _ => k0_off64_eq c)) $$ [HB AI1]
  · isplitl [HB]; · iexact HB
    iexact AI1
  iintro ⟨HB, AI1⟩
  iapply (guard_in c)
  iapply (g_ag m K c (r := 1) (s := 7) (i := 39) (a := 0) (e := 8) (by decide) (by decide) (by decide) (by decide) rfl (by revert c; decide) (fun _ => Fin.ext k0_dev40_eq) (fun _ => rfl) (fun _ => k0_off67_eq c) (fun _ => rfl) (fun _ => k0_off66_eq c)) $$ [HB AI1]
  · isplitl [HB]; · iexact HB
    iexact AI1
  iintro ⟨HB, AI1⟩
  ihave AI1 := (Entails.of_eq (prog_end (F := F) (agIn m c 1) (agOut c 1) 0 8)) $$ [AI1]
  · iexact AI1
  ihave GW1 := (Entails.of_eq (ag_sent (F := F) c 1)) $$ [AI1 PG1]
  · isplitl [AI1]; · iexact AI1
    iexact PG1
  iapply (bind_in c)
  iapply (ld_ag m c (r := 1) (by decide) (q := shareDrop fullShare 8) rfl) $$ [AG1]
  · iexact AG1
  iintro AG1
  iapply (bind_in c)
  iapply (dl_ac c (r := 1) (k0_off68_eq c)) $$ [CK1]
  · iexact CK1
  iintro %v CK1
  iapply (bind_in c)
  iapply (st_ac m c (r := 1) (by decide) (k0_off68_eq c) (pay13_eq (av m 1 c)).symm) $$ [CK1]
  · iexact CK1
  iintro CK1
  ihave HT := (Entails.of_eq (ownC_halves m c 1)) $$ [CK1]
  · iexact CK1
  icases HT with ⟨OC1a, OC1b⟩
  iapply (lwait m K c (n := 5) (k := 40) (by decide) (by decide) (sem7 (r := 2) (s := 0) (by decide) (by decide) rfl) amt_5.symm) $$ [HB CR5 PS5]
  · isplitl [HB]; · iexact HB
    isplitl [CR5]; · iexact CR5
    iexact PS5
  iintro ⟨HB, W2, SZ5⟩
  ihave W2 := (Entails.of_eq (locPay_5 m c)) $$ [W2]
  · iexact W2
  iapply Hk
  isplitl [HB]; · iexact HB
  isplitl [GW1]; · iexact GW1
  isplitl [AG1]; · iexact AG1
  isplitl [OC1a]; · iexact OC1a
  isplitl [OC1b]; · iexact OC1b
  isplitl [SZ5]; · iexact SZ5
  iexact W2

/-- The first half of the second layer's results arrives; the third layer on it. -/
theorem part14 {Q : _ → sProp 𝕄} :
    iprop(bas m K c 40 ∗ cr c 6 ∗ ps c 6 ∗ ran (dmIn 84 c 1) 0 4 ∗ ownC m c 1 0 4 ∗ wvP m c 2 0 1024 ∗ sbE c 2 0 4)
      ⊢ iprop((∀ v, (iprop(bas m K c 40 ∗ sz c 6 ∗ ran (sems 84 c 1) 0 4 ∗ acR m c 1 0 4 ∗ wvP m c 2 0 1024 ∗ ovP m c 2 0 1024 ∗ sbE c 2 0 4) -∗ Q ⟨k0_pay14 (loHalf (gv1 m)) (wRow m c 2) (oRow m c 2), v⟩))
        -∗ WP c (k0_part14_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 (mw c)) Q) := by
  unfold k0_part14_skel
  iintro ⟨HB, CR6, PS6, CI1a, OC1a, W2, SB2a⟩ Hk
  iapply (bind_in c)
  iapply (lwait m K c (n := 6) (k := 40) (by decide) (by decide) (sem7 (r := 2) (s := 1) (by decide) (by decide) rfl) amt_6.symm) $$ [HB CR6 PS6]
  · isplitl [HB]; · iexact HB
    isplitl [CR6]; · iexact CR6
    iexact PS6
  iintro ⟨HB, O2, SZ6⟩
  ihave O2 := (Entails.of_eq (locPay_6 m c)) $$ [O2]
  · iexact O2
  ihave CI1a := (Entails.of_eq (prog_start (F := F) (dmIn 84 c 1) (dmOut m 84 c 1) 0 4).symm) $$ [CI1a]
  · iexact CI1a
  iapply (guard_in c)
  iapply (g_wait m K c (b := 84) (r := 1) (s := 0) (k := 40) (a := 0) (e := 4) (Or.inr (Or.inr (Or.inr ⟨rfl, by decide⟩))) (by decide) (by decide) (by decide) (by decide) (wcond (s := 0) (by decide) c) (fun _ => sem_agR (r := 1) (s := 0) (by decide) (by decide) rfl) (fun _ => rfl)) $$ [HB CI1a]
  · isplitl [HB]; · iexact HB
    iexact CI1a
  iintro ⟨HB, CI1a⟩
  iapply (guard_in c)
  iapply (g_wait m K c (b := 84) (r := 1) (s := 1) (k := 40) (a := 0) (e := 4) (Or.inr (Or.inr (Or.inr ⟨rfl, by decide⟩))) (by decide) (by decide) (by decide) (by decide) (wcond (s := 1) (by decide) c) (fun _ => sem_agR (r := 1) (s := 1) (by decide) (by decide) rfl) (fun _ => rfl)) $$ [HB CI1a]
  · isplitl [HB]; · iexact HB
    iexact CI1a
  iintro ⟨HB, CI1a⟩
  iapply (guard_in c)
  iapply (g_wait m K c (b := 84) (r := 1) (s := 2) (k := 40) (a := 0) (e := 4) (Or.inr (Or.inr (Or.inr ⟨rfl, by decide⟩))) (by decide) (by decide) (by decide) (by decide) (wcond (s := 2) (by decide) c) (fun _ => sem_agR (r := 1) (s := 2) (by decide) (by decide) rfl) (fun _ => rfl)) $$ [HB CI1a]
  · isplitl [HB]; · iexact HB
    iexact CI1a
  iintro ⟨HB, CI1a⟩
  iapply (guard_in c)
  iapply (g_wait m K c (b := 84) (r := 1) (s := 3) (k := 40) (a := 0) (e := 4) (Or.inr (Or.inr (Or.inr ⟨rfl, by decide⟩))) (by decide) (by decide) (by decide) (by decide) (wcond (s := 3) (by decide) c) (fun _ => sem_agR (r := 1) (s := 3) (by decide) (by decide) rfl) (fun _ => rfl)) $$ [HB CI1a]
  · isplitl [HB]; · iexact HB
    iexact CI1a
  iintro ⟨HB, CI1a⟩
  ihave CI1a := (Entails.of_eq (prog_end (F := F) (dmIn 84 c 1) (dmOut m 84 c 1) 0 4)) $$ [CI1a]
  · iexact CI1a
  ihave HT := (Entails.of_eq (ac_done m c (r := 1) (a := 0) (e := 4) (by decide) (by decide))) $$ [OC1a CI1a]
  · isplitl [OC1a]; · iexact OC1a
    iexact CI1a
  icases HT with ⟨AC1a, ZC1a⟩
  iapply (bind_in c)
  iapply (l_g1lo m c) $$ [AC1a]
  · iexact AC1a
  iintro AC1a
  iapply (bind_in c)
  iapply (l_wRow m c 2 rfl) $$ [W2]
  · iexact W2
  iintro W2
  iapply (bind_in c)
  iapply (l_oRow m c 2 rfl) $$ [O2]
  · iexact O2
  iintro O2
  iapply (bind_in c)
  iapply (dl_sb c (r := 2) (lo := 0) (w := 4) rfl) $$ [SB2a]
  · iexact SB2a
  iintro %v SB2a
  iapply (ret_in c)
  iapply Hk $$ %v
  isplitl [HB]; · iexact HB
  isplitl [SZ6]; · iexact SZ6
  isplitl [ZC1a]; · iexact ZC1a
  isplitl [AC1a]; · iexact AC1a
  isplitl [W2]; · iexact W2
  isplitl [O2]; · iexact O2
  iexact SB2a

end Cert.P
-- ==== Proof.PartsD.lean ====
/-
The kernel, through the third layer.
-/
module

public import proofs.«01_k».proof.Proof.Glue

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ) (c : Dev nD)

/-- The third layer's first sends; the second half of the second layer's results arrives. -/
theorem part15 {v : Vec F S1x4x8x512 .bf16} {Q : _ → sProp 𝕄} :
    iprop(bas m K c 40 ∗ sbE c 2 0 4 ∗ ran (rsT c 2) 0 4 ∗ ran (dmIn 84 c 1) 4 8 ∗ ownC m c 1 4 8)
      ⊢ iprop((iprop(bas m K c 44 ∗ ownS m c 2 0 4 ∗ ran (rsOut c 2) 0 4 ∗ ran (sems 84 c 1) 4 8 ∗ acR m c 1 4 8) -∗ Q (k0_pay16 (hiHalf (gv1 m))))
        -∗ WP c (k0_part15_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (k0_pay14 (loHalf (gv1 m)) (wRow m c 2) (oRow m c 2)) v) Q) := by
  unfold k0_part15_skel
  iintro ⟨HB, SB2a, RT2a, CI1b, OC1b⟩ Hk
  iapply (bind_in c)
  iapply (s_sv2lo m c) $$ [SB2a]
  · iexact SB2a
  iintro SB2a
  ihave HT := (Entails.of_eq (sb_go m c 2 0 4)) $$ [SB2a RT2a]
  · isplitl [SB2a]; · iexact SB2a
    iexact RT2a
  icases HT with ⟨OS2a, RS2a⟩
  ihave RS2a := (Entails.of_eq (prog_start (F := F) (rsIn m c 2) (rsOut c 2) 0 4).symm) $$ [RS2a]
  · iexact RS2a
  iapply (guard_in c)
  iapply (g_rs m K c (r := 2) (s := 0) (i := 40) (a := 0) (e := 4) (by decide) (by decide) (by decide) (by decide) rfl (by revert c; decide) (fun _ => Fin.ext k0_dev41_eq) (fun _ => rfl) (fun _ => k0_off70_eq c) (fun _ => rfl) (fun _ => k0_off69_eq c)) $$ [HB RS2a]
  · isplitl [HB]; · iexact HB
    iexact RS2a
  iintro ⟨HB, RS2a⟩
  iapply (guard_in c)
  iapply (g_rs m K c (r := 2) (s := 1) (i := 41) (a := 0) (e := 4) (by decide) (by decide) (by decide) (by decide) rfl (by revert c; decide) (fun _ => Fin.ext k0_dev42_eq) (fun _ => rfl) (fun _ => k0_off72_eq c) (fun _ => rfl) (fun _ => k0_off71_eq c)) $$ [HB RS2a]
  · isplitl [HB]; · iexact HB
    iexact RS2a
  iintro ⟨HB, RS2a⟩
  iapply (guard_in c)
  iapply (g_rs m K c (r := 2) (s := 2) (i := 42) (a := 0) (e := 4) (by decide) (by decide) (by decide) (by decide) rfl (by revert c; decide) (fun _ => Fin.ext k0_dev43_eq) (fun _ => rfl) (fun _ => k0_off74_eq c) (fun _ => rfl) (fun _ => k0_off73_eq c)) $$ [HB RS2a]
  · isplitl [HB]; · iexact HB
    iexact RS2a
  iintro ⟨HB, RS2a⟩
  iapply (guard_in c)
  iapply (g_rs m K c (r := 2) (s := 3) (i := 43) (a := 0) (e := 4) (by decide) (by decide) (by decide) (by decide) rfl (by revert c; decide) (fun _ => Fin.ext k0_dev44_eq) (fun _ => rfl) (fun _ => k0_off76_eq c) (fun _ => rfl) (fun _ => k0_off75_eq c)) $$ [HB RS2a]
  · isplitl [HB]; · iexact HB
    iexact RS2a
  iintro ⟨HB, RS2a⟩
  ihave RS2a := (Entails.of_eq (prog_end (F := F) (rsIn m c 2) (rsOut c 2) 0 4)) $$ [RS2a]
  · iexact RS2a
  ihave CI1b := (Entails.of_eq (prog_start (F := F) (dmIn 84 c 1) (dmOut m 84 c 1) 4 8).symm) $$ [CI1b]
  · iexact CI1b
  iapply (guard_in c)
  iapply (g_wait m K c (b := 84) (r := 1) (s := 4) (k := 44) (a := 4) (e := 8) (Or.inr (Or.inr (Or.inr ⟨rfl, by decide⟩))) (by decide) (by decide) (by decide) (by decide) (wcond (s := 4) (by decide) c) (fun _ => sem_agR (r := 1) (s := 4) (by decide) (by decide) rfl) (fun _ => rfl)) $$ [HB CI1b]
  · isplitl [HB]; · iexact HB
    iexact CI1b
  iintro ⟨HB, CI1b⟩
  iapply (guard_in c)
  iapply (g_wait m K c (b := 84) (r := 1) (s := 5) (k := 44) (a := 4) (e := 8) (Or.inr (Or.inr (Or.inr ⟨rfl, by decide⟩))) (by decide) (by decide) (by decide) (by decide) (wcond (s := 5) (by decide) c) (fun _ => sem_agR (r := 1) (s := 5) (by decide) (by decide) rfl) (fun _ => rfl)) $$ [HB CI1b]
  · isplitl [HB]; · iexact HB
    iexact CI1b
  iintro ⟨HB, CI1b⟩
  iapply (guard_in c)
  iapply (g_wait m K c (b := 84) (r := 1) (s := 6) (k := 44) (a := 4) (e := 8) (Or.inr (Or.inr (Or.inr ⟨rfl, by decide⟩))) (by decide) (by decide) (by decide) (by decide) (wcond (s := 6) (by decide) c) (fun _ => sem_agR (r := 1) (s := 6) (by decide) (by decide) rfl) (fun _ => rfl)) $$ [HB CI1b]
  · isplitl [HB]; · iexact HB
    iexact CI1b
  iintro ⟨HB, CI1b⟩
  iapply (guard_in c)
  iapply (g_wait m K c (b := 84) (r := 1) (s := 7) (k := 44) (a := 4) (e := 8) (Or.inr (Or.inr (Or.inr ⟨rfl, by decide⟩))) (by decide) (by decide) (by decide) (by decide) (wcond (s := 7) (by decide) c) (fun _ => sem_agR (r := 1) (s := 7) (by decide) (by decide) rfl) (fun _ => rfl)) $$ [HB CI1b]
  · isplitl [HB]; · iexact HB
    iexact CI1b
  iintro ⟨HB, CI1b⟩
  ihave CI1b := (Entails.of_eq (prog_end (F := F) (dmIn 84 c 1) (dmOut m 84 c 1) 4 8)) $$ [CI1b]
  · iexact CI1b
  ihave HT := (Entails.of_eq (ac_done m c (r := 1) (a := 4) (e := 8) (by decide) (by decide))) $$ [OC1b CI1b]
  · isplitl [OC1b]; · iexact OC1b
    iexact CI1b
  icases HT with ⟨AC1b, ZC1b⟩
  iapply (bind_in c)
  iapply (l_g1hi m c) $$ [AC1b]
  · iexact AC1b
  iintro AC1b
  iapply (ret_in c)
  iapply Hk
  isplitl [HB]; · iexact HB
  isplitl [OS2a]; · iexact OS2a
  isplitl [RS2a]; · iexact RS2a
  isplitl [ZC1b]; · iexact ZC1b
  iexact AC1b

/-- The third layer on the second half, and its sends. -/
theorem part16 {Q : _ → sProp 𝕄} :
    iprop(bas m K c 44 ∗ wvP m c 2 0 1024 ∗ ovP m c 2 0 1024 ∗ sbE c 2 4 8 ∗ ran (rsT c 2) 4 8 ∗ ownS m c 2 0 4 ∗ ran (rsOut c 2) 0 4 ∗ ran (poss 12 c 2) 0 8)
      ⊢ iprop((iprop(bas m K c 48 ∗ wvP m c 2 0 1024 ∗ ovP m c 2 0 1024 ∗ ran (dmIn 12 c 2) 0 8 ∗ sbSlot m c 2 c.val) -∗ Q (k0_pay18 (sbOwn m c 2)))
        -∗ WP c (k0_part16_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (k0_pay16 (hiHalf (gv1 m)))) Q) := by
  unfold k0_part16_skel
  iintro ⟨HB, W2, O2, SB2b, RT2b, OS2a, RS2a, PW2⟩ Hk
  iapply (bind_in c)
  iapply (l_wRow m c 2 rfl) $$ [W2]
  · iexact W2
  iintro W2
  iapply (bind_in c)
  iapply (l_oRow m c 2 rfl) $$ [O2]
  · iexact O2
  iintro O2
  iapply (bind_in c)
  iapply (dl_sb c (r := 2) (lo := 4) (w := 4) rfl) $$ [SB2b]
  · iexact SB2b
  iintro %v SB2b
  iapply (bind_in c)
  iapply (s_sv2hi m c) $$ [SB2b]
  · iexact SB2b
  iintro SB2b
  ihave HT := (Entails.of_eq (sb_go m c 2 4 8)) $$ [SB2b RT2b]
  · isplitl [SB2b]; · iexact SB2b
    iexact RT2b
  icases HT with ⟨OS2b, RS2b⟩
  ihave RS2b := (Entails.of_eq (prog_start (F := F) (rsIn m c 2) (rsOut c 2) 4 8).symm) $$ [RS2b]
  · iexact RS2b
  iapply (guard_in c)
  iapply (g_rs m K c (r := 2) (s := 4) (i := 44) (a := 4) (e := 8) (by decide) (by decide) (by decide) (by decide) rfl (by revert c; decide) (fun _ => Fin.ext k0_dev45_eq) (fun _ => rfl) (fun _ => k0_off78_eq c) (fun _ => rfl) (fun _ => k0_off77_eq c)) $$ [HB RS2b]
  · isplitl [HB]; · iexact HB
    iexact RS2b
  iintro ⟨HB, RS2b⟩
  iapply (guard_in c)
  iapply (g_rs m K c (r := 2) (s := 5) (i := 45) (a := 4) (e := 8) (by decide) (by decide) (by decide) (by decide) rfl (by revert c; decide) (fun _ => Fin.ext k0_dev46_eq) (fun _ => rfl) (fun _ => k0_off80_eq c) (fun _ => rfl) (fun _ => k0_off79_eq c)) $$ [HB RS2b]
  · isplitl [HB]; · iexact HB
    iexact RS2b
  iintro ⟨HB, RS2b⟩
  iapply (guard_in c)
  iapply (g_rs m K c (r := 2) (s := 6) (i := 46) (a := 4) (e := 8) (by decide) (by decide) (by decide) (by decide) rfl (by revert c; decide) (fun _ => Fin.ext k0_dev47_eq) (fun _ => rfl) (fun _ => k0_off82_eq c) (fun _ => rfl) (fun _ => k0_off81_eq c)) $$ [HB RS2b]
  · isplitl [HB]; · iexact HB
    iexact RS2b
  iintro ⟨HB, RS2b⟩
  iapply (guard_in c)
  iapply (g_rs m K c (r := 2) (s := 7) (i := 47) (a := 4) (e := 8) (by decide) (by decide) (by decide) (by decide) rfl (by revert c; decide) (fun _ => Fin.ext k0_dev48_eq) (fun _ => rfl) (fun _ => k0_off84_eq c) (fun _ => rfl) (fun _ => k0_off83_eq c)) $$ [HB RS2b]
  · isplitl [HB]; · iexact HB
    iexact RS2b
  iintro ⟨HB, RS2b⟩
  ihave RS2b := (Entails.of_eq (prog_end (F := F) (rsIn m c 2) (rsOut c 2) 4 8)) $$ [RS2b]
  · iexact RS2b
  ihave OS2 := (Entails.of_eq (ownS_halves m c 2)) $$ [OS2a OS2b]
  · isplitl [OS2a]; · iexact OS2a
    iexact OS2b
  ihave RW2 := (Entails.of_eq (rs_sent3 (F := F) c 2)) $$ [RS2a RS2b PW2]
  · isplitl [RS2a]; · iexact RS2a
    isplitl [RS2b]; · iexact RS2b
    iexact PW2
  iapply (bind_in c)
  iapply (ld_sb m c (r := 2) (by decide) (k0_off85_eq c)) $$ [OS2]
  · iexact OS2
  iintro OS2
  iapply (ret_in c)
  iapply Hk
  isplitl [HB]; · iexact HB
  isplitl [W2]; · iexact W2
  isplitl [O2]; · iexact O2
  isplitl [RW2]; · iexact RW2
  iexact OS2

/-- The third layer's partial sums are received and added up. -/
theorem part17 {Q : _ → sProp 𝕄} :
    iprop(bas m K c 48 ∗ rsSlotE c 2 c.val ∗ ran (dmIn 36 c 2) 0 8)
      ⊢ iprop((iprop(bas m K c 48 ∗ ran (sems 36 c 2) 0 8 ∗ rsR m c 2 0 8) -∗ Q (k0_pay20 (gath (sv m 2) c)))
        -∗ WP c (k0_part17_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (k0_pay18 (sbOwn m c 2))) Q) := by
  unfold k0_part17_skel
  iintro ⟨HB, RK2, RI2⟩ Hk
  iapply (bind_in c)
  iapply (dl_rs c (r := 2) (k0_off85_eq c)) $$ [RK2]
  · iexact RK2
  iintro %v RK2
  iapply (bind_in c)
  iapply (st_rs m c (r := 2) (by decide) (k0_off85_eq c) (pay19_eq (sbOwn m c 2)).symm) $$ [RK2]
  · iexact RK2
  iintro RK2
  ihave RI2 := (Entails.of_eq (prog_start (F := F) (dmIn 36 c 2) (dmOut m 36 c 2) 0 8).symm) $$ [RI2]
  · iexact RI2
  iapply (guard_in c)
  iapply (g_wait m K c (b := 36) (r := 2) (s := 0) (k := 48) (a := 0) (e := 8) (Or.inr (Or.inl ⟨rfl, by decide⟩)) (by decide) (by decide) (by decide) (by decide) (wcond (s := 0) (by decide) c) (fun _ => sem_rsR (r := 2) (s := 0) (by decide) (by decide) rfl) (fun _ => rfl)) $$ [HB RI2]
  · isplitl [HB]; · iexact HB
    iexact RI2
  iintro ⟨HB, RI2⟩
  iapply (guard_in c)
  iapply (g_wait m K c (b := 36) (r := 2) (s := 1) (k := 48) (a := 0) (e := 8) (Or.inr (Or.inl ⟨rfl, by decide⟩)) (by decide) (by decide) (by decide) (by decide) (wcond (s := 1) (by decide) c) (fun _ => sem_rsR (r := 2) (s := 1) (by decide) (by decide) rfl) (fun _ => rfl)) $$ [HB RI2]
  · isplitl [HB]; · iexact HB
    iexact RI2
  iintro ⟨HB, RI2⟩
  iapply (guard_in c)
  iapply (g_wait m K c (b := 36) (r := 2) (s := 2) (k := 48) (a := 0) (e := 8) (Or.inr (Or.inl ⟨rfl, by decide⟩)) (by decide) (by decide) (by decide) (by decide) (wcond (s := 2) (by decide) c) (fun _ => sem_rsR (r := 2) (s := 2) (by decide) (by decide) rfl) (fun _ => rfl)) $$ [HB RI2]
  · isplitl [HB]; · iexact HB
    iexact RI2
  iintro ⟨HB, RI2⟩
  iapply (guard_in c)
  iapply (g_wait m K c (b := 36) (r := 2) (s := 3) (k := 48) (a := 0) (e := 8) (Or.inr (Or.inl ⟨rfl, by decide⟩)) (by decide) (by decide) (by decide) (by decide) (wcond (s := 3) (by decide) c) (fun _ => sem_rsR (r := 2) (s := 3) (by decide) (by decide) rfl) (fun _ => rfl)) $$ [HB RI2]
  · isplitl [HB]; · iexact HB
    iexact RI2
  iintro ⟨HB, RI2⟩
  iapply (guard_in c)
  iapply (g_wait m K c (b := 36) (r := 2) (s := 4) (k := 48) (a := 0) (e := 8) (Or.inr (Or.inl ⟨rfl, by decide⟩)) (by decide) (by decide) (by decide) (by decide) (wcond (s := 4) (by decide) c) (fun _ => sem_rsR (r := 2) (s := 4) (by decide) (by decide) rfl) (fun _ => rfl)) $$ [HB RI2]
  · isplitl [HB]; · iexact HB
    iexact RI2
  iintro ⟨HB, RI2⟩
  iapply (guard_in c)
  iapply (g_wait m K c (b := 36) (r := 2) (s := 5) (k := 48) (a := 0) (e := 8) (Or.inr (Or.inl ⟨rfl, by decide⟩)) (by decide) (by decide) (by decide) (by decide) (wcond (s := 5) (by decide) c) (fun _ => sem_rsR (r := 2) (s := 5) (by decide) (by decide) rfl) (fun _ => rfl)) $$ [HB RI2]
  · isplitl [HB]; · iexact HB
    iexact RI2
  iintro ⟨HB, RI2⟩
  iapply (guard_in c)
  iapply (g_wait m K c (b := 36) (r := 2) (s := 6) (k := 48) (a := 0) (e := 8) (Or.inr (Or.inl ⟨rfl, by decide⟩)) (by decide) (by decide) (by decide) (by decide) (wcond (s := 6) (by decide) c) (fun _ => sem_rsR (r := 2) (s := 6) (by decide) (by decide) rfl) (fun _ => rfl)) $$ [HB RI2]
  · isplitl [HB]; · iexact HB
    iexact RI2
  iintro ⟨HB, RI2⟩
  iapply (guard_in c)
  iapply (g_wait m K c (b := 36) (r := 2) (s := 7) (k := 48) (a := 0) (e := 8) (Or.inr (Or.inl ⟨rfl, by decide⟩)) (by decide) (by decide) (by decide) (by decide) (wcond (s := 7) (by decide) c) (fun _ => sem_rsR (r := 2) (s := 7) (by decide) (by decide) rfl) (fun _ => rfl)) $$ [HB RI2]
  · isplitl [HB]; · iexact HB
    iexact RI2
  iintro ⟨HB, RI2⟩
  ihave RI2 := (Entails.of_eq (prog_end (F := F) (dmIn 36 c 2) (dmOut m 36 c 2) 0 8)) $$ [RI2]
  · iexact RI2
  ihave HT := (Entails.of_eq (rs_done m c (r := 2) (by decide))) $$ [RK2 RI2]
  · isplitl [RK2]; · iexact RK2
    iexact RI2
  icases HT with ⟨RR2, ZR2⟩
  iapply (bind_in c)
  iapply (ld_rs m c (r := 2) (by decide) rfl) $$ [RR2]
  · iexact RR2
  iintro RR2
  iapply (ret_in c)
  iapply Hk
  isplitl [HB]; · iexact HB
  isplitl [ZR2]; · iexact ZR2
  iexact RR2

/-- The result is stored; the sends are waited for. -/
theorem part18 {Q : _ → sProp 𝕄} :
    iprop(bas m K c 48 ∗ outE c ∗ ran (dmIn 12 c 0) 0 8 ∗ ran (dmIn 60 c 0) 0 8)
      ⊢ iprop((iprop(bas m K c 48 ∗ outP m c ∗ prog (dmIn 60 c 0) (dmOut m 60 c 0) 0 4 8 ∗ prog (dmIn 12 c 0) (dmOut m 12 c 0) 0 5 8) -∗ Q 4#32)
        -∗ WP c (k0_part18_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) (k0_pay20 (gath (sv m 2) c))) Q) := by
  unfold k0_part18_skel
  iintro ⟨HB, OUT, RW0, GW0⟩ Hk
  iapply (bind_in c)
  iapply (dl_out c) $$ [OUT]
  · iexact OUT
  iintro %v OUT
  iapply (bind_in c)
  iapply (s_out m c) $$ [OUT]
  · iexact OUT
  iintro OUT
  ihave RW0 := (Entails.of_eq (prog_start (F := F) (dmIn 12 c 0) (dmOut m 12 c 0) 0 8).symm) $$ [RW0]
  · iexact RW0
  iapply (guard_in c)
  iapply (g_wait m K c (b := 12) (r := 0) (s := 0) (k := 48) (a := 0) (e := 8) (Or.inl ⟨rfl, by decide⟩) (by decide) (by decide) (by decide) (by decide) (by revert c; decide) (fun _ => sem_rsS (r := 0) (s := 0) (by decide) (by decide) rfl) (fun _ => rfl)) $$ [HB RW0]
  · isplitl [HB]; · iexact HB
    iexact RW0
  iintro ⟨HB, RW0⟩
  ihave GW0 := (Entails.of_eq (prog_start (F := F) (dmIn 60 c 0) (dmOut m 60 c 0) 0 8).symm) $$ [GW0]
  · iexact GW0
  iapply (guard_in c)
  iapply (g_wait m K c (b := 60) (r := 0) (s := 0) (k := 48) (a := 0) (e := 8) (Or.inr (Or.inr (Or.inl ⟨rfl, by decide⟩))) (by decide) (by decide) (by decide) (by decide) (by revert c; decide) (fun _ => sem_agS (r := 0) (s := 0) (by decide) (by decide) rfl) (fun _ => rfl)) $$ [HB GW0]
  · isplitl [HB]; · iexact HB
    iexact GW0
  iintro ⟨HB, GW0⟩
  iapply (guard_in c)
  iapply (g_wait m K c (b := 12) (r := 0) (s := 1) (k := 48) (a := 0) (e := 8) (Or.inl ⟨rfl, by decide⟩) (by decide) (by decide) (by decide) (by decide) (by revert c; decide) (fun _ => sem_rsS (r := 0) (s := 1) (by decide) (by decide) rfl) (fun _ => rfl)) $$ [HB RW0]
  · isplitl [HB]; · iexact HB
    iexact RW0
  iintro ⟨HB, RW0⟩
  iapply (guard_in c)
  iapply (g_wait m K c (b := 60) (r := 0) (s := 1) (k := 48) (a := 0) (e := 8) (Or.inr (Or.inr (Or.inl ⟨rfl, by decide⟩))) (by decide) (by decide) (by decide) (by decide) (by revert c; decide) (fun _ => sem_agS (r := 0) (s := 1) (by decide) (by decide) rfl) (fun _ => rfl)) $$ [HB GW0]
  · isplitl [HB]; · iexact HB
    iexact GW0
  iintro ⟨HB, GW0⟩
  iapply (guard_in c)
  iapply (g_wait m K c (b := 12) (r := 0) (s := 2) (k := 48) (a := 0) (e := 8) (Or.inl ⟨rfl, by decide⟩) (by decide) (by decide) (by decide) (by decide) (by revert c; decide) (fun _ => sem_rsS (r := 0) (s := 2) (by decide) (by decide) rfl) (fun _ => rfl)) $$ [HB RW0]
  · isplitl [HB]; · iexact HB
    iexact RW0
  iintro ⟨HB, RW0⟩
  iapply (guard_in c)
  iapply (g_wait m K c (b := 60) (r := 0) (s := 2) (k := 48) (a := 0) (e := 8) (Or.inr (Or.inr (Or.inl ⟨rfl, by decide⟩))) (by decide) (by decide) (by decide) (by decide) (by revert c; decide) (fun _ => sem_agS (r := 0) (s := 2) (by decide) (by decide) rfl) (fun _ => rfl)) $$ [HB GW0]
  · isplitl [HB]; · iexact HB
    iexact GW0
  iintro ⟨HB, GW0⟩
  iapply (guard_in c)
  iapply (g_wait m K c (b := 12) (r := 0) (s := 3) (k := 48) (a := 0) (e := 8) (Or.inl ⟨rfl, by decide⟩) (by decide) (by decide) (by decide) (by decide) (by revert c; decide) (fun _ => sem_rsS (r := 0) (s := 3) (by decide) (by decide) rfl) (fun _ => rfl)) $$ [HB RW0]
  · isplitl [HB]; · iexact HB
    iexact RW0
  iintro ⟨HB, RW0⟩
  iapply (guard_in c)
  iapply (g_wait m K c (b := 60) (r := 0) (s := 3) (k := 48) (a := 0) (e := 8) (Or.inr (Or.inr (Or.inl ⟨rfl, by decide⟩))) (by decide) (by decide) (by decide) (by decide) (by revert c; decide) (fun _ => sem_agS (r := 0) (s := 3) (by decide) (by decide) rfl) (fun _ => rfl)) $$ [HB GW0]
  · isplitl [HB]; · iexact HB
    iexact GW0
  iintro ⟨HB, GW0⟩
  iapply (guard_in c)
  iapply (g_wait m K c (b := 12) (r := 0) (s := 4) (k := 48) (a := 0) (e := 8) (Or.inl ⟨rfl, by decide⟩) (by decide) (by decide) (by decide) (by decide) (by revert c; decide) (fun _ => sem_rsS (r := 0) (s := 4) (by decide) (by decide) rfl) (fun _ => rfl)) $$ [HB RW0]
  · isplitl [HB]; · iexact HB
    iexact RW0
  iintro ⟨HB, RW0⟩
  iapply (ret_in c)
  iapply Hk
  isplitl [HB]; · iexact HB
  isplitl [OUT]; · iexact OUT
  isplitl [GW0]; · iexact GW0
  iexact RW0

end Cert.P
-- ==== Proof.PartsE.lean ====
/-
The kernel, its last waits.
-/
module

public import proofs.«01_k».proof.Proof.Glue

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ) (c : Dev nD)

/-- Sends are waited for. -/
theorem part19 {Q : _ → sProp 𝕄} :
    iprop(bas m K c 48 ∗ prog (dmIn 60 c 0) (dmOut m 60 c 0) 0 4 8 ∗ prog (dmIn 12 c 0) (dmOut m 12 c 0) 0 5 8 ∗ ran (dmIn 12 c 1) 0 8 ∗ ran (dmIn 60 c 1) 0 8)
      ⊢ iprop((iprop(bas m K c 48 ∗ ran (dmOut m 12 c 0) 0 8 ∗ ran (dmOut m 60 c 0) 0 8 ∗ prog (dmIn 60 c 1) (dmOut m 60 c 1) 0 1 8 ∗ prog (dmIn 12 c 1) (dmOut m 12 c 1) 0 2 8) -∗ Q 1#32)
        -∗ WP c (k0_part19_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) 4#32) Q) := by
  unfold k0_part19_skel
  iintro ⟨HB, GW0, RW0, RW1, GW1⟩ Hk
  iapply (guard_in c)
  iapply (g_wait m K c (b := 60) (r := 0) (s := 4) (k := 48) (a := 0) (e := 8) (Or.inr (Or.inr (Or.inl ⟨rfl, by decide⟩))) (by decide) (by decide) (by decide) (by decide) (by revert c; decide) (fun _ => sem_agS (r := 0) (s := 4) (by decide) (by decide) rfl) (fun _ => rfl)) $$ [HB GW0]
  · isplitl [HB]; · iexact HB
    iexact GW0
  iintro ⟨HB, GW0⟩
  iapply (guard_in c)
  iapply (g_wait m K c (b := 12) (r := 0) (s := 5) (k := 48) (a := 0) (e := 8) (Or.inl ⟨rfl, by decide⟩) (by decide) (by decide) (by decide) (by decide) (by revert c; decide) (fun _ => sem_rsS (r := 0) (s := 5) (by decide) (by decide) rfl) (fun _ => rfl)) $$ [HB RW0]
  · isplitl [HB]; · iexact HB
    iexact RW0
  iintro ⟨HB, RW0⟩
  iapply (guard_in c)
  iapply (g_wait m K c (b := 60) (r := 0) (s := 5) (k := 48) (a := 0) (e := 8) (Or.inr (Or.inr (Or.inl ⟨rfl, by decide⟩))) (by decide) (by decide) (by decide) (by decide) (by revert c; decide) (fun _ => sem_agS (r := 0) (s := 5) (by decide) (by decide) rfl) (fun _ => rfl)) $$ [HB GW0]
  · isplitl [HB]; · iexact HB
    iexact GW0
  iintro ⟨HB, GW0⟩
  iapply (guard_in c)
  iapply (g_wait m K c (b := 12) (r := 0) (s := 6) (k := 48) (a := 0) (e := 8) (Or.inl ⟨rfl, by decide⟩) (by decide) (by decide) (by decide) (by decide) (by revert c; decide) (fun _ => sem_rsS (r := 0) (s := 6) (by decide) (by decide) rfl) (fun _ => rfl)) $$ [HB RW0]
  · isplitl [HB]; · iexact HB
    iexact RW0
  iintro ⟨HB, RW0⟩
  iapply (guard_in c)
  iapply (g_wait m K c (b := 60) (r := 0) (s := 6) (k := 48) (a := 0) (e := 8) (Or.inr (Or.inr (Or.inl ⟨rfl, by decide⟩))) (by decide) (by decide) (by decide) (by decide) (by revert c; decide) (fun _ => sem_agS (r := 0) (s := 6) (by decide) (by decide) rfl) (fun _ => rfl)) $$ [HB GW0]
  · isplitl [HB]; · iexact HB
    iexact GW0
  iintro ⟨HB, GW0⟩
  iapply (guard_in c)
  iapply (g_wait m K c (b := 12) (r := 0) (s := 7) (k := 48) (a := 0) (e := 8) (Or.inl ⟨rfl, by decide⟩) (by decide) (by decide) (by decide) (by decide) (by revert c; decide) (fun _ => sem_rsS (r := 0) (s := 7) (by decide) (by decide) rfl) (fun _ => rfl)) $$ [HB RW0]
  · isplitl [HB]; · iexact HB
    iexact RW0
  iintro ⟨HB, RW0⟩
  ihave RW0 := (Entails.of_eq (prog_end (F := F) (dmIn 12 c 0) (dmOut m 12 c 0) 0 8)) $$ [RW0]
  · iexact RW0
  iapply (guard_in c)
  iapply (g_wait m K c (b := 60) (r := 0) (s := 7) (k := 48) (a := 0) (e := 8) (Or.inr (Or.inr (Or.inl ⟨rfl, by decide⟩))) (by decide) (by decide) (by decide) (by decide) (by revert c; decide) (fun _ => sem_agS (r := 0) (s := 7) (by decide) (by decide) rfl) (fun _ => rfl)) $$ [HB GW0]
  · isplitl [HB]; · iexact HB
    iexact GW0
  iintro ⟨HB, GW0⟩
  ihave GW0 := (Entails.of_eq (prog_end (F := F) (dmIn 60 c 0) (dmOut m 60 c 0) 0 8)) $$ [GW0]
  · iexact GW0
  ihave RW1 := (Entails.of_eq (prog_start (F := F) (dmIn 12 c 1) (dmOut m 12 c 1) 0 8).symm) $$ [RW1]
  · iexact RW1
  iapply (guard_in c)
  iapply (g_wait m K c (b := 12) (r := 1) (s := 0) (k := 48) (a := 0) (e := 8) (Or.inl ⟨rfl, by decide⟩) (by decide) (by decide) (by decide) (by decide) (by revert c; decide) (fun _ => sem_rsS (r := 1) (s := 0) (by decide) (by decide) rfl) (fun _ => rfl)) $$ [HB RW1]
  · isplitl [HB]; · iexact HB
    iexact RW1
  iintro ⟨HB, RW1⟩
  ihave GW1 := (Entails.of_eq (prog_start (F := F) (dmIn 60 c 1) (dmOut m 60 c 1) 0 8).symm) $$ [GW1]
  · iexact GW1
  iapply (guard_in c)
  iapply (g_wait m K c (b := 60) (r := 1) (s := 0) (k := 48) (a := 0) (e := 8) (Or.inr (Or.inr (Or.inl ⟨rfl, by decide⟩))) (by decide) (by decide) (by decide) (by decide) (by revert c; decide) (fun _ => sem_agS (r := 1) (s := 0) (by decide) (by decide) rfl) (fun _ => rfl)) $$ [HB GW1]
  · isplitl [HB]; · iexact HB
    iexact GW1
  iintro ⟨HB, GW1⟩
  iapply (guard_in c)
  iapply (g_wait m K c (b := 12) (r := 1) (s := 1) (k := 48) (a := 0) (e := 8) (Or.inl ⟨rfl, by decide⟩) (by decide) (by decide) (by decide) (by decide) (by revert c; decide) (fun _ => sem_rsS (r := 1) (s := 1) (by decide) (by decide) rfl) (fun _ => rfl)) $$ [HB RW1]
  · isplitl [HB]; · iexact HB
    iexact RW1
  iintro ⟨HB, RW1⟩
  iapply (ret_in c)
  iapply Hk
  isplitl [HB]; · iexact HB
  isplitl [RW0]; · iexact RW0
  isplitl [GW0]; · iexact GW0
  isplitl [GW1]; · iexact GW1
  iexact RW1

/-- Sends are waited for. -/
theorem part20 {Q : _ → sProp 𝕄} :
    iprop(bas m K c 48 ∗ prog (dmIn 60 c 1) (dmOut m 60 c 1) 0 1 8 ∗ prog (dmIn 12 c 1) (dmOut m 12 c 1) 0 2 8)
      ⊢ iprop((iprop(bas m K c 48 ∗ prog (dmIn 60 c 1) (dmOut m 60 c 1) 0 6 8 ∗ prog (dmIn 12 c 1) (dmOut m 12 c 1) 0 7 8) -∗ Q 6#32)
        -∗ WP c (k0_part20_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) 1#32) Q) := by
  unfold k0_part20_skel
  iintro ⟨HB, GW1, RW1⟩ Hk
  iapply (guard_in c)
  iapply (g_wait m K c (b := 60) (r := 1) (s := 1) (k := 48) (a := 0) (e := 8) (Or.inr (Or.inr (Or.inl ⟨rfl, by decide⟩))) (by decide) (by decide) (by decide) (by decide) (by revert c; decide) (fun _ => sem_agS (r := 1) (s := 1) (by decide) (by decide) rfl) (fun _ => rfl)) $$ [HB GW1]
  · isplitl [HB]; · iexact HB
    iexact GW1
  iintro ⟨HB, GW1⟩
  iapply (guard_in c)
  iapply (g_wait m K c (b := 12) (r := 1) (s := 2) (k := 48) (a := 0) (e := 8) (Or.inl ⟨rfl, by decide⟩) (by decide) (by decide) (by decide) (by decide) (by revert c; decide) (fun _ => sem_rsS (r := 1) (s := 2) (by decide) (by decide) rfl) (fun _ => rfl)) $$ [HB RW1]
  · isplitl [HB]; · iexact HB
    iexact RW1
  iintro ⟨HB, RW1⟩
  iapply (guard_in c)
  iapply (g_wait m K c (b := 60) (r := 1) (s := 2) (k := 48) (a := 0) (e := 8) (Or.inr (Or.inr (Or.inl ⟨rfl, by decide⟩))) (by decide) (by decide) (by decide) (by decide) (by revert c; decide) (fun _ => sem_agS (r := 1) (s := 2) (by decide) (by decide) rfl) (fun _ => rfl)) $$ [HB GW1]
  · isplitl [HB]; · iexact HB
    iexact GW1
  iintro ⟨HB, GW1⟩
  iapply (guard_in c)
  iapply (g_wait m K c (b := 12) (r := 1) (s := 3) (k := 48) (a := 0) (e := 8) (Or.inl ⟨rfl, by decide⟩) (by decide) (by decide) (by decide) (by decide) (by revert c; decide) (fun _ => sem_rsS (r := 1) (s := 3) (by decide) (by decide) rfl) (fun _ => rfl)) $$ [HB RW1]
  · isplitl [HB]; · iexact HB
    iexact RW1
  iintro ⟨HB, RW1⟩
  iapply (guard_in c)
  iapply (g_wait m K c (b := 60) (r := 1) (s := 3) (k := 48) (a := 0) (e := 8) (Or.inr (Or.inr (Or.inl ⟨rfl, by decide⟩))) (by decide) (by decide) (by decide) (by decide) (by revert c; decide) (fun _ => sem_agS (r := 1) (s := 3) (by decide) (by decide) rfl) (fun _ => rfl)) $$ [HB GW1]
  · isplitl [HB]; · iexact HB
    iexact GW1
  iintro ⟨HB, GW1⟩
  iapply (guard_in c)
  iapply (g_wait m K c (b := 12) (r := 1) (s := 4) (k := 48) (a := 0) (e := 8) (Or.inl ⟨rfl, by decide⟩) (by decide) (by decide) (by decide) (by decide) (by revert c; decide) (fun _ => sem_rsS (r := 1) (s := 4) (by decide) (by decide) rfl) (fun _ => rfl)) $$ [HB RW1]
  · isplitl [HB]; · iexact HB
    iexact RW1
  iintro ⟨HB, RW1⟩
  iapply (guard_in c)
  iapply (g_wait m K c (b := 60) (r := 1) (s := 4) (k := 48) (a := 0) (e := 8) (Or.inr (Or.inr (Or.inl ⟨rfl, by decide⟩))) (by decide) (by decide) (by decide) (by decide) (by revert c; decide) (fun _ => sem_agS (r := 1) (s := 4) (by decide) (by decide) rfl) (fun _ => rfl)) $$ [HB GW1]
  · isplitl [HB]; · iexact HB
    iexact GW1
  iintro ⟨HB, GW1⟩
  iapply (guard_in c)
  iapply (g_wait m K c (b := 12) (r := 1) (s := 5) (k := 48) (a := 0) (e := 8) (Or.inl ⟨rfl, by decide⟩) (by decide) (by decide) (by decide) (by decide) (by revert c; decide) (fun _ => sem_rsS (r := 1) (s := 5) (by decide) (by decide) rfl) (fun _ => rfl)) $$ [HB RW1]
  · isplitl [HB]; · iexact HB
    iexact RW1
  iintro ⟨HB, RW1⟩
  iapply (guard_in c)
  iapply (g_wait m K c (b := 60) (r := 1) (s := 5) (k := 48) (a := 0) (e := 8) (Or.inr (Or.inr (Or.inl ⟨rfl, by decide⟩))) (by decide) (by decide) (by decide) (by decide) (by revert c; decide) (fun _ => sem_agS (r := 1) (s := 5) (by decide) (by decide) rfl) (fun _ => rfl)) $$ [HB GW1]
  · isplitl [HB]; · iexact HB
    iexact GW1
  iintro ⟨HB, GW1⟩
  iapply (guard_in c)
  iapply (g_wait m K c (b := 12) (r := 1) (s := 6) (k := 48) (a := 0) (e := 8) (Or.inl ⟨rfl, by decide⟩) (by decide) (by decide) (by decide) (by decide) (by revert c; decide) (fun _ => sem_rsS (r := 1) (s := 6) (by decide) (by decide) rfl) (fun _ => rfl)) $$ [HB RW1]
  · isplitl [HB]; · iexact HB
    iexact RW1
  iintro ⟨HB, RW1⟩
  iapply (ret_in c)
  iapply Hk
  isplitl [HB]; · iexact HB
  isplitl [GW1]; · iexact GW1
  iexact RW1

/-- Sends are waited for. -/
theorem part21 {Q : _ → sProp 𝕄} :
    iprop(bas m K c 48 ∗ prog (dmIn 60 c 1) (dmOut m 60 c 1) 0 6 8 ∗ prog (dmIn 12 c 1) (dmOut m 12 c 1) 0 7 8 ∗ ran (dmIn 12 c 2) 0 8)
      ⊢ iprop((iprop(bas m K c 48 ∗ ran (dmOut m 12 c 1) 0 8 ∗ ran (dmOut m 60 c 1) 0 8 ∗ prog (dmIn 12 c 2) (dmOut m 12 c 2) 0 7 8) -∗ Q 7#32)
        -∗ WP c (k0_part21_skel (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c (mw c) 6#32) Q) := by
  unfold k0_part21_skel
  iintro ⟨HB, GW1, RW1, RW2⟩ Hk
  iapply (guard_in c)
  iapply (g_wait m K c (b := 60) (r := 1) (s := 6) (k := 48) (a := 0) (e := 8) (Or.inr (Or.inr (Or.inl ⟨rfl, by decide⟩))) (by decide) (by decide) (by decide) (by decide) (by revert c; decide) (fun _ => sem_agS (r := 1) (s := 6) (by decide) (by decide) rfl) (fun _ => rfl)) $$ [HB GW1]
  · isplitl [HB]; · iexact HB
    iexact GW1
  iintro ⟨HB, GW1⟩
  iapply (guard_in c)
  iapply (g_wait m K c (b := 12) (r := 1) (s := 7) (k := 48) (a := 0) (e := 8) (Or.inl ⟨rfl, by decide⟩) (by decide) (by decide) (by decide) (by decide) (by revert c; decide) (fun _ => sem_rsS (r := 1) (s := 7) (by decide) (by decide) rfl) (fun _ => rfl)) $$ [HB RW1]
  · isplitl [HB]; · iexact HB
    iexact RW1
  iintro ⟨HB, RW1⟩
  ihave RW1 := (Entails.of_eq (prog_end (F := F) (dmIn 12 c 1) (dmOut m 12 c 1) 0 8)) $$ [RW1]
  · iexact RW1
  iapply (guard_in c)
  iapply (g_wait m K c (b := 60) (r := 1) (s := 7) (k := 48) (a := 0) (e := 8) (Or.inr (Or.inr (Or.inl ⟨rfl, by decide⟩))) (by decide) (by decide) (by decide) (by decide) (by revert c; decide) (fun _ => sem_agS (r := 1) (s := 7) (by decide) (by decide) rfl) (fun _ => rfl)) $$ [HB GW1]
  · isplitl [HB]; · iexact HB
    iexact GW1
  iintro ⟨HB, GW1⟩
  ihave GW1 := (Entails.of_eq (prog_end (F := F) (dmIn 60 c 1) (dmOut m 60 c 1) 0 8)) $$ [GW1]
  · iexact GW1
  ihave RW2 := (Entails.of_eq (prog_start (F := F) (dmIn 12 c 2) (dmOut m 12 c 2) 0 8).symm) $$ [RW2]
  · iexact RW2
  iapply (guard_in c)
  iapply (g_wait m K c (b := 12) (r := 2) (s := 0) (k := 48) (a := 0) (e := 8) (Or.inl ⟨rfl, by decide⟩) (by decide) (by decide) (by decide) (by decide) (by revert c; decide) (fun _ => sem_rsS (r := 2) (s := 0) (by decide) (by decide) rfl) (fun _ => rfl)) $$ [HB RW2]
  · isplitl [HB]; · iexact HB
    iexact RW2
  iintro ⟨HB, RW2⟩
  iapply (guard_in c)
  iapply (g_wait m K c (b := 12) (r := 2) (s := 1) (k := 48) (a := 0) (e := 8) (Or.inl ⟨rfl, by decide⟩) (by decide) (by decide) (by decide) (by decide) (by revert c; decide) (fun _ => sem_rsS (r := 2) (s := 1) (by decide) (by decide) rfl) (fun _ => rfl)) $$ [HB RW2]
  · isplitl [HB]; · iexact HB
    iexact RW2
  iintro ⟨HB, RW2⟩
  iapply (guard_in c)
  iapply (g_wait m K c (b := 12) (r := 2) (s := 2) (k := 48) (a := 0) (e := 8) (Or.inl ⟨rfl, by decide⟩) (by decide) (by decide) (by decide) (by decide) (by revert c; decide) (fun _ => sem_rsS (r := 2) (s := 2) (by decide) (by decide) rfl) (fun _ => rfl)) $$ [HB RW2]
  · isplitl [HB]; · iexact HB
    iexact RW2
  iintro ⟨HB, RW2⟩
  iapply (guard_in c)
  iapply (g_wait m K c (b := 12) (r := 2) (s := 3) (k := 48) (a := 0) (e := 8) (Or.inl ⟨rfl, by decide⟩) (by decide) (by decide) (by decide) (by decide) (by revert c; decide) (fun _ => sem_rsS (r := 2) (s := 3) (by decide) (by decide) rfl) (fun _ => rfl)) $$ [HB RW2]
  · isplitl [HB]; · iexact HB
    iexact RW2
  iintro ⟨HB, RW2⟩
  iapply (guard_in c)
  iapply (g_wait m K c (b := 12) (r := 2) (s := 4) (k := 48) (a := 0) (e := 8) (Or.inl ⟨rfl, by decide⟩) (by decide) (by decide) (by decide) (by decide) (by revert c; decide) (fun _ => sem_rsS (r := 2) (s := 4) (by decide) (by decide) rfl) (fun _ => rfl)) $$ [HB RW2]
  · isplitl [HB]; · iexact HB
    iexact RW2
  iintro ⟨HB, RW2⟩
  iapply (guard_in c)
  iapply (g_wait m K c (b := 12) (r := 2) (s := 5) (k := 48) (a := 0) (e := 8) (Or.inl ⟨rfl, by decide⟩) (by decide) (by decide) (by decide) (by decide) (by revert c; decide) (fun _ => sem_rsS (r := 2) (s := 5) (by decide) (by decide) rfl) (fun _ => rfl)) $$ [HB RW2]
  · isplitl [HB]; · iexact HB
    iexact RW2
  iintro ⟨HB, RW2⟩
  iapply (guard_in c)
  iapply (g_wait m K c (b := 12) (r := 2) (s := 6) (k := 48) (a := 0) (e := 8) (Or.inl ⟨rfl, by decide⟩) (by decide) (by decide) (by decide) (by decide) (by revert c; decide) (fun _ => sem_rsS (r := 2) (s := 6) (by decide) (by decide) rfl) (fun _ => rfl)) $$ [HB RW2]
  · isplitl [HB]; · iexact HB
    iexact RW2
  iintro ⟨HB, RW2⟩
  iapply (ret_in c)
  iapply Hk
  isplitl [HB]; · iexact HB
  isplitl [RW1]; · iexact RW1
  isplitl [GW1]; · iexact GW1
  iexact RW2

end Cert.P
-- ==== Proof.Body.lean ====
/-
The kernel on one device: from what it is given to what it leaves.
-/
module

public import proofs.«01_k».proof.Proof.PartsA
public import proofs.«01_k».proof.Proof.PartsB
public import proofs.«01_k».proof.Proof.PartsC
public import proofs.«01_k».proof.Proof.PartsD
public import proofs.«01_k».proof.Proof.PartsE

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

variable (K : Dev nD × Fin 108 → ℕ) (c : Dev nD)
/-- The arguments, at the shares that the copies take. -/
def inArgs (c : Dev nD) : sProp 𝕄 := iprop(aP m c main_arg0 (fullShare.right) ∗ aP m c main_arg1 (fullShare.right.left) ∗ aP m c main_arg1 (fullShare.right.right) ∗ aP m c main_arg4 (fullShare.right.left) ∗ aP m c main_arg4 (fullShare.right.right) ∗ aP m c main_arg2 (fullShare.right) ∗ aP m c main_arg5 (fullShare.right) ∗ aP m c main_arg3 (fullShare.right) ∗ aP m c main_arg6 (fullShare.right))
/-- The rights and positions of the copies. -/
def inLoc (c : Dev nD) : sProp 𝕄 := iprop(tk c 3 ∗ ps c 3 ∗ tk c 4 ∗ ps c 4 ∗ tk c 5 ∗ ps c 5 ∗ tk c 6 ∗ ps c 6 ∗ tk c 7 ∗ ps c 7 ∗ tk c 8 ∗ ps c 8 ∗ tk c 9 ∗ ps c 9 ∗ tk c 10 ∗ ps c 10 ∗ tk c 11 ∗ ps c 11)
/-- The arrays before. -/
def inArr (c : Dev nD) : sProp 𝕄 := iprop(wvE c 0 0 512 ∗ wvE c 0 512 1024 ∗ wvE c 1 0 1024 ∗ wvE c 2 0 1024 ∗ ovE c 0 0 512 ∗ ovE c 0 512 1024 ∗ ovE c 1 0 1024 ∗ ovE c 2 0 1024 ∗ xvE c ∗ sbE c 0 0 8 ∗ sbE c 1 0 4 ∗ sbE c 1 4 8 ∗ sbE c 2 0 4 ∗ sbE c 2 4 8 ∗ agE c 0 ∗ agE c 1 ∗ outE c)
/-- What the device hands out at the barrier, what it keeps, its credit and its rights. -/
def inBar (c : Dev nD) : sProp 𝕄 := iprop(ran (sgIn c) 0 8 ∗ rsSlotE c 0 c.val ∗ rsSlotE c 1 c.val ∗ rsSlotE c 2 c.val ∗ acSlotE c 0 c.val ∗ acSlotE c 1 c.val ∗ barC c ∗ rights c)
/-- Positions and credits of the transfers. -/
def inDma (c : Dev nD) : sProp 𝕄 := iprop(ran (poss 12 c 0) 0 8 ∗ ran (poss 12 c 1) 0 8 ∗ ran (poss 12 c 2) 0 8 ∗ ran (poss 60 c 0) 0 8 ∗ ran (poss 60 c 1) 0 8 ∗ ran (dmIn 36 c 0) 0 8 ∗ ran (dmIn 36 c 1) 0 8 ∗ ran (dmIn 36 c 2) 0 8 ∗ ran (dmIn 84 c 0) 0 4 ∗ ran (dmIn 84 c 0) 4 8 ∗ ran (dmIn 84 c 1) 0 4 ∗ ran (dmIn 84 c 1) 4 8)
/-- The arrays after. -/
def outArr (c : Dev nD) : sProp 𝕄 := iprop(wvP m c 0 0 512 ∗ wvP m c 0 512 1024 ∗ wvP m c 1 0 1024 ∗ wvP m c 2 0 1024 ∗ ovP m c 0 0 512 ∗ ovP m c 0 512 1024 ∗ ovP m c 1 0 1024 ∗ ovP m c 2 0 1024 ∗ xvP m c ∗ rsR m c 0 0 8 ∗ rsR m c 1 0 8 ∗ rsR m c 2 0 8 ∗ acR m c 0 0 4 ∗ acR m c 0 4 8 ∗ acR m c 1 0 4 ∗ acR m c 1 4 8 ∗ outP m c)
/-- The sent arrays, in parts. -/
def outRows (c : Dev nD) : sProp 𝕄 := iprop(sbSlot m c 0 c.val ∗ ran (dmOut m 12 c 0) 0 8 ∗ sbSlot m c 1 c.val ∗ ran (dmOut m 12 c 1) 0 8 ∗ sbSlot m c 2 c.val ∗ ran (dmOut m 12 c 2) 0 8 ∗ agR m c 0 (shareDrop fullShare 8) ∗ ownG m c 0 0 8 ∗ ran (dmOut m 60 c 0) 0 8 ∗ agR m c 1 (shareDrop fullShare 8) ∗ ownG m c 1 0 8 ∗ ran (dmOut m 60 c 1) 0 8)
/-- The semaphores, all zero. -/
def outSem (c : Dev nD) : sProp 𝕄 := iprop(barZ c ∗ sz c 3 ∗ sz c 4 ∗ sz c 5 ∗ sz c 6 ∗ sz c 7 ∗ sz c 8 ∗ sz c 9 ∗ sz c 10 ∗ sz c 11 ∗ ran (sems 36 c 0) 0 8 ∗ ran (sems 36 c 1) 0 8 ∗ ran (sems 36 c 2) 0 8 ∗ ran (sems 84 c 0) 0 4 ∗ ran (sems 84 c 0) 4 8 ∗ ran (sems 84 c 1) 0 4 ∗ ran (sems 84 c 1) 4 8)
def bodyIn (c : Dev nD) : sProp 𝕄 := iprop(inArgs m c ∗ inLoc c ∗ inArr c ∗ inBar c ∗ inDma c)
def bodyOut (c : Dev nD) : sProp 𝕄 := iprop(outArr m c ∗ outRows m c ∗ outSem c)

/-- The kernel runs: it needs `bodyIn`, owes nothing at the end and leaves `bodyOut`. -/
theorem body_run {Q : PUnit → sProp 𝕄} :
    iprop(bas m K c 0 ∗ bodyIn m c)
      ⊢ iprop((iprop(bas m K c 48 ∗ bodyOut m c) -∗ Q ⟨⟩)
        -∗ WP c (cc0_body (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q) := by
  rw [cc0_body_eq_skeleton]
  unfold cc0_body_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold bodyIn inArgs inLoc inArr inBar inDma
  iintro ⟨HB, ⟨AR11, AR7, AR9, AR8, AR10, AR3, AR4, AR5, AR6⟩, ⟨TK3, PS3, TK4, PS4, TK5, PS5, TK6, PS6, TK7, PS7, TK8, PS8, TK9, PS9, TK10, PS10, TK11, PS11⟩, ⟨WL, WH, W1, W2, OL, OH, O1, O2, XV, SB0, SB1a, SB1b, SB2a, SB2b, AG0, AG1, OUT⟩, ⟨SG, RK0, RK1, RK2, CK0, CK1, BC, KS⟩, ⟨PW0, PW1, PW2, PG0, PG1, RI0, RI1, RI2, CI0a, CI0b, CI1a, CI1b⟩⟩ Hk
  iapply (bind_in c)
  iapply (part1 m K c) $$ [HB AR11 XV TK11 AR7 WL TK7 AR8 OL TK8 AR9 WH TK9 AR10 OH TK10]
  · isplitl [HB]; · iexact HB
    isplitl [AR11]; · iexact AR11
    isplitl [XV]; · iexact XV
    isplitl [TK11]; · iexact TK11
    isplitl [AR7]; · iexact AR7
    isplitl [WL]; · iexact WL
    isplitl [TK7]; · iexact TK7
    isplitl [AR8]; · iexact AR8
    isplitl [OL]; · iexact OL
    isplitl [TK8]; · iexact TK8
    isplitl [AR9]; · iexact AR9
    isplitl [WH]; · iexact WH
    isplitl [TK9]; · iexact TK9
    isplitl [AR10]; · iexact AR10
    isplitl [OH]; · iexact OH
    iexact TK10
  iintro ⟨HB, CR11, CR7, CR8, CR9, CR10⟩
  iapply (bind_in c)
  iapply (part2 m K c) $$ [HB SG CR11 PS11 CR7 PS7]
  · isplitl [HB]; · iexact HB
    isplitl [SG]; · iexact SG
    isplitl [CR11]; · iexact CR11
    isplitl [PS11]; · iexact PS11
    isplitl [CR7]; · iexact CR7
    iexact PS7
  iintro ⟨HB, SG, SZ11, XV, SZ7, WL⟩
  iapply (bind_in c)
  iapply (part3 m K c) $$ [HB WL CR8 PS8 CR9 PS9]
  · isplitl [HB]; · iexact HB
    isplitl [WL]; · iexact WL
    isplitl [CR8]; · iexact CR8
    isplitl [PS8]; · iexact PS8
    isplitl [CR9]; · iexact CR9
    iexact PS9
  iintro ⟨HB, WL, SZ8, OL, SZ9, WH⟩
  iapply (bind_in c)
  iapply (part4 m K c) $$ [HB CR10 PS10 SB0 BC KS]
  · isplitl [HB]; · iexact HB
    isplitl [CR10]; · iexact CR10
    isplitl [PS10]; · iexact PS10
    isplitl [SB0]; · iexact SB0
    isplitl [BC]; · iexact BC
    iexact KS
  iintro ⟨HB, SZ10, OH, BZ, AT0, AT1, RT1a, RT1b, RT2a, RT2b, OS0, RS0⟩
  iapply (bind_in c)
  iapply (part5 m K c) $$ [HB RS0 PW0 AR3 W1 TK3 AR4 O1 TK4 AR5 W2 TK5 AR6 O2 TK6 OS0]
  · isplitl [HB]; · iexact HB
    isplitl [RS0]; · iexact RS0
    isplitl [PW0]; · iexact PW0
    isplitl [AR3]; · iexact AR3
    isplitl [W1]; · iexact W1
    isplitl [TK3]; · iexact TK3
    isplitl [AR4]; · iexact AR4
    isplitl [O1]; · iexact O1
    isplitl [TK4]; · iexact TK4
    isplitl [AR5]; · iexact AR5
    isplitl [W2]; · iexact W2
    isplitl [TK5]; · iexact TK5
    isplitl [AR6]; · iexact AR6
    isplitl [O2]; · iexact O2
    isplitl [TK6]; · iexact TK6
    iexact OS0
  iintro ⟨HB, RW0, CR3, CR4, CR5, CR6, OS0⟩
  iapply (bind_in c)
  iapply (part6 m K c) $$ [HB RK0 RI0]
  · isplitl [HB]; · iexact HB
    isplitl [RK0]; · iexact RK0
    iexact RI0
  iintro ⟨HB, ZR0, RR0⟩
  iapply (bind_in c)
  iapply (part7 m K c) $$ [HB AG0 AT0]
  · isplitl [HB]; · iexact HB
    isplitl [AG0]; · iexact AG0
    iexact AT0
  iintro ⟨HB, AG0, OG0, AI0⟩
  iapply (bind_in c)
  iapply (part8 m K c) $$ [HB AI0 PG0 AG0 CK0 CR3 PS3 CR4 PS4 CI0a]
  · isplitl [HB]; · iexact HB
    isplitl [AI0]; · iexact AI0
    isplitl [PG0]; · iexact PG0
    isplitl [AG0]; · iexact AG0
    isplitl [CK0]; · iexact CK0
    isplitl [CR3]; · iexact CR3
    isplitl [PS3]; · iexact PS3
    isplitl [CR4]; · iexact CR4
    isplitl [PS4]; · iexact PS4
    iexact CI0a
  iintro ⟨HB, GW0, AG0, OC0b, SZ3, W1, SZ4, O1, AC0a, ZC0a⟩
  iapply (bind_in c)
  iapply (part9 m K c) $$ [HB AC0a W1 O1 SB1a RT1a]
  · isplitl [HB]; · iexact HB
    isplitl [AC0a]; · iexact AC0a
    isplitl [W1]; · iexact W1
    isplitl [O1]; · iexact O1
    isplitl [SB1a]; · iexact SB1a
    iexact RT1a
  iintro ⟨HB, AC0a, W1, O1, OS1a, RS1a⟩
  iapply (bind_in c)
  iapply (part10 m K c) $$ [HB CI0b OC0b W1 O1 SB1b]
  · isplitl [HB]; · iexact HB
    isplitl [CI0b]; · iexact CI0b
    isplitl [OC0b]; · iexact OC0b
    isplitl [W1]; · iexact W1
    isplitl [O1]; · iexact O1
    iexact SB1b
  iintro ⟨HB, ZC0b, AC0b, W1, O1, SB1b⟩
  iapply (bind_in c)
  iapply (part11 m K c) $$ [HB SB1b RT1b OS1a RS1a PW1 RK1 RI1]
  · isplitl [HB]; · iexact HB
    isplitl [SB1b]; · iexact SB1b
    isplitl [RT1b]; · iexact RT1b
    isplitl [OS1a]; · iexact OS1a
    isplitl [RS1a]; · iexact RS1a
    isplitl [PW1]; · iexact PW1
    isplitl [RK1]; · iexact RK1
    iexact RI1
  iintro ⟨HB, RW1, OS1, RK1, RI1⟩
  iapply (bind_in c)
  iapply (part12 m K c) $$ [HB RI1 RK1 AG1 AT1]
  · isplitl [HB]; · iexact HB
    isplitl [RI1]; · iexact RI1
    isplitl [RK1]; · iexact RK1
    isplitl [AG1]; · iexact AG1
    iexact AT1
  iintro ⟨HB, ZR1, RR1, AG1, OG1, AI1⟩
  iapply (bind_in c)
  iapply (part13 m K c) $$ [HB AI1 PG1 AG1 CK1 CR5 PS5]
  · isplitl [HB]; · iexact HB
    isplitl [AI1]; · iexact AI1
    isplitl [PG1]; · iexact PG1
    isplitl [AG1]; · iexact AG1
    isplitl [CK1]; · iexact CK1
    isplitl [CR5]; · iexact CR5
    iexact PS5
  iintro ⟨HB, GW1, AG1, OC1a, OC1b, SZ5, W2⟩
  iapply (bind_in c)
  iapply (part14 m K c) $$ [HB CR6 PS6 CI1a OC1a W2 SB2a]
  · isplitl [HB]; · iexact HB
    isplitl [CR6]; · iexact CR6
    isplitl [PS6]; · iexact PS6
    isplitl [CI1a]; · iexact CI1a
    isplitl [OC1a]; · iexact OC1a
    isplitl [W2]; · iexact W2
    iexact SB2a
  iintro %v ⟨HB, SZ6, ZC1a, AC1a, W2, O2, SB2a⟩
  iapply (bind_in c)
  iapply (part15 m K c) $$ [HB SB2a RT2a CI1b OC1b]
  · isplitl [HB]; · iexact HB
    isplitl [SB2a]; · iexact SB2a
    isplitl [RT2a]; · iexact RT2a
    isplitl [CI1b]; · iexact CI1b
    iexact OC1b
  iintro ⟨HB, OS2a, RS2a, ZC1b, AC1b⟩
  iapply (bind_in c)
  iapply (part16 m K c) $$ [HB W2 O2 SB2b RT2b OS2a RS2a PW2]
  · isplitl [HB]; · iexact HB
    isplitl [W2]; · iexact W2
    isplitl [O2]; · iexact O2
    isplitl [SB2b]; · iexact SB2b
    isplitl [RT2b]; · iexact RT2b
    isplitl [OS2a]; · iexact OS2a
    isplitl [RS2a]; · iexact RS2a
    iexact PW2
  iintro ⟨HB, W2, O2, RW2, OS2⟩
  iapply (bind_in c)
  iapply (part17 m K c) $$ [HB RK2 RI2]
  · isplitl [HB]; · iexact HB
    isplitl [RK2]; · iexact RK2
    iexact RI2
  iintro ⟨HB, ZR2, RR2⟩
  iapply (bind_in c)
  iapply (part18 m K c) $$ [HB OUT RW0 GW0]
  · isplitl [HB]; · iexact HB
    isplitl [OUT]; · iexact OUT
    isplitl [RW0]; · iexact RW0
    iexact GW0
  iintro ⟨HB, OUT, GW0, RW0⟩
  iapply (bind_in c)
  iapply (part19 m K c) $$ [HB GW0 RW0 RW1 GW1]
  · isplitl [HB]; · iexact HB
    isplitl [GW0]; · iexact GW0
    isplitl [RW0]; · iexact RW0
    isplitl [RW1]; · iexact RW1
    iexact GW1
  iintro ⟨HB, RW0, GW0, GW1, RW1⟩
  iapply (bind_in c)
  iapply (part20 m K c) $$ [HB GW1 RW1]
  · isplitl [HB]; · iexact HB
    isplitl [GW1]; · iexact GW1
    iexact RW1
  iintro ⟨HB, GW1, RW1⟩
  iapply (bind_in c)
  iapply (part21 m K c) $$ [HB GW1 RW1 RW2]
  · isplitl [HB]; · iexact HB
    isplitl [GW1]; · iexact GW1
    isplitl [RW1]; · iexact RW1
    iexact RW2
  iintro ⟨HB, RW1, GW1, RW2⟩
  iapply (guard_in c)
  iapply (g_wait m K c (b := 12) (r := 2) (s := 7) (k := 48) (a := 0) (e := 8) (Or.inl ⟨rfl, by decide⟩) (by decide) (by decide) (by decide) (by decide) (by revert c; decide) (fun _ => sem_rsS (r := 2) (s := 7) (by decide) (by decide) rfl) (fun _ => rfl)) $$ [HB RW2]
  · isplitl [HB]; · iexact HB
    iexact RW2
  iintro ⟨HB, RW2⟩
  ihave RW2 := (Entails.of_eq (prog_end (F := F) (dmIn 12 c 2) (dmOut m 12 c 2) 0 8)) $$ [RW2]
  · iexact RW2
  iapply (ret_in c)
  iapply Hk
  isplitl [HB]; · iexact HB
  unfold bodyOut outArr outRows outSem
  isplitl [WL WH W1 W2 OL OH O1 O2 XV RR0 RR1 RR2 AC0a AC0b AC1a AC1b OUT]
  · isplitl [WL]; · iexact WL
    isplitl [WH]; · iexact WH
    isplitl [W1]; · iexact W1
    isplitl [W2]; · iexact W2
    isplitl [OL]; · iexact OL
    isplitl [OH]; · iexact OH
    isplitl [O1]; · iexact O1
    isplitl [O2]; · iexact O2
    isplitl [XV]; · iexact XV
    isplitl [RR0]; · iexact RR0
    isplitl [RR1]; · iexact RR1
    isplitl [RR2]; · iexact RR2
    isplitl [AC0a]; · iexact AC0a
    isplitl [AC0b]; · iexact AC0b
    isplitl [AC1a]; · iexact AC1a
    isplitl [AC1b]; · iexact AC1b
    iexact OUT
  isplitl [OS0 RW0 OS1 RW1 OS2 RW2 AG0 OG0 GW0 AG1 OG1 GW1]
  · isplitl [OS0]; · iexact OS0
    isplitl [RW0]; · iexact RW0
    isplitl [OS1]; · iexact OS1
    isplitl [RW1]; · iexact RW1
    isplitl [OS2]; · iexact OS2
    isplitl [RW2]; · iexact RW2
    isplitl [AG0]; · iexact AG0
    isplitl [OG0]; · iexact OG0
    isplitl [GW0]; · iexact GW0
    isplitl [AG1]; · iexact AG1
    isplitl [OG1]; · iexact OG1
    iexact GW1
  isplitl [BZ]; · iexact BZ
  isplitl [SZ3]; · iexact SZ3
  isplitl [SZ4]; · iexact SZ4
  isplitl [SZ5]; · iexact SZ5
  isplitl [SZ6]; · iexact SZ6
  isplitl [SZ7]; · iexact SZ7
  isplitl [SZ8]; · iexact SZ8
  isplitl [SZ9]; · iexact SZ9
  isplitl [SZ10]; · iexact SZ10
  isplitl [SZ11]; · iexact SZ11
  isplitl [ZR0]; · iexact ZR0
  isplitl [ZR1]; · iexact ZR1
  isplitl [ZR2]; · iexact ZR2
  isplitl [ZC0a]; · iexact ZC0a
  isplitl [ZC0b]; · iexact ZC0b
  isplitl [ZC1a]; · iexact ZC1a
  iexact ZC1b

end Cert.P
-- ==== Proof.Cells.lean ====
/-
All cells of a device, sorted: those that a transfer credits, and those that none does.
-/
module

public import proofs.«01_k».proof.Proof.Body

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

instance sepAssoc : Std.Associative (fun P Q : sProp 𝕄 => iprop(P ∗ Q)) := ⟨assoc_eq⟩
instance sepComm : Std.Commutative (fun P Q : sProp 𝕄 => iprop(P ∗ Q)) := ⟨fun P Q => by have e : iprop(P ∗ Q) ⊣⊢ iprop(Q ∗ P) := sep_comm; exact BI.equiv_iff.mp ⟨e.1, e.2⟩⟩

/-- A run, shifted. -/
theorem ran_shift (Φ : ℕ → sProp 𝕄) (a d k : ℕ) : ran Φ (a + d) (a + d + k) = ran (fun s => Φ (a + (d + s))) 0 k := by
  induction k with
  | zero => rw [Nat.add_zero, ran_nil, ran_nil]
  | succ k ih => rw [← Nat.add_assoc, ran_top Φ (Nat.le_add_right _ _), ran_top _ (Nat.zero_le _), ih, Nat.add_assoc a d k]
/-- A run over the devices, as a big separating conjunction. -/
theorem ran_dev (Φ : ℕ → sProp 𝕄) : ran Φ 0 8 = bigSep Finset.univ fun d : Dev nD => Φ d.val := by
  unfold ran
  rw [show (Finset.Ico 0 8 : Finset ℕ) = (Finset.univ : Finset (Fin 8)).map Fin.valEmbedding from by decide, bigSep_map]
  rfl
theorem ran_cells (Φ : ℕ → sProp 𝕄) : ran Φ 0 108 = bigSep Finset.univ fun k : Fin 108 => Φ k.val := by
  unfold ran
  rw [show (Finset.Ico 0 108 : Finset ℕ) = (Finset.univ : Finset (Fin 108)).map Fin.valEmbedding from by
    rw [Fin.map_valEmbedding_univ]; rfl, bigSep_map]
  rfl

/-- A row of eight cells without the device's own. -/
def row (c : Dev nD) (Φ : ℕ → sProp 𝕄) (b r : ℕ) : sProp 𝕄 := ran (fun s => oth c s (Φ (num b r s))) 0 8

theorem row_cut (c : Dev nD) (Φ : ℕ → sProp 𝕄) (b r : ℕ) : ran Φ (b + 8 * r) (b + 8 * r + 8) = iprop(Φ (num b r c.val) ∗ row c Φ b r) := by
  rw [ran_shift, ran_own_oth c, ran_own]
  unfold row num
  simp only [Nat.add_assoc]
theorem rows_cut (c : Dev nD) (Φ : ℕ → sProp 𝕄) (b k : ℕ) :
    ran Φ b (b + 8 * k) = iprop(ran (fun r => Φ (num b r c.val)) 0 k ∗ ran (row c Φ b) 0 k) := by
  induction k with
  | zero => rw [ran_nil, Nat.mul_zero, Nat.add_zero, ran_nil, ran_nil]; exact (equiv_iff.mp sep_emp).symm
  | succ k ih =>
    rw [ran_append Φ (Nat.le_add_right b (8 * k)) (by omega : b + 8 * k ≤ b + 8 * (k + 1)), ih,
      show b + 8 * (k + 1) = b + 8 * k + 8 from by omega, row_cut c, ran_top _ (Nat.zero_le k), ran_top _ (Nat.zero_le k)]
    ac_rfl

/-- The cells that a device waits on, and those that no transfer credits. -/
def lives (c : Dev nD) (Φ : ℕ → sProp 𝕄) : sProp 𝕄 :=
  iprop(Φ 0 ∗ ran Φ 3 12 ∗ ran (row c Φ 12) 0 3 ∗ ran (row c Φ 36) 0 3 ∗ ran (row c Φ 60) 0 2 ∗ ran (row c Φ 84) 0 2)
def deads (c : Dev nD) (Φ : ℕ → sProp 𝕄) : sProp 𝕄 :=
  iprop(ran Φ 1 3 ∗ ran (fun r => Φ (num 12 r c.val)) 0 3 ∗ ran (fun r => Φ (num 36 r c.val)) 0 3 ∗ ran (fun r => Φ (num 60 r c.val)) 0 2
    ∗ ran (fun r => Φ (num 84 r c.val)) 0 2 ∗ ran Φ 76 84 ∗ ran Φ 100 108)

theorem cells_cut (c : Dev nD) (Φ : ℕ → sProp 𝕄) : ran Φ 0 108 = iprop(lives c Φ ∗ deads c Φ) := by
  rw [ran_bot Φ (by decide), ran_append Φ (a := 0 + 1) (b := 3) (c := 108) (by decide) (by decide), ran_append Φ (a := 3) (b := 12) (c := 108) (by decide) (by decide),
    ran_append Φ (a := 12) (b := 36) (c := 108) (by decide) (by decide), ran_append Φ (a := 36) (b := 60) (c := 108) (by decide) (by decide),
    ran_append Φ (a := 60) (b := 76) (c := 108) (by decide) (by decide), ran_append Φ (a := 76) (b := 84) (c := 108) (by decide) (by decide),
    ran_append Φ (a := 84) (b := 100) (c := 108) (by decide) (by decide),
    show ran Φ 12 36 = _ from rows_cut c Φ 12 3, show ran Φ 36 60 = _ from rows_cut c Φ 36 3,
    show ran Φ 60 76 = _ from rows_cut c Φ 60 2, show ran Φ 84 100 = _ from rows_cut c Φ 84 2]
  unfold lives deads
  ac_rfl

/-! ## The cells that nothing credits -/

variable (K : Dev nD × Fin 108 → ℕ)

theorem dead_close (c : Dev nD) {n : ℕ} (h0 : 0 < n) (hn : n < 108) (hl : ¬ live c.val n) :
    iprop(recs m K ∗ ps (F := F) c n) ⊢ |={Set.univ}=> sz (F := F) c n := by
  unfold ps sz
  iintro ⟨#HR, Hat⟩
  ihave #HI := (recs_inv m K (c, kn n)) $$ HR
  rw [kcell_dma c h0 hn]
  iapply (Rounds.cell_close ER (rd m) (Set.mem_univ (K (c, kn n))) (fun h => h) (R := 0) (fun r _ => by
    by_cases hr : r = 0
    · subst hr; exact duties_dead m c hn hl
    · exact duties_later m (dcell c n) r (by omega)))
  isplitr; · iexact HI
  iexact Hat

theorem run_close (c : Dev nD) (g : ℕ → ℕ) {a b : ℕ} (h : ∀ j, a ≤ j → j < b → 0 < g j ∧ g j < 108 ∧ ¬ live c.val (g j)) :
    iprop(recs m K ∗ ran (fun j => ps (F := F) c (g j)) a b) ⊢ |={Set.univ}=> ran (fun j => sz (F := F) c (g j)) a b := by
  have e : iprop(recs m K ∗ ran (fun j => ps (F := F) c (g j)) a b) ⊢ ran (fun j => iprop(|={Set.univ}=> sz (F := F) c (g j))) a b := by
    refine (sep_mono_left (BI.bigSep_of_persistent (Finset.Ico a b) (recs m K))).trans ?_
    show iprop(ran (fun _ => recs m K) a b ∗ _) ⊢ _
    rw [← ran_sep]
    exact ran_mono fun j h1 h2 => dead_close m K c (h j h1 h2).1 (h j h1 h2).2.1 (h j h1 h2).2.2
  exact e.trans (bigSep_fupd _ _)

theorem deads_close (c : Dev nD) : iprop(recs m K ∗ deads c (ps (F := F) c)) ⊢ |={Set.univ}=> deads c (sz (F := F) c) := by
  have hc : c.val < 8 := c.isLt
  unfold deads
  iintro ⟨#HR, H1, H2, H3, H4, H5, H6, H7⟩
  imod (run_close m K c (fun j => j) (a := 1) (b := 3) (fun j h1 h2 => by unfold live; omega)) $$ [H1] with H1
  · isplitr; · iexact HR
    iexact H1
  imod (run_close m K c (fun r => num 12 r c.val) (a := 0) (b := 3) (fun j h1 h2 => by unfold live; dsimp only [num]; omega)) $$ [H2] with H2
  · isplitr; · iexact HR
    iexact H2
  imod (run_close m K c (fun r => num 36 r c.val) (a := 0) (b := 3) (fun j h1 h2 => by unfold live; dsimp only [num]; omega)) $$ [H3] with H3
  · isplitr; · iexact HR
    iexact H3
  imod (run_close m K c (fun r => num 60 r c.val) (a := 0) (b := 2) (fun j h1 h2 => by unfold live; dsimp only [num]; omega)) $$ [H4] with H4
  · isplitr; · iexact HR
    iexact H4
  imod (run_close m K c (fun r => num 84 r c.val) (a := 0) (b := 2) (fun j h1 h2 => by unfold live; dsimp only [num]; omega)) $$ [H5] with H5
  · isplitr; · iexact HR
    iexact H5
  imod (run_close m K c (fun j => j) (a := 76) (b := 84) (fun j h1 h2 => by unfold live; omega)) $$ [H6] with H6
  · isplitr; · iexact HR
    iexact H6
  imod (run_close m K c (fun j => j) (a := 100) (b := 108) (fun j h1 h2 => by unfold live; omega)) $$ [H7] with H7
  · isplitr; · iexact HR
    iexact H7
  imodintro
  isplitl [H1]; · iexact H1
  isplitl [H2]; · iexact H2
  isplitl [H3]; · iexact H3
  isplitl [H4]; · iexact H4
  isplitl [H5]; · iexact H5
  isplitl [H6]; · iexact H6
  iexact H7

/-! ## Dealing -/

/-- The order of two big separating conjunctions doesn't matter. -/
theorem swap {A B : Type} [DecidableEq A] [DecidableEq B] (S : Finset A) (T : Finset B) (Φ : A → B → sProp 𝕄) :
    bigSep S (fun a => bigSep T (Φ a)) = bigSep T fun b => bigSep S fun a => Φ a b := by
  induction T using Finset.induction_on with
  | empty =>
    simp only [bigSep_empty]
    induction S using Finset.induction_on with
    | empty => exact bigSep_empty
    | insert a S ha ih => rw [bigSep_insert ha, ih]; exact equiv_iff.mp emp_sep
  | insert b T hb ih =>
    simp only [bigSep_insert hb]
    rw [← ih]
    exact bigSep_sep' S (fun a => Φ a b) fun a => bigSep T (Φ a)
/-- Every device gives one to every device. -/
theorem deal (Φ : Dev nD → ℕ → sProp 𝕄) :
    (bigSep Finset.univ fun d : Dev nD => ran (Φ d) 0 8) = bigSep Finset.univ fun c : Dev nD => ran (fun s => Φ (dv s) c.val) 0 8 := by
  rw [bigSep_congr (s := Finset.univ) (fun (d : Dev nD) _ => ran_dev (Φ d)), swap]
  refine bigSep_congr fun c _ => ?_
  rw [ran_dev]
  exact bigSep_congr fun d _ => by rw [dv_self]
theorem drop_own (c : Dev nD) (Φ : ℕ → sProp 𝕄) (a b : ℕ) : ran Φ a b ⊢ ran (fun s => oth c s (Φ s)) a b :=
  ran_mono fun s _ _ => by
    unfold oth; split_ifs
    · exact BI.affine
    · exact BI.Entails.refl _

end Cert.P
-- ==== Proof.Deal.lean ====
/-
The launch's tokens, dealt to the devices that pay with them, and the credits of the cells.
-/
module

public import proofs.«01_k».proof.Proof.Cells

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

/-! ## Tokens -/

/-- The tokens of a device's own cells: of its barrier one for every device, of each of its transfers' cells one. -/
def tokHome (d : Dev nD) : sProp 𝕄 :=
  iprop(ran (fun s => dutyTok (ER (F := F)) (barCell d) 0 (dv s)) 0 8 ∗ ran (tk d) 3 12 ∗ ran (row d (tk d) 12) 0 3
    ∗ ran (row d (tk d) 36) 0 3 ∗ ran (row d (tk d) 60) 0 2 ∗ ran (row d (tk d) 84) 0 2)
/-- The tokens that a device pays with. -/
def tokAway (c : Dev nD) : sProp 𝕄 :=
  iprop(ran (fun s => oth c s (dutyTok (ER (F := F)) (barCell (dv s)) 0 c)) 0 8 ∗ ran (tk c) 3 12 ∗ rights c)

theorem deal_row (b r : ℕ) : (bigSep Finset.univ fun d : Dev nD => row d (tk (F := F) d) b r)
    = bigSep Finset.univ fun c : Dev nD => ran (fun s => oth c s (tk (F := F) (dv s) (num b r c.val))) 0 8 := by
  refine (deal (F := F) fun d s => oth d s (tk d (num b r s))).trans (bigSep_congr fun c _ => ran_congr fun s _ hs => ?_)
  unfold oth
  rw [dv_val hs]
  by_cases h : s = c.val
  · rw [if_pos h, if_pos h.symm]
  · rw [if_neg h, if_neg (Ne.symm h)]
theorem deal_rows (b k : ℕ) : (bigSep Finset.univ fun d : Dev nD => ran (row d (tk (F := F) d) b) 0 k)
    = bigSep Finset.univ fun c : Dev nD => ran (fun r => ran (fun s => oth c s (tk (F := F) (dv s) (num b r c.val))) 0 8) 0 k := by
  have e1 := swap (Finset.univ : Finset (Dev nD)) (Finset.Ico 0 k) fun d r => row d (tk (F := F) d) b r
  have e2 := swap (Finset.univ : Finset (Dev nD)) (Finset.Ico 0 k) fun c r => ran (fun s => oth c s (tk (F := F) (dv s) (num b r c.val))) 0 8
  exact e1.trans ((bigSep_congr fun r _ => deal_row b r).trans e2.symm)

theorem rights_rs (c : Dev nD) (k : ℕ) : iprop(ran (row c (tk (F := F) c) 12) 0 k ∗ ran (fun r => ran (fun s => oth c s (tk (F := F) (dv s) (num 36 r c.val))) 0 8) 0 k)
    = ran (fun r => ran (rsK (F := F) c r) 0 8) 0 k := by
  rw [← ran_sep]
  exact ran_congr fun r _ _ => (ran_oth_sep c _ _ 0 8).symm
theorem rights_ag (c : Dev nD) (k : ℕ) : iprop(ran (row c (tk (F := F) c) 60) 0 k ∗ ran (fun r => ran (fun s => oth c s (tk (F := F) (dv s) (num 84 r c.val))) 0 8) 0 k)
    = ran (fun r => ran (agK (F := F) c r) 0 8) 0 k := by
  rw [← ran_sep]
  exact ran_congr fun r _ _ => (ran_oth_sep c _ _ 0 8).symm
theorem ran_two (Φ : ℕ → sProp 𝕄) : ran Φ 0 2 = iprop(Φ 0 ∗ Φ 1) := by
  rw [ran_bot Φ (by decide), ran_bot Φ (by decide), show 0 + 1 + 1 = 2 from rfl, ran_nil]
  exact congrArg (fun P => iprop(Φ 0 ∗ P)) (equiv_iff.mp sep_emp)
theorem ran_three (Φ : ℕ → sProp 𝕄) : ran Φ 0 3 = iprop(Φ 0 ∗ Φ 1 ∗ Φ 2) := by
  rw [ran_bot Φ (by decide), ran_bot Φ (by decide), ran_bot Φ (by decide), show 0 + 1 + 1 + 1 = 3 from rfl, ran_nil]
  exact congrArg (fun P => iprop(Φ 0 ∗ Φ 1 ∗ P)) (equiv_iff.mp sep_emp)

theorem tok_away (c : Dev nD) :
    iprop(ran (fun s => dutyTok (ER (F := F)) (barCell (dv s)) 0 (dv c.val)) 0 8 ∗ ran (tk c) 3 12 ∗ ran (row c (tk c) 12) 0 3
      ∗ ran (fun r => ran (fun s => oth c s (tk (dv s) (num 36 r c.val))) 0 8) 0 3 ∗ ran (row c (tk c) 60) 0 2
      ∗ ran (fun r => ran (fun s => oth c s (tk (dv s) (num 84 r c.val))) 0 8) 0 2)
    ⊢ tokAway (F := F) c := by
  unfold tokAway rights
  iintro ⟨HB, HT, H1, H2, H3, H4⟩
  isplitl [HB]
  · rw [dv_self]; iapply (drop_own c (fun s => dutyTok (ER (F := F)) (barCell (dv s)) 0 c) 0 8); iexact HB
  isplitl [HT]; · iexact HT
  ihave HR := (Entails.of_eq ((rights_rs (F := F) c 3).trans (ran_three _))) $$ [H1 H2]
  · isplitl [H1]; · iexact H1
    iexact H2
  ihave HA := (Entails.of_eq ((rights_ag (F := F) c 2).trans (ran_two _))) $$ [H3 H4]
  · isplitl [H3]; · iexact H3
    iexact H4
  icases HR with ⟨R0, R1, R2⟩
  icases HA with ⟨A0, A1⟩
  isplitl [R0]; · iexact R0
  isplitl [R1]; · iexact R1
  isplitl [R2]; · iexact R2
  isplitl [A0]; · iexact A0
  iexact A1

theorem tok_deal : (bigSep Finset.univ fun d : Dev nD => tokHome (F := F) d) ⊢ bigSep Finset.univ fun c : Dev nD => tokAway (F := F) c := by
  refine BI.Entails.trans ?_ (bigSep_mono fun c _ => tok_away (F := F) c)
  unfold tokHome
  simp only [bigSep_sep']
  rw [deal (F := F) fun d s => dutyTok (ER (F := F)) (barCell d) 0 (dv s), deal_rows 36, deal_rows 84]
  exact BI.Entails.refl _

/-! ## Credits -/

/-- The part of the launch's debts that is owed to device `c`. -/
def dues (c : Dev nD) : CellTallies nD τ sig Unit := ∑ j ∈ Finset.range 6, ∑ d : Dev nD, itm d (8 * j + c.val)

theorem sum_rows {M : Type} [AddCommMonoid M] (f : ℕ → M) (k : ℕ) :
    ∑ i ∈ Finset.range (8 * k), f i = ∑ j ∈ Finset.range k, ∑ c : Dev nD, f (8 * j + c.val) := by
  induction k with
  | zero => rfl
  | succ k ih =>
    rw [Finset.sum_range_succ, ← ih, Nat.mul_succ, Finset.sum_range_add]
    exact congrArg _ (Finset.sum_range fun x => f (8 * k + x))

theorem dues_sum : (∑ d : Dev nD, debt d 0) = ∑ c : Dev nD, dues c := by
  have h (d : Dev nD) : debt d 0 = ∑ j ∈ Finset.range 6, ∑ c : Dev nD, itm d (8 * j + c.val) := by
    unfold debt
    rw [← Finset.range_eq_Ico]
    exact sum_rows (itm d) 6
  rw [Finset.sum_congr rfl fun d _ => h d]
  unfold dues
  rw [Finset.sum_comm, Finset.sum_comm (s := Finset.univ) (t := Finset.range 6)]
  exact Finset.sum_congr rfl fun j _ => Finset.sum_comm

theorem itmCell_dev (d c : Dev nD) (j : ℕ) : (itmCell d (8 * j + c.val)).1 = (c : Thread nD τ) := by
  have e : dv ((8 * j + c.val) % 8) = c := by
    have hc : c.val < 8 := c.isLt
    rw [show (8 * j + c.val) % 8 = c.val from by omega, dv_self]
  unfold itmCell
  split_ifs <;> (rw [e])

theorem dues_dev (c : Dev nD) (g : GSem nD τ sig) (h : dues c g ≠ 0) : g.1 = (c.tc : Thread nD τ) := by
  unfold dues at h
  rw [Finset.sum_apply] at h
  obtain ⟨j, -, hj⟩ := Finset.exists_ne_zero_of_sum_ne_zero h
  rw [Finset.sum_apply] at hj
  obtain ⟨d, -, hd⟩ := Finset.exists_ne_zero_of_sum_ne_zero hj
  obtain ⟨u, hu⟩ := Finsupp.ne_iff.mp hd
  rw [itm_pos (Nat.pos_of_ne_zero hu)]
  exact itmCell_dev d c j

theorem tally_mul (g : GSem nD τ sig) (n : ℕ) : n • tallyAt g () 1 = (tallyAt g () n : CellTallies nD τ sig Unit) := by
  induction n with
  | zero => rw [zero_smul, tallyAt_zero]
  | succ n ih => rw [succ_nsmul, ih, tallyAt_add]

theorem itm_val (d c : Dev nD) (j : ℕ) : itm d (8 * j + c.val) = if c = d then 0 else tallyAt (itmCell d (8 * j + c.val)) () (itmN (8 * j + c.val)) := by
  have hc : c.val < 8 := c.isLt
  unfold itm
  rw [show (8 * j + c.val) % 8 = c.val from by omega]
  by_cases h : c = d
  · rw [if_pos h, if_pos (congrArg Fin.val h)]
  · rw [if_neg h, if_neg fun h' => h (Fin.ext h')]

theorem dues_bar (c : Dev nD) : ∑ d : Dev nD, itm d (8 * 0 + c.val) = tallyAt (barCell c) () 7 := by
  have hc : c.val < 8 := c.isLt
  have h0 : (8 * 0 + c.val) / 8 = 0 := by omega
  rw [← Finset.add_sum_erase _ _ (Finset.mem_univ c), itm_val, if_pos rfl, zero_add, ← tally_mul]
  rw [Finset.sum_congr rfl (g := fun _ => tallyAt (barCell c) () 1) fun d hd => by
    rw [itm_val, if_neg (Finset.ne_of_mem_erase hd).symm]
    unfold itmCell itmN
    rw [if_pos h0, if_pos h0, show (8 * 0 + c.val) % 8 = c.val from by omega, dv_self]]
  rw [Finset.sum_const, Finset.card_erase_of_mem (Finset.mem_univ c)]
  rfl

/-- The credits of one row of device `c`'s cells, from the debts of everybody. -/
theorem dues_row (c : Dev nD) (j b r : ℕ) (hj : (8 * j + c.val) / 8 ≠ 0) (hb : 12 ≤ b) (h : ∀ d : Dev nD, itmCell d (8 * j + c.val) = dcell c (num b r d.val)) :
    (bigSep Finset.univ fun d : Dev nD => (cred (itm d (8 * j + c.val)) : sProp 𝕄))
      ⊢ ran (fun s => oth c s (cred (tallyAt (dcell c (num b r s)) () (amt (num b r s))))) 0 8 := by
  rw [ran_dev]
  refine bigSep_mono fun d _ => ?_
  unfold oth
  rw [itm_val]
  by_cases e : d.val = c.val
  · rw [if_pos e]; exact BI.affine
  · rw [if_neg e, if_neg fun h' => e (congrArg Fin.val h').symm, h d, amt_blk (by unfold num; omega)]
    unfold itmN
    rw [if_neg hj]
    exact BI.Entails.refl _

theorem credits (c : Dev nD) : (Pipeline.launchCred (fun d => debt d 0) c : sProp 𝕄)
    ⊢ iprop(cred (tallyAt (barCell c) () 7)
      ∗ (ran (fun s => oth c s (cred (tallyAt (dcell c (num 36 0 s)) () (amt (num 36 0 s))))) 0 8
        ∗ ran (fun s => oth c s (cred (tallyAt (dcell c (num 36 1 s)) () (amt (num 36 1 s))))) 0 8
        ∗ ran (fun s => oth c s (cred (tallyAt (dcell c (num 36 2 s)) () (amt (num 36 2 s))))) 0 8)
      ∗ (ran (fun s => oth c s (cred (tallyAt (dcell c (num 84 0 s)) () (amt (num 84 0 s))))) 0 8
        ∗ ran (fun s => oth c s (cred (tallyAt (dcell c (num 84 1 s)) () (amt (num 84 1 s))))) 0 8)) := by
  have hc : c.val < 8 := c.isLt
  rw [Pipeline.launchCred_of_sum _ dues dues_sum dues_dev c]
  unfold dues
  rw [Finset.sum_range_succ, Finset.sum_range_succ, Finset.sum_range_succ, Finset.sum_range_succ, Finset.sum_range_succ, Finset.sum_range_one, dues_bar]
  iintro ⟨⟨⟨⟨⟨H0, H1⟩, H2⟩, H3⟩, H4⟩, H5⟩
  isplitl [H0]; · iexact H0
  isplitl [H1 H3 H5]
  · isplitl [H1]
    · iapply (dues_row c 1 36 0 (by omega) (by decide) (fun d => by
        unfold itmCell
        rw [if_neg (by omega), if_pos (by omega), show (8 * 1 + c.val) % 8 = c.val from by omega, dv_self, show (8 * 1 + c.val) / 16 = 0 from by omega]))
      iapply (Entails.of_eq (Pipeline.cred_finsetSum Finset.univ fun d : Dev nD => itm d (8 * 1 + c.val))); iexact H1
    isplitl [H3]
    · iapply (dues_row c 3 36 1 (by omega) (by decide) (fun d => by
        unfold itmCell
        rw [if_neg (by omega), if_pos (by omega), show (8 * 3 + c.val) % 8 = c.val from by omega, dv_self, show (8 * 3 + c.val) / 16 = 1 from by omega]))
      iapply (Entails.of_eq (Pipeline.cred_finsetSum Finset.univ fun d : Dev nD => itm d (8 * 3 + c.val))); iexact H3
    · iapply (dues_row c 5 36 2 (by omega) (by decide) (fun d => by
        unfold itmCell
        rw [if_neg (by omega), if_pos (by omega), show (8 * 5 + c.val) % 8 = c.val from by omega, dv_self, show (8 * 5 + c.val) / 16 = 2 from by omega]))
      iapply (Entails.of_eq (Pipeline.cred_finsetSum Finset.univ fun d : Dev nD => itm d (8 * 5 + c.val))); iexact H5
  · isplitl [H2]
    · iapply (dues_row c 2 84 0 (by omega) (by decide) (fun d => by
        unfold itmCell
        rw [if_neg (by omega), if_neg (by omega), show (8 * 2 + c.val) % 8 = c.val from by omega, dv_self, show (8 * 2 + c.val) / 16 - 1 = 0 from by omega]))
      iapply (Entails.of_eq (Pipeline.cred_finsetSum Finset.univ fun d : Dev nD => itm d (8 * 2 + c.val))); iexact H2
    · iapply (dues_row c 4 84 1 (by omega) (by decide) (fun d => by
        unfold itmCell
        rw [if_neg (by omega), if_neg (by omega), show (8 * 4 + c.val) % 8 = c.val from by omega, dv_self, show (8 * 4 + c.val) / 16 - 1 = 1 from by omega]))
      iapply (Entails.of_eq (Pipeline.cred_finsetSum Finset.univ fun d : Dev nD => itm d (8 * 4 + c.val))); iexact H4

end Cert.P
-- ==== Proof.Alloc.lean ====
/-
The launch's protocol: every cell's invariant, and what each device starts with.
-/
module

public import proofs.«01_k».proof.Proof.Deal

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

/-! ## All cells of a device -/

theorem kn_val (k : Fin 108) : kn k.val = k := Fin.ext (Nat.mod_eq_of_lt k.isLt)
theorem kcell_injective : Function.Injective (kcell : Dev nD × Fin 108 → GSem nD τ sig) := by
  rintro ⟨c, k⟩ ⟨c', k'⟩ h
  have h1 : c = c' := congrArg (fun g : GSem nD τ sig => g.1.1) h
  have h2 : csem k = csem k' := congrArg Prod.snd h
  subst h1
  refine Prod.ext rfl (Fin.ext ?_)
  unfold csem at h2
  split_ifs at h2 with e e'
  · exact e.trans e'.symm
  · have h3 := congrArg Fin.val (SemLoc.dma.inj h2)
    rwa [dq_val k.isLt, dq_val k'.isLt] at h3

/-- The transfers' cells that a device waits on. -/
def livesD (c : Dev nD) (Φ : ℕ → sProp 𝕄) : sProp 𝕄 :=
  iprop(ran Φ 3 12 ∗ (ran (fun s => oth c s (Φ (num 12 0 s))) 0 8 ∗ ran (fun s => oth c s (Φ (num 12 1 s))) 0 8 ∗ ran (fun s => oth c s (Φ (num 12 2 s))) 0 8)
    ∗ (ran (fun s => oth c s (Φ (num 36 0 s))) 0 8 ∗ ran (fun s => oth c s (Φ (num 36 1 s))) 0 8 ∗ ran (fun s => oth c s (Φ (num 36 2 s))) 0 8)
    ∗ (ran (fun s => oth c s (Φ (num 60 0 s))) 0 8 ∗ ran (fun s => oth c s (Φ (num 60 1 s))) 0 8)
    ∗ (ran (fun s => oth c s (Φ (num 84 0 s))) 0 8 ∗ ran (fun s => oth c s (Φ (num 84 1 s))) 0 8))
theorem lives_eq (c : Dev nD) (Φ : ℕ → sProp 𝕄) : lives c Φ = iprop(Φ 0 ∗ livesD c Φ) := by
  unfold lives livesD
  rw [ran_three, ran_three, ran_two, ran_two]
  rfl

theorem cells_at (c : Dev nD) (Ψ : GSem nD τ sig → sProp 𝕄) : (bigSep Finset.univ fun k : Fin 108 => Ψ (kcell (c, k)))
    = iprop(Ψ (barCell c) ∗ livesD c (fun n => Ψ (dcell c n)) ∗ deads c (fun n => Ψ (dcell c n))) := by
  have e : (bigSep Finset.univ fun k : Fin 108 => Ψ (kcell (c, k))) = ran (fun n => if n = 0 then Ψ (barCell c) else Ψ (dcell c n)) 0 108 := by
    rw [ran_cells]
    refine bigSep_congr fun k _ => ?_
    by_cases h : k.val = 0
    · rw [if_pos h, show k = (0 : Fin 108) from Fin.ext h]; rfl
    · rw [if_neg h, ← kcell_dma c (Nat.pos_of_ne_zero h) k.isLt, kn_val]
  have h0 {n : ℕ} (hn : 0 < n) : (if n = 0 then Ψ (barCell c) else Ψ (dcell c n)) = Ψ (dcell c n) := if_neg hn.ne'
  have hr {f : ℕ → ℕ} {a b : ℕ} (hf : ∀ j, a ≤ j → j < b → 0 < f j) : ran (fun j => if f j = 0 then Ψ (barCell c) else Ψ (dcell c (f j))) a b = ran (fun j => Ψ (dcell c (f j))) a b :=
    ran_congr fun j h1 h2 => h0 (hf j h1 h2)
  have ho {b r : ℕ} (hb : 0 < b) : ran (fun s => oth c s (if num b r s = 0 then Ψ (barCell c) else Ψ (dcell c (num b r s)))) 0 8 = ran (fun s => oth c s (Ψ (dcell c (num b r s)))) 0 8 :=
    ran_congr fun s _ _ => congrArg (oth c s) (h0 (by unfold num; omega))
  rw [e, cells_cut c, lives_eq, assoc_eq, if_pos rfl]
  have e1 : livesD c (fun n => if n = 0 then Ψ (barCell c) else Ψ (dcell c n)) = livesD c (fun n => Ψ (dcell c n)) := by
    unfold livesD
    rw [ho (b := 12) (by decide), ho (b := 12) (by decide), ho (b := 12) (by decide), ho (b := 36) (by decide), ho (b := 36) (by decide), ho (b := 36) (by decide),
      ho (b := 60) (by decide), ho (b := 60) (by decide), ho (b := 84) (by decide), ho (b := 84) (by decide), hr (f := fun j => j) (a := 3) (fun j h1 _ => by omega)]
  have e2 : deads c (fun n => if n = 0 then Ψ (barCell c) else Ψ (dcell c n)) = deads c (fun n => Ψ (dcell c n)) := by
    unfold deads
    rw [hr (f := fun j => j) (a := 1) (fun j h1 _ => by omega), hr (f := fun j => j) (a := 76) (fun j h1 _ => by omega), hr (f := fun j => j) (a := 100) (fun j h1 _ => by omega),
      hr (f := fun r => num 12 r c.val) (fun _ _ _ => by unfold num; omega), hr (f := fun r => num 36 r c.val) (fun _ _ _ => by unfold num; omega),
      hr (f := fun r => num 60 r c.val) (fun _ _ _ => by unfold num; omega), hr (f := fun r => num 84 r c.val) (fun _ _ _ => by unfold num; omega)]
  rw [e1, e2]

/-! ## Semaphores -/

/-- The kernel's own semaphores. -/
def osem (k : Fin 107) : SemLoc sig := .dma (dq (k.val + 1))

theorem ownSemFacts : Pipeline.OwnSemFacts cfg0.spec osem := by decide

theorem bar_sem (c : Dev nD) : (unscopedSems0 c : sProp 𝕄) = semVal (barCell c) 0 := by
  unfold unscopedSems0; rw [bigSep_eq_bigSepL_of_eq [SemLoc.reg barS] (by decide) (by decide)]; rfl

theorem all_sems (c : Dev nD) :
    iprop(unscopedSems0 c ∗ Pipeline.ownSems0 (Ix := Unit) (Name := ℕ) (U := UU) (Lvl := ℕ) (Val := Elt F) (τ := τ) osem c)
      = (bigSep Finset.univ fun k : Fin 108 => semVal (kcell (c, k)) 0 : sProp 𝕄) := by
  rw [bar_sem]
  have e : (Finset.univ : Finset (Fin 108)) = insert 0 ((Finset.univ : Finset (Fin 107)).map ⟨Fin.succ, Fin.succ_injective 107⟩) := by decide
  rw [e, bigSep_insert (by decide), bigSep_map]
  rfl

/-! ## Tokens and invariants -/

def ringCells : Finset (GSem nD τ sig) := Finset.univ.map ⟨kcell, kcell_injective⟩
def tokOf (x : Dev nD × Fin 108 × Fin 8) : GSem nD τ sig × ℕ × Fin 8 := (kcell (x.1, x.2.1), 0, x.2.2)
theorem tokOf_injective : Function.Injective tokOf := by
  rintro ⟨c, k, p⟩ ⟨c', k', p'⟩ h
  have h1 := kcell_injective (congrArg Prod.fst h : kcell (c, k) = kcell (c', k'))
  have h2 : p = p' := congrArg (fun x : GSem nD τ sig × ℕ × Fin 8 => x.2.2) h
  cases h1; cases h2; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The tokens of a device's cells, all of them. -/
def toks (c : Dev nD) : sProp 𝕄 := bigSep Finset.univ fun k : Fin 108 => bigSep Finset.univ fun p : Fin 8 => dutyTok (ER (F := F)) (kcell (c, k)) 0 p

theorem toks_home (c : Dev nD) : toks (F := F) c ⊢ tokHome c := by
  unfold toks
  rw [cells_at c fun g => bigSep Finset.univ fun p : Fin 8 => dutyTok (ER (F := F)) g 0 p]
  have hz (n : ℕ) : (bigSep Finset.univ fun p : Fin 8 => dutyTok (ER (F := F)) (dcell c n) 0 p) ⊢ tk c n :=
    bigSep_elim (Φ := fun p : Fin 8 => dutyTok (ER (F := F)) (dcell c n) 0 p) (Finset.mem_univ 0)
  have ho (b r : ℕ) : ran (fun s => oth c s (bigSep Finset.univ fun p : Fin 8 => dutyTok (ER (F := F)) (dcell c (num b r s)) 0 p)) 0 8 ⊢ row c (tk c) b r :=
    ran_mono fun s _ _ => by
      unfold oth
      split_ifs
      · exact BI.Entails.refl _
      · exact hz _
  unfold livesD tokHome
  iintro ⟨HB, ⟨HT, ⟨A0, A1, A2⟩, ⟨B0, B1, B2⟩, ⟨C0, C1⟩, ⟨D0, D1⟩⟩, -⟩
  isplitl [HB]
  · rw [ran_dev]; simp only [dv_self]; iexact HB
  isplitl [HT]
  · iapply (ran_mono (a := 3) (b := 12) fun n _ _ => hz n); iexact HT
  rw [ran_three, ran_three, ran_two, ran_two]
  isplitl [A0 A1 A2]
  · isplitl [A0]; · iapply (ho 12 0); iexact A0
    isplitl [A1]; · iapply (ho 12 1); iexact A1
    iapply (ho 12 2); iexact A2
  isplitl [B0 B1 B2]
  · isplitl [B0]; · iapply (ho 36 0); iexact B0
    isplitl [B1]; · iapply (ho 36 1); iexact B1
    iapply (ho 36 2); iexact B2
  isplitl [C0 C1]
  · isplitl [C0]; · iapply (ho 60 0); iexact C0
    iapply (ho 60 1); iexact C1
  · isplitl [D0]; · iapply (ho 84 0); iexact D0
    iapply (ho 84 1); iexact D1

/-- What the launch hands device `c`. -/
def G (c : Dev nD) : sProp 𝕄 :=
  iprop((bigSep Finset.univ fun k : Fin 108 => roundState ER (rd m) (kcell (c, k)) 0)
    ∗ ((bigSep Finset.univ fun k : Fin 108 => atPos (ER (F := F)) (kcell (c, k)) 0 ∅ 0) ∗ (bigSep Finset.univ fun k : Fin 108 => reached (ER (F := F)) (kcell (c, k)) 0)) ∗ toks c)

/-- The invariants of all cells, and that none is before round 0. -/
def facts (K : Dev nD × Fin 108 → ℕ) : sProp 𝕄 :=
  iprop(bigSep Finset.univ (fun ck : Dev nD × Fin 108 => cellInv ER (rd m) (K ck) (kcell ck))
    ∗ bigSep Finset.univ (fun ck : Dev nD × Fin 108 => reached (ER (F := F)) (kcell ck) 0))
instance facts_persistent (K : Dev nD × Fin 108 → ℕ) : BI.Persistent (facts m K) := by unfold facts; infer_instance

/-- A device's positions and the tokens it pays with. -/
def mine (c : Dev nD) : sProp 𝕄 := iprop((bigSep Finset.univ fun k : Fin 108 => atPos (ER (F := F)) (kcell (c, k)) 0 ∅ 0) ∗ tokAway c)
def G' (c : Dev nD) : sProp 𝕄 := iprop(∃ K, facts m K ∗ mine c)

theorem mint : BI.own (ER (initOf ringCells ringToks)) ⊢ (|==> bigSep Finset.univ (G m) : sProp 𝕄) := by
  have hc (Φ : GSem nD τ sig → sProp 𝕄) : bigSep ringCells Φ = bigSep Finset.univ fun c : Dev nD => bigSep Finset.univ fun k : Fin 108 => Φ (kcell (c, k)) := by
    unfold ringCells; rw [bigSep_map, bigSep_univ_prod]; rfl
  have ht : bigSep ringToks (fun x => (dutyTok ER x.1 x.2.1 x.2.2 : sProp 𝕄)) = bigSep Finset.univ fun c : Dev nD => toks c := by
    unfold ringToks
    rw [bigSep_map, bigSep_univ_prod]
    refine bigSep_congr fun c _ => ?_
    rw [bigSep_univ_prod]
    rfl
  iintro HX
  imod (Rounds.fund ER (rd m) ringCells ringToks) $$ HX with ⟨Hst, Hr, Hat, Htok⟩
  imodintro
  ihave Hst := (Entails.of_eq (hc fun g => roundState ER (rd m) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold G; simp only [bigSep_sep']
  isplitl [Hst]; · iexact Hst
  isplitl [Hat Hr]
  · isplitl [Hat]; · iexact Hat
    iexact Hr
  iexact Htok

theorem alloc_dev (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 108 => iprop(∃ κ : ℕ, cellInv ER (rd m) κ (kcell (c, k))))
          ∗ ((bigSep Finset.univ fun k : Fin 108 => atPos (ER (F := F)) (kcell (c, k)) 0 ∅ 0) ∗ (bigSep Finset.univ fun k : Fin 108 => reached (ER (F := F)) (kcell (c, k)) 0)) ∗ tokHome c) := by
  have hv : iprop((bigSep Finset.univ fun k : Fin 108 => semVal (kcell (c, k)) 0) ∗ bigSep Finset.univ fun k : Fin 108 => roundState ER (rd m) (kcell (c, k)) 0)
      ⊢ (|={Set.univ}=> bigSep Finset.univ fun k : Fin 108 => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Ho, Hu, Hst, Hat, Htok⟩
  ihave Hz := (Entails.of_eq (all_sems (F := F) c)) $$ [Ho Hu]
  · isplitl [Hu]; · iexact Hu
    iexact Ho
  imod hv $$ [Hz Hst] with HI
  · isplitl [Hz]; · iexact Hz
    iexact Hst
  imodintro
  isplitl [HI]; · iexact HI
  isplitl [Hat]; · iexact Hat
  iapply (toks_home c); iexact Htok

theorem each (K : Dev nD × Fin 108 → ℕ) : iprop(facts m K ∗ bigSep Finset.univ fun c : Dev nD => mine (F := F) c) ⊢ bigSep Finset.univ (G' m) := by
  refine BI.Entails.trans (sep_mono_left (BI.bigSep_of_persistent (Finset.univ : Finset (Dev nD)) (facts m K))) ?_
  rw [← bigSep_sep']
  refine bigSep_mono fun c _ => ?_
  unfold G'
  exact exists_intro (Φ := fun K => iprop(facts m K ∗ mine c)) K

theorem gather :
    (bigSep Finset.univ fun c : Dev nD => iprop((bigSep Finset.univ fun k : Fin 108 => iprop(∃ κ : ℕ, cellInv ER (rd m) κ (kcell (c, k))))
          ∗ ((bigSep Finset.univ fun k : Fin 108 => atPos (ER (F := F)) (kcell (c, k)) 0 ∅ 0) ∗ (bigSep Finset.univ fun k : Fin 108 => reached (ER (F := F)) (kcell (c, k)) 0)) ∗ tokHome c) : sProp 𝕄)
      ⊢ bigSep Finset.univ (G' m) := by
  rw [bigSep_sep', bigSep_sep', bigSep_sep', ← bigSep_univ_prod (fun ck : Dev nD × Fin 108 => iprop(∃ κ : ℕ, cellInv ER (rd m) κ (kcell ck))),
    ← bigSep_univ_prod (fun ck : Dev nD × Fin 108 => (reached (ER (F := F)) (kcell ck) 0 : sProp 𝕄))]
  iintro ⟨HI, ⟨Hat, #HR⟩, Htok⟩
  ihave HK := (BI.bigSep_exists_pi Finset.univ (fun (ck : Dev nD × Fin 108) (κ : ℕ) => (cellInv ER (rd m) κ (kcell ck) : sProp 𝕄))) $$ HI
  icases HK with ⟨%K, #HI⟩
  ihave Htk := (tok_deal (F := F)) $$ Htok
  iapply (each m K)
  isplitr
  · unfold facts
    isplitr; · iexact HI
    iexact HR
  · unfold mine
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_dev m c).trans (bigSep_fupd _ _)).trans (BI.fupd_mono (gather m))

end Cert.P
-- ==== Proof.Start.lean ====
/-
What a device's kernel starts from and ends with, in terms of whole arrays and of all of its cells.
-/
module

public import proofs.«01_k».proof.Proof.Alloc

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

theorem ran_nine (Φ : ℕ → sProp 𝕄) : ran Φ 3 12 = iprop(Φ 3 ∗ Φ 4 ∗ Φ 5 ∗ Φ 6 ∗ Φ 7 ∗ Φ 8 ∗ Φ 9 ∗ Φ 10 ∗ Φ 11) := by
  have e (n : ℕ) (h : n < 12) : ran Φ n 12 = iprop(Φ n ∗ ran Φ (n + 1) 12) := ran_bot Φ h
  rw [e 3 (by decide), e 4 (by decide), e 5 (by decide), e 6 (by decide), e 7 (by decide), e 8 (by decide), e 9 (by decide), e 10 (by decide), ran_bot Φ (by decide : 11 < 12), ran_nil]
  exact congrArg (fun P => iprop(Φ 3 ∗ Φ 4 ∗ Φ 5 ∗ Φ 6 ∗ Φ 7 ∗ Φ 8 ∗ Φ 9 ∗ Φ 10 ∗ P)) (equiv_iff.mp sep_emp)

/-! ## The arguments -/

/-- The shares of the arguments that the launch keeps. -/
def keepArgs (c : Dev nD) : sProp 𝕄 :=
  iprop(aP m c main_arg0 fullShare.left ∗ aP m c main_arg1 fullShare.left ∗ aP m c main_arg2 fullShare.left ∗ aP m c main_arg3 fullShare.left
    ∗ aP m c main_arg4 fullShare.left ∗ aP m c main_arg5 fullShare.left ∗ aP m c main_arg6 fullShare.left)
theorem halves (c : Dev nD) (b : Ref sig .tc) (q : PosShare TreeShare) : aP m c b q ⊢ iprop(aP m c b q.left ∗ aP m c b q.right) :=
  (pointsTo_share (PosShare.mem_left_op_right q)).1
theorem args_split (c : Dev nD) :
    iprop(aP m c main_arg0 fullShare ∗ aP m c main_arg1 fullShare ∗ aP m c main_arg2 fullShare ∗ aP m c main_arg3 fullShare
      ∗ aP m c main_arg4 fullShare ∗ aP m c main_arg5 fullShare ∗ aP m c main_arg6 fullShare) ⊢ iprop(inArgs m c ∗ keepArgs m c) := by
  iintro ⟨H0, H1, H2, H3, H4, H5, H6⟩
  ihave H0 := (halves m c main_arg0 fullShare) $$ H0; icases H0 with ⟨L0, R0⟩
  ihave H1 := (halves m c main_arg1 fullShare) $$ H1; icases H1 with ⟨L1, R1⟩
  ihave H2 := (halves m c main_arg2 fullShare) $$ H2; icases H2 with ⟨L2, R2⟩
  ihave H3 := (halves m c main_arg3 fullShare) $$ H3; icases H3 with ⟨L3, R3⟩
  ihave H4 := (halves m c main_arg4 fullShare) $$ H4; icases H4 with ⟨L4, R4⟩
  ihave H5 := (halves m c main_arg5 fullShare) $$ H5; icases H5 with ⟨L5, R5⟩
  ihave H6 := (halves m c main_arg6 fullShare) $$ H6; icases H6 with ⟨L6, R6⟩
  ihave R1 := (halves m c main_arg1 fullShare.right) $$ R1; icases R1 with ⟨R1l, R1r⟩
  ihave R4 := (halves m c main_arg4 fullShare.right) $$ R4; icases R4 with ⟨R4l, R4r⟩
  isplitl [R0 R1l R1r R4l R4r R2 R5 R3 R6]
  · unfold inArgs
    isplitl [R0]; · iexact R0
    isplitl [R1l]; · iexact R1l
    isplitl [R1r]; · iexact R1r
    isplitl [R4l]; · iexact R4l
    isplitl [R4r]; · iexact R4r
    isplitl [R2]; · iexact R2
    isplitl [R5]; · iexact R5
    isplitl [R3]; · iexact R3
    iexact R6
  unfold keepArgs
  isplitl [L0]; · iexact L0
  isplitl [L1]; · iexact L1
  isplitl [L2]; · iexact L2
  isplitl [L3]; · iexact L3
  isplitl [L4]; · iexact L4
  isplitl [L5]; · iexact L5
  iexact L6

/-! ## What the launch's ghost state gives a device -/

/-- What a device starts with besides its arguments and arrays. -/
def gear (c : Dev nD) : sProp 𝕄 :=
  iprop(inLoc c ∗ barC c ∗ rights c ∗ ran (fun s => oth c s (dutyTok (ER (F := F)) (barCell (dv s)) 0 c)) 0 8 ∗ inDma c)

theorem dm_in (b : ℕ) (c : Dev nD) (r : ℕ) :
    iprop(ran (fun s => oth c s (cred (tallyAt (dcell c (num b r s)) () (amt (num b r s))))) 0 8 ∗ ran (fun s => oth c s (ps (F := F) c (num b r s))) 0 8)
      = ran (dmIn b c r) 0 8 := (ran_oth_sep c _ _ 0 8).symm
theorem dm_in_halves (b : ℕ) (c : Dev nD) (r : ℕ) :
    iprop(ran (fun s => oth c s (cred (tallyAt (dcell c (num b r s)) () (amt (num b r s))))) 0 8 ∗ ran (fun s => oth c s (ps (F := F) c (num b r s))) 0 8)
      = iprop(ran (dmIn b c r) 0 4 ∗ ran (dmIn b c r) 4 8) :=
  (dm_in b c r).trans (ran_append _ (a := 0) (b := 4) (c := 8) (by decide) (by decide))

theorem gear_in (c : Dev nD) : iprop((Pipeline.launchCred (fun d => debt d 0) c : sProp 𝕄) ∗ mine c) ⊢ iprop(gear (F := F) c ∗ deads c (ps c)) := by
  unfold mine tokAway
  rw [cells_at c fun g => atPos (ER (F := F)) g 0 ∅ 0, show (fun n => atPos (ER (F := F)) (dcell c n) 0 ∅ 0) = ps c from rfl]
  refine (sep_mono_left (credits (F := F) c)).trans ?_
  unfold livesD
  rw [ran_nine, ran_nine]
  iintro ⟨⟨CB, ⟨CR0, CR1, CR2⟩, ⟨CA0, CA1⟩⟩, ⟨PB, ⟨PLOC, ⟨S0, S1, S2⟩, ⟨PR0, PR1, PR2⟩, ⟨G0, G1⟩, ⟨PA0, PA1⟩⟩, PD⟩, TB, TLOC, TR⟩
  icases PLOC with ⟨P3, P4, P5, P6, P7, P8, P9, P10, P11⟩
  icases TLOC with ⟨T3, T4, T5, T6, T7, T8, T9, T10, T11⟩
  ihave R0 := (Entails.of_eq (dm_in (F := F) 36 c 0)) $$ [CR0 PR0]
  · isplitl [CR0]; · iexact CR0
    iexact PR0
  ihave R1 := (Entails.of_eq (dm_in (F := F) 36 c 1)) $$ [CR1 PR1]
  · isplitl [CR1]; · iexact CR1
    iexact PR1
  ihave R2 := (Entails.of_eq (dm_in (F := F) 36 c 2)) $$ [CR2 PR2]
  · isplitl [CR2]; · iexact CR2
    iexact PR2
  ihave A0 := (Entails.of_eq (dm_in_halves (F := F) 84 c 0)) $$ [CA0 PA0]
  · isplitl [CA0]; · iexact CA0
    iexact PA0
  icases A0 with ⟨A0a, A0b⟩
  ihave A1 := (Entails.of_eq (dm_in_halves (F := F) 84 c 1)) $$ [CA1 PA1]
  · isplitl [CA1]; · iexact CA1
    iexact PA1
  icases A1 with ⟨A1a, A1b⟩
  isplitr [PD]
  · unfold gear inLoc barC inDma
    isplitl [T3 P3 T4 P4 T5 P5 T6 P6 T7 P7 T8 P8 T9 P9 T10 P10 T11 P11]
    · isplitl [T3]; · iexact T3
      isplitl [P3]; · iexact P3
      isplitl [T4]; · iexact T4
      isplitl [P4]; · iexact P4
      isplitl [T5]; · iexact T5
      isplitl [P5]; · iexact P5
      isplitl [T6]; · iexact T6
      isplitl [P6]; · iexact P6
      isplitl [T7]; · iexact T7
      isplitl [P7]; · iexact P7
      isplitl [T8]; · iexact T8
      isplitl [P8]; · iexact P8
      isplitl [T9]; · iexact T9
      isplitl [P9]; · iexact P9
      isplitl [T10]; · iexact T10
      isplitl [P10]; · iexact P10
      isplitl [T11]; · iexact T11
      iexact P11
    isplitl [CB PB]
    · isplitl [CB]; · iexact CB
      iexact PB
    isplitl [TR]; · iexact TR
    isplitl [TB]; · iexact TB
    isplitl [S0]; · iexact S0
    isplitl [S1]; · iexact S1
    isplitl [S2]; · iexact S2
    isplitl [G0]; · iexact G0
    isplitl [G1]; · iexact G1
    isplitl [R0]; · iexact R0
    isplitl [R1]; · iexact R1
    isplitl [R2]; · iexact R2
    isplitl [A0a]; · iexact A0a
    isplitl [A0b]; · iexact A0b
    isplitl [A1a]; · iexact A1a
    iexact A1b
  · iexact PD

/-! ## The arrays -/

/-- A device's arrays, whole, at any contents. -/
def scrs (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

theorem body_in (c : Dev nD) : iprop((inArgs m c ∗ gear c) ∗ scrs c ∗ outE c) ⊢ bodyIn m c := by
  unfold gear scrs
  iintro ⟨⟨HA, HL, HC, HR, HT, HD⟩, ⟨S0, S1, S2, S3, S4, S5, S6⟩, HO⟩
  ihave S0 := (wv_open (F := F) c) $$ S0; icases S0 with ⟨⟨W0a, W0b⟩, W1, W2⟩
  ihave S1 := (ov_open (F := F) c) $$ S1; icases S1 with ⟨⟨V0a, V0b⟩, V1, V2⟩
  ihave S2 := (sb_open (F := F) c) $$ S2; icases S2 with ⟨B0, ⟨B1a, B1b⟩, B2a, B2b⟩
  ihave S3 := (rs_open (F := F) c) $$ S3; icases S3 with ⟨X0, X1, X2⟩
  ihave S4 := (ag_open (F := F) c) $$ S4; icases S4 with ⟨G0, G1⟩
  ihave S5 := (ac_open (F := F) c) $$ S5; icases S5 with ⟨Y0, Y1⟩
  ihave HB := (Entails.of_eq (bar_in (F := F) c)) $$ [X0 X1 X2 Y0 Y1 HT]
  · isplitr [HT]
    · isplitl [X0]; · iexact X0
      isplitl [X1]; · iexact X1
      isplitl [X2]; · iexact X2
      isplitl [Y0]; · iexact Y0
      iexact Y1
    · iexact HT
  unfold barKeep
  icases HB with ⟨⟨K0, K1, K2, K3, K4⟩, HS⟩
  unfold bodyIn inArr inBar
  rw [show xvE (F := F) c = iprop(∃ f : Buf (Elt F) ((c : Thread nD τ).loc cc0_scratch6), (c : Thread nD τ).loc cc0_scratch6 ↦{fullShare} f) from rfl]
  isplitl [HA]; · iexact HA
  isplitl [HL]; · iexact HL
  isplitl [W0a W0b W1 W2 V0a V0b V1 V2 S6 B0 B1a B1b B2a B2b G0 G1 HO]
  · isplitl [W0a]; · iexact W0a
    isplitl [W0b]; · iexact W0b
    isplitl [W1]; · iexact W1
    isplitl [W2]; · iexact W2
    isplitl [V0a]; · iexact V0a
    isplitl [V0b]; · iexact V0b
    isplitl [V1]; · iexact V1
    isplitl [V2]; · iexact V2
    isplitl [S6]; · iexact S6
    isplitl [B0]; · iexact B0
    isplitl [B1a]; · iexact B1a
    isplitl [B1b]; · iexact B1b
    isplitl [B2a]; · iexact B2a
    isplitl [B2b]; · iexact B2b
    isplitl [G0]; · iexact G0
    isplitl [G1]; · iexact G1
    iexact HO
  isplitl [HS K0 K1 K2 K3 K4 HC HR]
  · isplitl [HS]; · iexact HS
    isplitl [K0]; · iexact K0
    isplitl [K1]; · iexact K1
    isplitl [K2]; · iexact K2
    isplitl [K3]; · iexact K3
    isplitl [K4]; · iexact K4
    isplitl [HC]; · iexact HC
    iexact HR
  iexact HD

/-- Halves of a row of counters, joined. -/
theorem sems_halves (b : ℕ) (c : Dev nD) (r : ℕ) : iprop(ran (sems (F := F) b c r) 0 4 ∗ ran (sems b c r) 4 8) = ran (sems b c r) 0 8 :=
  (ran_append _ (a := 0) (b := 4) (c := 8) (by decide) (by decide)).symm

theorem body_out (c : Dev nD) : iprop(bodyOut m c ∗ deads c (sz (F := F) c))
    ⊢ iprop(scrs c ∗ outP m c ∗ bigSep Finset.univ fun k : Fin 108 => semVal (kcell (c, k)) 0) := by
  rw [cells_at c fun g => semVal g 0, show (fun n => (semVal (dcell c n) 0 : sProp 𝕄)) = sz c from rfl]
  unfold bodyOut outArr outRows outSem livesD
  rw [ran_nine]
  iintro ⟨⟨⟨W0a, W0b, W1, W2, V0a, V0b, V1, V2, S6, X0, X1, X2, Y0a, Y0b, Y1a, Y1b, HO⟩, ⟨B0, D0, B1, D1, B2, D2, G0, O0, E0, G1, O1, E1⟩, BZ, Z3, Z4, Z5, Z6, Z7, Z8, Z9, Z10, Z11, R0, R1, R2, A0a, A0b, A1a, A1b⟩, HD⟩
  ihave B0 := (Entails.of_eq (sb_end m c (r := 0) (by decide))) $$ [B0 D0]
  · isplitl [B0]; · iexact B0
    iexact D0
  icases B0 with ⟨B0, D0⟩
  ihave B1 := (Entails.of_eq (sb_end m c (r := 1) (by decide))) $$ [B1 D1]
  · isplitl [B1]; · iexact B1
    iexact D1
  icases B1 with ⟨B1, D1⟩
  ihave B2 := (Entails.of_eq (sb_end m c (r := 2) (by decide))) $$ [B2 D2]
  · isplitl [B2]; · iexact B2
    iexact D2
  icases B2 with ⟨B2, D2⟩
  ihave G0 := (Entails.of_eq (ag_end m c (r := 0) (by decide))) $$ [G0 O0 E0]
  · isplitl [G0]; · iexact G0
    isplitl [O0]; · iexact O0
    iexact E0
  icases G0 with ⟨G0, E0⟩
  ihave G1 := (Entails.of_eq (ag_end m c (r := 1) (by decide))) $$ [G1 O1 E1]
  · isplitl [G1]; · iexact G1
    isplitl [O1]; · iexact O1
    iexact E1
  icases G1 with ⟨G1, E1⟩
  ihave A0 := (Entails.of_eq (sems_halves (F := F) 84 c 0)) $$ [A0a A0b]
  · isplitl [A0a]; · iexact A0a
    iexact A0b
  ihave A1 := (Entails.of_eq (sems_halves (F := F) 84 c 1)) $$ [A1a A1b]
  · isplitl [A1a]; · iexact A1a
    iexact A1b
  isplitl [W0a W0b W1 W2 V0a V0b V1 V2 S6 X0 X1 X2 Y0a Y0b Y1a Y1b B0 B1 B2 G0 G1]
  · unfold scrs
    isplitl [W0a W0b W1 W2]
    · iapply (wv_close m c)
      isplitl [W0a W0b]
      · isplitl [W0a]; · iexact W0a
        iexact W0b
      isplitl [W1]; · iexact W1
      iexact W2
    isplitl [V0a V0b V1 V2]
    · iapply (ov_close m c)
      isplitl [V0a V0b]
      · isplitl [V0a]; · iexact V0a
        iexact V0b
      isplitl [V1]; · iexact V1
      iexact V2
    isplitl [B0 B1 B2]
    · iapply (sb_close m c)
      isplitl [B0]; · iexact B0
      isplitl [B1]; · iexact B1
      iexact B2
    isplitl [X0 X1 X2]
    · iapply (rs_close m c)
      isplitl [X0]; · iexact X0
      isplitl [X1]; · iexact X1
      iexact X2
    isplitl [G0 G1]
    · iapply (ag_close m c)
      isplitl [G0]; · iexact G0
      iexact G1
    isplitl [Y0a Y0b Y1a Y1b]
    · iapply (ac_close m c)
      isplitl [Y0a Y0b]
      · isplitl [Y0a]; · iexact Y0a
        iexact Y0b
      isplitl [Y1a]; · iexact Y1a
      iexact Y1b
    unfold xvP; iexists _; iexact S6
  isplitl [HO]; · iexact HO
  isplitl [BZ]; · unfold barZ; iexact BZ
  isplitr [HD]
  · isplitl [Z3 Z4 Z5 Z6 Z7 Z8 Z9 Z10 Z11]
    · isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      iexact Z11
    isplitl [D0 D1 D2]
    · isplitl [D0]; · iexact D0
      isplitl [D1]; · iexact D1
      iexact D2
    isplitl [R0 R1 R2]
    · isplitl [R0]; · iexact R0
      isplitl [R1]; · iexact R1
      iexact R2
    isplitl [E0 E1]
    · isplitl [E0]; · iexact E0
      iexact E1
    isplitl [A0]; · iexact A0
    iexact A1
  · iexact HD

end Cert.P
-- ==== Proof.Run.lean ====
/-
The launch: the kernel runs on all devices, ends, and leaves the computed blocks and the arguments.
-/
module

public import proofs.«01_k».proof.Proof.Start
public import Idealize.ShloMosaic.Lib.Pipeline.CollectiveSegs

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

open Idealize.ShloMosaic.Pipeline (Dat BodyObligation)

variable (ρ : Dev nD → PrngReg)

/-- What the kernel of device `c` starts from, without its arrays. -/
def start (c : Dev nD) : sProp 𝕄 := iprop(∃ K, recs m K ∗ (inArgs m c ∗ gear c) ∗ deads c (sz c))
def before (c : Dev nD) : sProp 𝕄 := iprop(start m c ∗ scrs c)
/-- What it ends with: its arrays, and all counters at zero. -/
def after (c : Dev nD) : sProp 𝕄 := iprop(scrs (F := F) c ∗ bigSep Finset.univ fun k : Fin 108 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => outV m c
  Φ t := match t with
    | ⟨0, _⟩ => before m c
    | ⟨_ + 1, _⟩ => after c
  q _ := fullShare
  owed t := match t with
    | ⟨0, _⟩ => debt c 0
    | ⟨_ + 1, _⟩ => 0

/-! ## The body -/

def bodyPre (c : Dev nD) : sProp 𝕄 :=
  iprop(before m c ∗ (dats m 0 c).owesAt () t0_0.castSucc
    ∗ (∃ d, ∃ f : Buf (Elt F) ((c : Thread nD τ).loc cc0_stg0_0), ⌜f = (dats m 0 c).before (0 : Fin 1) t0_0 d⌝ ∗ (c : Thread nD τ).loc cc0_stg0_0 ↦{fullShare} f))
def bodyPost (c : Dev nD) : sProp 𝕄 :=
  iprop(after c ∗ (dats m 0 c).owesAt () t0_0.succ
    ∗ (∃ f : Buf (Elt F) ((c : Thread nD τ).loc cc0_stg0_0), ⌜f = (dats m 0 c).after (0 : Fin 1) t0_0⌝ ∗ (c : Thread nD τ).loc cc0_stg0_0 ↦{fullShare} f))

theorem body_sound (c : Dev nD) : bodyPre m c ⊢ WP c (cc0_body (F := F) (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) (fun _ => bodyPost m c) := by
  unfold bodyPre before start Dat.owesAt Pipeline.owesWithin
  rw [show (dats m 0 c).owed t0_0.castSucc = debt c 0 from rfl]
  iintro ⟨⟨⟨%K, #HR, HG, HD⟩, HS⟩, ⟨%W, %hW, HO⟩, ⟨%d, %f, %hf, Hout⟩⟩
  ihave HB := (body_in m c) $$ [HG HS Hout]
  · isplitl [HG]; · iexact HG
    isplitl [HS]; · iexact HS
    unfold outE; iexists _; iexact Hout
  iapply (body_run m K c) $$ [HO HB]
  · isplitl [HO]
    · unfold bas Owe
      isplitr; · iexact HR
      iexists _; iexact HO
    iexact HB
  iintro ⟨Hbas, Hend⟩
  ihave Hend := (body_out m c) $$ [Hend HD]
  · isplitl [Hend]; · iexact Hend
    iexact HD
  icases Hend with ⟨HS, Hout, HZ⟩
  unfold bas Owe
  icases Hbas with ⟨-, ⟨%W', HO⟩⟩
  rw [debt_end]
  unfold bodyPost after Dat.owesAt Pipeline.owesWithin
  rw [show (dats m 0 c).owed t0_0.succ = 0 from rfl]
  isplitl [HS HZ]
  · isplitl [HS]; · iexact HS
    iexact HZ
  isplitl [HO]
  · iexists W'
    isplitr; · ipureintro; exact fun _ _ => Or.inl trivial
    iexact HO
  unfold outP
  iexists _
  isplitr; · ipureintro; rfl
  iexact Hout

theorem body_obligation (c : Dev nD) : BodyObligation (dats m 0 c) (defs₀ (F := F)) 𝒱₀ () Set.univ := fun t => by
  rw [fin_N0 t]
  rw [bigSep_W0, bigSep_W0]
  simp only [owns_whole_eq]
  exact body_sound m c

/-! ## The launch's conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => debt d 0) c ∗ prngReg c (ρ c) ∗ G' m c)
      ⊢ |={Set.univ}=> iprop(start m c ∗ keepArgs m c) := by
  rw [Pipeline.unscopedRestP_none, unscopedRest0_eq]
  have ha := args_split m c
  unfold aP at ha
  unfold G'
  iintro ⟨HA, HL, HC, -, ⟨%K, HF, HM⟩⟩
  ihave HA := ha $$ HA
  icases HA with ⟨HA, HK⟩
  ihave HG := (gear_in (F := F) c) $$ [HC HM]
  · isplitl [HC]; · iexact HC
    iexact HM
  icases HG with ⟨HG, HD⟩
  ihave #HR := (show iprop(facts m K ∗ levAts L lv) ⊢ recs m K from by
    unfold facts recs; rw [assoc_eq]) $$ [HF HL]
  · isplitl [HF]; · iexact HF
    iexact HL
  imod (deads_close m K c) $$ [HD] with HD
  · isplitr; · iexact HR
    iexact HD
  imodintro
  isplitr [HK]
  · unfold start
    iexists K
    isplitr; · iexact HR
    isplitr [HD]
    · isplitl [HA]; · iexact HA
      iexact HG
    iexact HD
  iexact HK

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scrs
  iintro ⟨HS, -, HR⟩
  isplitl [HS]; · iexact HS
  iexact HR

theorem last_elim (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl, scopedRest0_eq]
  unfold after
  rw [← all_sems]
  unfold scrs
  iintro ⟨HS, HU, HO⟩
  isplitl [HU]; · iexact HU
  isplitl [HO]; · iexact HO
  iexact HS

theorem waits (c : Dev nD) : (levAts L lv : sProp 𝕄) ⊢ Pipeline.cellsWaits cfgs (dats m) () 0 c :=
  Pipeline.cellsWaits_intro cfgs (dats m) () 0 c fun w s t => by
    have h0 : lv ((c : Thread nD τ), SemLoc.dma (((cfgs 0).win w).sem s)) () = 0 := by fin_cases w; fin_cases s; rfl
    rcases t with ⟨_ | _, ht⟩
    · exact mayWait c _ 0 (by rw [h0]; decide)
    · show _ ⊢ MayWait (c : Thread nD τ) _ () 0
      rw [← debt_end c]
      exact mayWait c _ 48 (by rw [h0]; decide)

/-- The arguments of device `c` hold what they held. -/
def Kept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_arg5) = m ((c : Thread nD τ).loc main_arg5)
    ∧ s.mem ((c : Thread nD τ).loc main_arg6) = m ((c : Thread nD τ).loc main_arg6)

theorem read_arg (c : Dev nD) (b : Ref sig .tc) (s' : Phys nD τ sig (Elt F)) :
    iprop(aP m c b fullShare.left ∗ SI s') ⊢ iprop(⌜s'.mem.mem ((c : Thread nD τ).loc b) = m ((c : Thread nD τ).loc b)⌝ ∗ SI s') := by
  unfold aP
  iintro ⟨H, HSI⟩
  icombine HSI H gives %h
  isplitr
  · ipureintro; exact Buf.eq_of_forall_mem_univ h
  · iexact HSI

theorem read_end (c : Dev nD) (s' : Phys nD τ sig (Elt F)) : iprop(unscopedSems0 c ∗ keepArgs m c ∗ SI s')
    ⊢ |={Set.univ}=> iprop(⌜Kept m c s'.mem ∧ ∀ sm : SemLoc sig, sm.isScoped .tc = false → s'.mem.sem ((c.tc : Thread nD τ), sm) = 0⌝ ∗ SI s') := by
  unfold keepArgs
  iintro ⟨HU, ⟨H0, H1, H2, H3, H4, H5, H6⟩, HSI⟩
  ihave HSI := (read_arg m c main_arg0 s') $$ [H0 HSI]
  · isplitl [H0]; · iexact H0
    iexact HSI
  icases HSI with ⟨%h0, HSI⟩
  ihave HSI := (read_arg m c main_arg1 s') $$ [H1 HSI]
  · isplitl [H1]; · iexact H1
    iexact HSI
  icases HSI with ⟨%h1, HSI⟩
  ihave HSI := (read_arg m c main_arg2 s') $$ [H2 HSI]
  · isplitl [H2]; · iexact H2
    iexact HSI
  icases HSI with ⟨%h2, HSI⟩
  ihave HSI := (read_arg m c main_arg3 s') $$ [H3 HSI]
  · isplitl [H3]; · iexact H3
    iexact HSI
  icases HSI with ⟨%h3, HSI⟩
  ihave HSI := (read_arg m c main_arg4 s') $$ [H4 HSI]
  · isplitl [H4]; · iexact H4
    iexact HSI
  icases HSI with ⟨%h4, HSI⟩
  ihave HSI := (read_arg m c main_arg5 s') $$ [H5 HSI]
  · isplitl [H5]; · iexact H5
    iexact HSI
  icases HSI with ⟨%h5, HSI⟩
  ihave HSI := (read_arg m c main_arg6 s') $$ [H6 HSI]
  · isplitl [H6]; · iexact H6
    iexact HSI
  icases HSI with ⟨%h6, HSI⟩
  imod (Pipeline.unscopedSems0_read (X := unscopedSems0 c) (c := c) fupd_intro s') $$ [HU HSI] with ⟨%hs, HSI⟩
  · isplitl [HU]; · iexact HU
    iexact HSI
  imodintro
  isplitr
  · ipureintro; exact ⟨⟨h0, h1, h2, h3, h4, h5, h6⟩, hs⟩
  · iexact HSI

/-! ## The run -/

/-- What holds in the end: the result arrays, the arguments. -/
def Ends (s : MemSt nD τ sig (Elt F)) : Prop :=
  ∀ c : Dev nD, s.mem ((c : Thread nD τ).loc main_v1) = (dats m 0 c).arrAt (0 : Fin 1) cfg0.N ∧ Kept m c s

set_option maxRecDepth 8000 in
/-- For any float values, from any memory with zero counters, every fair execution ends, with the results computed, the
    arguments unchanged and every counter at zero. -/
theorem run_main : θ_run defs (onTc (τ := τ) (main (F := F))) ⟨m, fun _ => 0, ρ⟩ (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => debt d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP]; · iexact HP
      iexact HG)
    (hglob := glob m)
    (hA := fun _ _ => rfl) (hpf := fun _ k => k.elim0)
    (X := start m) (Y := fun c => unscopedSems0 c) (Z := keepArgs m)
    (hX := start_intro m ρ) (hin := first_intro m) (hout := last_elim m)
    (QY := fun c s => Kept m c s ∧ ∀ sm : SemLoc sig, sm.isScoped .tc = false → s.sem ((c.tc : Thread nD τ), sm) = 0)
    (hY := read_end m)
    (hQ := fun _ h hs => ⟨fun c => ⟨(h c).1 (0 : Fin 1), (h c).2.2.1⟩, sem_eq_zero hs fun c => (h c).2.2.2⟩)

end Cert.P
-- ==== Proof.Result.lean ====
/-
What the result array holds when a device has written its only block back.
-/
module

public import proofs.«01_k».proof.Proof.Run
public import proofs.«01_k».proof.Proof.Gen.KernelIdeal.Points
public import Idealize.ShloMosaic.Lib.Pipeline.Value

@[expose] public section

noncomputable section

namespace Cert.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ)

/-- The one block of the result is the whole of it. -/
theorem mem_block (t : Fin cfg0.N) (i : S8x512.Idx) : i ∈ ((cfg0.win 0).blk t).view.set := by
  show i ∈ ((View.whole main_v1).slice (win0_0.rect t)).set
  rw [View.set_slice_whole, Rect.mem_set_unit]
  have e : ∀ t : Fin cfg0.N, ∀ a, win0_0.index t a * win0_0.size a = 0 ∧ win0_0.xsize (grid0.coords t) a = S8x512.size a := by decide +kernel
  intro a
  have hi : (i a : ℕ) < S8x512.size a := (i a).isLt
  show win0_0.index t a * win0_0.size a ≤ (i a : ℕ) ∧ (i a : ℕ) < win0_0.index t a * win0_0.size a + win0_0.xsize (grid0.coords t) a
  rw [(e t a).1, (e t a).2]
  omega

/-- What a point writes back is the block of the device's result. -/
theorem written (c : Dev nD) (t : Fin cfg0.N) :
    (dats m 0 c).flushed 0 t = ((cfg0.win 0).blk t).view.read (Elt F) (outV m c) := by
  obtain rfl := fin_N0 t
  have ha : (dats m 0 c).after 0 t0_0 = outV m c := rfl
  unfold Pipeline.Dat.flushed
  rw [ha]
  funext i
  have e : ∀ a, win0_0.index t0_0 a * win0_0.size a = 0 := by decide +kernel
  refine congrArg (outV m c) (funext fun a => Fin.ext ?_)
  show (i a).val = win0_0.index t0_0 a * win0_0.size a + 1 * (i a).val
  rw [e a]; omega

theorem arr_end (c : Dev nD) : (dats m 0 c).arrAt (0 : Fin 1) cfg0.N = outV m c :=
  (dats m 0 c).arrAt_eq_of_cover 0 (outV m c) (fun t _ => written m c t)
    (fun i => ⟨t0_0, flush0_0 _, mem_block t0_0 i⟩)

end Cert.P
-- ==== Proof.Same.lean ====
/-
The printed program and the program it is proved by are one text: their kernels, their body tables and their steps agree.
-/
module

public import proofs.«01_k».proof.Proof.Gen.Kernel
public import proofs.«01_k».proof.Proof.Gen.KernelIdeal

@[expose] public section

noncomputable section

namespace Cert.P

open Idealize.ShloMosaic Idealize.ShloMosaic.TcCoe Idealize.SL.Sem

variable {F : FTy → Type} [FloatOps F]

theorem body_same : Cert.Kernel.cc0_body (F := F) = Cert.KernelIdeal.cc0_body (F := F) := rfl

/-- The kernels' body tables, at the one label there is. -/
theorem table_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) =>
    show Cert.Kernel.cc0_body (F := F) _ _ _ _ _ _ _ _ _ _ _ _ _ _ _ _ _ _ _ _ _ _ _ _ _ _ _ _ _ _ _ _ _ _ _ _ _ = _
    rw [body_same]

theorem defs_same : Cert.Kernel.defs (F := F) = Cert.KernelIdeal.defs (F := F) :=
  congrArg (Pipeline.defs (Cert.Kernel.pcfgs (F := F))) table_same

theorem main_same : Cert.Kernel.main (F := F) = Cert.KernelIdeal.main (F := F) := rfl

end Cert.P
-- ==== Proof.Sums.lean ====
/-
One row through one layer, as a sum over the hidden units, and how that sum splits by halves and by devices.
-/
module

public import Mathlib.Data.EReal.Operations
public import Mathlib.Algebra.BigOperators.Fin
public import Mathlib.Logic.Equiv.Fin.Basic
public import Idealize.ShloMosaic.PureOps.Ideal.Laws

@[expose] public section

noncomputable section

namespace Cert.P

open Idealize.ShloMosaic
open scoped BigOperators

/-- What hidden unit `h` adds to output `j`: the positive part of its input, times its weight. -/
def unitOut {n : ℕ} (x : Fin 512 → EReal) (W : Fin 512 → Fin n → EReal) (O : Fin n → Fin 512 → EReal) (j : Fin 512) (h : Fin n) : EReal :=
  max (∑ k, x k * W k h) 0 * O h j

/-- Output `j` of one layer on one row. -/
def layer {n : ℕ} (x : Fin 512 → EReal) (W : Fin 512 → Fin n → EReal) (O : Fin n → Fin 512 → EReal) (j : Fin 512) : EReal :=
  ∑ h, unitOut x W O j h

/-- A sum over 1024 is the sum of its two halves. -/
theorem sum_halves (f : Fin 1024 → EReal) :
    ∑ h, f h = (∑ h : Fin 512, f ⟨h.val, by omega⟩) + ∑ h : Fin 512, f ⟨512 + h.val, by omega⟩ :=
  Fin.sum_univ_add (a := 512) (b := 512) f

/-- A sum over 8192 is, device by device, a sum over 1024. -/
theorem sum_devices (f : Fin 8192 → EReal) :
    ∑ h, f h = ∑ c : Fin 8, ∑ h : Fin 1024, f ⟨c.val * 1024 + h.val, by omega⟩ := by
  rw [← Equiv.sum_comp (finProdFinEquiv (m := 8) (n := 1024)) f, Fintype.sum_prod_type]
  refine Finset.sum_congr rfl fun c _ => Finset.sum_congr rfl fun h _ => congrArg f (Fin.ext ?_)
  show h.val + 1024 * c.val = c.val * 1024 + h.val
  omega

/-- One layer over all hidden units is the sum over the devices of the layer over each device's units. -/
theorem layer_devices (x : Fin 512 → EReal) (W : Fin 512 → Fin 8192 → EReal) (O : Fin 8192 → Fin 512 → EReal) (j : Fin 512) :
    layer x W O j = ∑ c : Fin 8, layer x (fun k (h : Fin 1024) => W k ⟨c.val * 1024 + h.val, by omega⟩)
      (fun (h : Fin 1024) j => O ⟨c.val * 1024 + h.val, by omega⟩ j) j :=
  sum_devices _

end Cert.P
-- ==== Proof.Block.lean ====
/-
What one block computes at the ideal values: each stored block, read at its coordinates, as a layer on a row or a sum over the devices.
-/
module

public import proofs.«01_k».proof.Proof.Values
public import proofs.«01_k».proof.Proof.Sums
public import Idealize.ShloMosaic.Lib.MatmulPlain
public import Idealize.ShloMosaic.Lib.Pointwise.IndexBridge
public import Idealize.ShloMosaic.Lib.Pipeline.Value
public import Idealize.ShloMosaic.Lib.ValueLayout

@[expose] public section

noncomputable section

namespace Cert.P

open Idealize.ShloMosaic
open scoped BigOperators

open Cert.KernelIdeal Cert.KernelIdeal.Gen

/-- A product into zero, read at a row and a column. -/
theorem product {M K N : ℕ} (A : FVec Ideal ⟨2, ![M, K]⟩ .f32) (B : FVec Ideal ⟨2, ![K, N]⟩ .f32) (r : Fin M) (j : Fin N) :
    matmul (DotDims.plain M K N) none A B (constant ⟨2, ![M, N]⟩ .f32 0x00000000#32) (ix2 r j) = ∑ k : Fin K, A (ix2 r k) * B (ix2 k j) := by
  rw [ix2_eq_valueIdx]
  refine (Ideal.matmul_plain_apply none A B _ r j).trans ?_
  show Ideal.ofBits .f32 0x00000000#32 + _ = _
  rw [Ideal.ofBits_zero_f32, zero_add]
  exact Finset.sum_congr rfl fun k _ => by rw [← ix2_eq_valueIdx, ← ix2_eq_valueIdx]

/-- The positive part of a product into zero. -/
theorem hidden {M K N : ℕ} (A : FVec Ideal ⟨2, ![M, K]⟩ .f32) (B : FVec Ideal ⟨2, ![K, N]⟩ .f32) (r : Fin M) (h : Fin N) :
    maximumf (matmul (DotDims.plain M K N) none A B (constant ⟨2, ![M, N]⟩ .f32 0x00000000#32))
        (broadcast ⟨2, ![M, N]⟩ (Scalar.ofBits .f32 0x00000000#32 : Ideal .f32)) (ix2 r h)
      = max (∑ k : Fin K, A (ix2 r k) * B (ix2 k h)) 0 := by
  show max (matmul (DotDims.plain M K N) none A B (constant ⟨2, ![M, N]⟩ .f32 0x00000000#32) (ix2 r h)) (Ideal.ofBits .f32 0x00000000#32) = _
  rw [product, Ideal.ofBits_zero_f32]

/-- A matrix of weights under its leading unit axis. -/
theorem drop_lead {a b : ℕ} (x : FVec Ideal ⟨3, ![1, a, b]⟩ .f32) (h : (⟨3, ![1, a, b]⟩ : Shape).ShapeCasts ⟨2, ![a, b]⟩) (i : Fin a) (j : Fin b) :
    shapeCast ⟨2, ![a, b]⟩ x h (ix2 i j) = x (ix3 0 i j) := by
  rw [ix2_eq_valueIdx, ix3_eq_valueIdx]
  exact ValueIdx.shapeCast_1ab_ab_apply x h i j

/-- Rows cut into blocks of eight. -/
theorem to_blocks {n q : ℕ} {α : Type} (x : (⟨2, ![n, 512]⟩ : Shape).Idx → α) (h : (⟨2, ![n, 512]⟩ : Shape).ShapeCasts ⟨3, ![q, 8, 512]⟩)
    (h' : (⟨3, ![q, 8, 512]⟩ : Shape).ShapeCasts ⟨4, ![1, q, 8, 512]⟩) (b : Fin q) (r : Fin 8) (j : Fin 512) (hn : b.val * 8 + r.val < n) :
    shapeCast ⟨4, ![1, q, 8, 512]⟩ (shapeCast ⟨3, ![q, 8, 512]⟩ x h) h' (ix4 0 b r j) = x (ix2 ⟨b.val * 8 + r.val, hn⟩ j) :=
  (shapeCast_apply _ h' _ (ix3 b r j) (by
    rw [Shape.rowMajor_val_four, Shape.rowMajor_val_three]
    show (b.val * 8 + r.val) * 512 + j.val = ((0 * q + b.val) * 8 + r.val) * 512 + j.val
    rw [Nat.zero_mul, Nat.zero_add])).trans
  (shapeCast_apply x h _ _ (by
    rw [Shape.rowMajor_val_three, Shape.rowMajor_val_two]
    show (b.val * 8 + r.val) * 512 + j.val = (b.val * 8 + r.val) * 512 + j.val
    rfl))

/-- Blocks of eight rows put together. -/
theorem of_blocks {n q : ℕ} {α : Type} (x : (⟨4, ![1, q, 8, 512]⟩ : Shape).Idx → α) (h : (⟨4, ![1, q, 8, 512]⟩ : Shape).ShapeCasts ⟨3, ![q, 8, 512]⟩)
    (h' : (⟨3, ![q, 8, 512]⟩ : Shape).ShapeCasts ⟨2, ![n, 512]⟩) (b : Fin q) (r : Fin 8) (j : Fin 512) (hn : b.val * 8 + r.val < n) :
    shapeCast ⟨2, ![n, 512]⟩ (shapeCast ⟨3, ![q, 8, 512]⟩ x h) h' (ix2 ⟨b.val * 8 + r.val, hn⟩ j) = x (ix4 0 b r j) :=
  (shapeCast_apply _ h' _ (ix3 b r j) (by
    rw [Shape.rowMajor_val_three, Shape.rowMajor_val_two]
    show (b.val * 8 + r.val) * 512 + j.val = (b.val * 8 + r.val) * 512 + j.val
    rfl)).trans
  (shapeCast_apply x h _ _ (by
    rw [Shape.rowMajor_val_four, Shape.rowMajor_val_three]
    show ((0 * q + b.val) * 8 + r.val) * 512 + j.val = (b.val * 8 + r.val) * 512 + j.val
    rw [Nat.zero_mul, Nat.zero_add]))

/-- The left half of the hidden units on one row. -/
theorem left_half (x : Vec Ideal S64x512 .f32) (w o : Vec Ideal S1x512x512 .f32) (q : Fin 64) (j : Fin 512) :
    k0_pay1 x w o (ix2 q j) = layer (fun k => x (ix2 q k)) (fun k h => w (ix3 0 k h)) (fun h j => o (ix3 0 h j)) j := by
  refine (product (M := 64) (K := 512) (N := 512) _ _ q j).trans (Finset.sum_congr rfl fun h _ => ?_)
  refine congrArg₂ (· * ·) ?_ (drop_lead o _ h j)
  refine (hidden (M := 64) (K := 512) (N := 512) _ _ q h).trans (congrArg (max · 0) (Finset.sum_congr rfl fun k _ => ?_))
  exact congrArg (x (ix2 q k) * ·) (drop_lead w _ k h)

/-- Both halves of the hidden units on row `r` of block `b`. -/
theorem both_halves (x : Vec Ideal S64x512 .f32) (w w' o o' : Vec Ideal S1x512x512 .f32) (b r : Fin 8) (j : Fin 512) :
    k0_pay3 (k0_pay1 x w o) (k0_pay2 x w') o' (ix4 0 b r j)
      = layer (fun k => x (ix2 ⟨b.val * 8 + r.val, by omega⟩ k)) (fun k h => w (ix3 0 k h)) (fun h j => o (ix3 0 h j)) j
        + layer (fun k => x (ix2 ⟨b.val * 8 + r.val, by omega⟩ k)) (fun k h => w' (ix3 0 k h)) (fun h j => o' (ix3 0 h j)) j := by
  have e : k0_pay3 (k0_pay1 x w o) (k0_pay2 x w') o' = shapeCast S1x8x8x512 (shapeCast S8x8x512 (addf (k0_pay1 x w o) (k0_pay1 x w' o')) shapeCasts_S64x512_S8x8x512) shapeCasts_S8x8x512_S1x8x8x512 := rfl
  have hb : b.val * 8 + r.val < 64 := by omega
  rw [e]
  refine (to_blocks (n := 64) (q := 8) (α := EReal) (addf (k0_pay1 x w o) (k0_pay1 x w' o')) shapeCasts_S64x512_S8x8x512 shapeCasts_S8x8x512_S1x8x8x512 b r j hb).trans ?_
  exact congrArg₂ (· + ·) (left_half x w o _ j) (left_half x w' o' _ j)

/-- Thirty-two rows through one layer. -/
def rows32 (x : FVec Ideal S32x512 .f32) (w : Vec Ideal S1x512x1024 .f32) (o : Vec Ideal S1x1024x512 .f32) : FVec Ideal S32x512 .f32 :=
  matmul (φ₁ := .f32) (φ₂ := .f32) dot_S32x1024_S1024x512_S32x512_1_0_0_1_n_n none
    (maximumf (matmul (φ₁ := .f32) (φ₂ := .f32) dot_S32x512_S512x1024_S32x1024_1_0_0_1_n_n none x (shapeCast S512x1024 w shapeCasts_S1x512x1024_S512x1024) (constant S32x1024 .f32 0x00000000#32))
      (broadcast S32x1024 (Scalar.ofBits .f32 0x00000000#32)))
    (shapeCast S1024x512 o shapeCasts_S1x1024x512_S1024x512) (constant S32x512 .f32 0x00000000#32)

theorem rows32_at (x : FVec Ideal S32x512 .f32) (w : Vec Ideal S1x512x1024 .f32) (o : Vec Ideal S1x1024x512 .f32) (q : Fin 32) (j : Fin 512) :
    rows32 x w o (ix2 q j) = layer (fun k => x (ix2 q k)) (fun k h => w (ix3 0 k h)) (fun h j => o (ix3 0 h j)) j := by
  refine (product (M := 32) (K := 1024) (N := 512) _ _ q j).trans (Finset.sum_congr rfl fun h _ => ?_)
  refine congrArg₂ (· * ·) ?_ (drop_lead o _ h j)
  refine (hidden (M := 32) (K := 512) (N := 1024) _ _ q h).trans (congrArg (max · 0) (Finset.sum_congr rfl fun k _ => ?_))
  exact congrArg (x (ix2 q k) * ·) (drop_lead w _ k h)

/-- Four blocks of rows through one layer. -/
theorem four_blocks (g : Vec Ideal S1x4x8x512 .bf16) (w : Vec Ideal S1x512x1024 .f32) (o : Vec Ideal S1x1024x512 .f32) (b : Fin 4) (r : Fin 8) (j : Fin 512) :
    k0_pay9 g w o (ix4 0 b r j) = layer (fun k => g (ix4 0 b r k)) (fun k h => w (ix3 0 k h)) (fun h j => o (ix3 0 h j)) j := by
  have e : k0_pay9 g w o = shapeCast S1x4x8x512 (shapeCast S4x8x512 (rows32 (shapeCast S32x512 (shapeCast S4x8x512 g shapeCasts_S1x4x8x512_S4x8x512) shapeCasts_S4x8x512_S32x512) w o) shapeCasts_S32x512_S4x8x512) shapeCasts_S4x8x512_S1x4x8x512 := rfl
  have hb : b.val * 8 + r.val < 32 := by omega
  rw [e]
  refine (to_blocks (n := 32) (q := 4) (α := EReal) (rows32 _ w o) shapeCasts_S32x512_S4x8x512 shapeCasts_S4x8x512_S1x4x8x512 b r j hb).trans ?_
  refine (rows32_at _ w o _ j).trans ?_
  congr 1
  funext k
  exact of_blocks (n := 32) (q := 4) (α := EReal) g shapeCasts_S1x4x8x512_S4x8x512 shapeCasts_S4x8x512_S32x512 b r k hb

/-- The two halves of the batch one below the other: every block through one layer. -/
theorem eight_blocks (g : Vec Ideal S1x8x8x512 .bf16) (w : Vec Ideal S1x512x1024 .f32) (o : Vec Ideal S1x1024x512 .f32) (b r : Fin 8) (j : Fin 512) :
    glue (k0_pay9 (loHalf g) w o) (k0_pay9 (hiHalf g) w o) (ix4 0 b r j)
      = layer (fun k => g (ix4 0 b r k)) (fun k h => w (ix3 0 k h)) (fun h j => o (ix3 0 h j)) j := by
  unfold glue
  split
  · rename_i hb
    refine (four_blocks (loHalf g) w o ⟨b.val, hb⟩ r j).trans ?_
    rfl
  · rename_i hb
    have hb4 : ¬ b.val < 4 := hb
    refine (four_blocks (hiHalf g) w o ⟨b.val - 4, by omega⟩ r j).trans ?_
    have e : (⟨4 + (b.val - 4), by omega⟩ : Fin 8) = b := Fin.ext (by show 4 + (b.val - 4) = b.val; omega)
    show layer (fun k => g (ix4 0 (⟨4 + (b.val - 4), by omega⟩ : Fin 8) r k)) _ _ j = _
    rw [e]

/-- The sum over the devices' blocks. -/
theorem reduced (g : FVec Ideal S8x8x512 .f32) (r : Fin 8) (j : Fin 512) :
    multiReduction .add [0] S8x512 g 0x00000000#32 reduces_S8x8x512_S8x512 (.inl rfl) rfl (ix2 r j) = ∑ d : Fin 8, g (ix3 d r j) := by
  refine (Ideal.multiReduction_add_single g _ reduces_S8x8x512_S8x512 _ _ (ix2 r j)).trans (Finset.sum_congr rfl fun d _ => congrArg g ?_)
  funext a
  match a with
  | ⟨0, _⟩ => rfl
  | ⟨1, _⟩ => rfl
  | ⟨2, _⟩ => rfl

/-- The eight blocks under their leading unit axis. -/
theorem drop_lead4 (g : Vec Ideal S1x8x8x512 .bf16) (d r : Fin 8) (j : Fin 512) :
    shapeCast S8x8x512 g shapeCasts_S1x8x8x512_S8x8x512 (ix3 d r j) = g (ix4 0 d r j) := by
  rw [ix3_eq_valueIdx, ix4_eq_valueIdx]
  exact ValueIdx.shapeCast_1abc_abc_apply g shapeCasts_S1x8x8x512_S8x8x512 d r j

/-- The result: the sum of the eight blocks. -/
theorem result_block (g : Vec Ideal S1x8x8x512 .bf16) (r : Fin 8) (j : Fin 512) :
    k0_pay21 (k0_pay20 g) (ix2 r j) = ∑ d : Fin 8, g (ix4 0 d r j) :=
  (reduced _ r j).trans (Finset.sum_congr rfl fun d _ => drop_lead4 g d r j)

/-- A block of eight rows under two unit axes. -/
theorem add_lead {α : Type} (x : S8x512.Idx → α) (r : Fin 8) (j : Fin 512) :
    shapeCast S1x1x8x512 (shapeCast S1x8x512 x shapeCasts_S8x512_S1x8x512) shapeCasts_S1x8x512_S1x1x8x512 (ix4 0 0 r j) = x (ix2 r j) :=
  (shapeCast_apply (shapeCast S1x8x512 x shapeCasts_S8x512_S1x8x512) _ _ (ix3 0 r j) (by
    rw [Shape.rowMajor_val_four, Shape.rowMajor_val_three]
    show (0 * 8 + r.val) * 512 + j.val = ((0 * 1 + 0) * 8 + r.val) * 512 + j.val
    omega)).trans
  (shapeCast_apply x _ _ (ix2 r j) (by
    rw [Shape.rowMajor_val_three, Shape.rowMajor_val_two]
    show r.val * 512 + j.val = (0 * 8 + r.val) * 512 + j.val
    omega))

/-- A reduced block before it is sent: the sum of the eight blocks. -/
theorem sum_block (g : Vec Ideal S1x8x8x512 .bf16) (r : Fin 8) (j : Fin 512) :
    k0_pay12 g (ix4 0 0 r j) = ∑ d : Fin 8, g (ix4 0 d r j) := by
  have e : k0_pay12 g = shapeCast S1x1x8x512 (shapeCast S1x8x512 (k0_pay21 (k0_pay20 g)) shapeCasts_S8x512_S1x8x512) shapeCasts_S1x8x512_S1x1x8x512 := rfl
  rw [e]
  exact (add_lead (k0_pay21 (k0_pay20 g)) r j).trans (result_block g r j)

end Cert.P
-- ==== Proof.Kvalue.lean ====
/-
What the result array of a device holds at the ideal values: three layers, each a sum over the devices.
-/
module

public import proofs.«01_k».proof.Proof.Block

@[expose] public section

noncomputable section

namespace Cert.P

open Idealize.ShloMosaic
open scoped BigOperators

open Cert.KernelIdeal Cert.KernelIdeal.Gen
open Idealize.ShloMosaic.TcCoe

variable (m : (ℓ : Loc nD τ sig) → Buf (Elt Ideal) ℓ)

/-- Device `c`'s in-projection and out-projection of layer `l`, by coordinates. -/
def inW (l : Fin 3) (c : Dev nD) : Fin 512 → Fin 1024 → EReal := fun k h => wvB m c (ix3 l k h)
def outW (l : Fin 3) (c : Dev nD) : Fin 1024 → Fin 512 → EReal := fun h j => ovB m c (ix3 l h j)

/-- The rows before layer `l`: block `d`, row `r`. Device `c` reads the input from its own copy. -/
def acts1 (d r : Fin 8) (j : Fin 512) : EReal :=
  ∑ c : Fin 8, layer (fun k => xB m c (ix2 ⟨d.val * 8 + r.val, by omega⟩ k)) (inW m 0 c) (outW m 0 c) j
def acts2 (d r : Fin 8) (j : Fin 512) : EReal := ∑ c : Fin 8, layer (acts1 m d r) (inW m 1 c) (outW m 1 c) j
def acts3 (d r : Fin 8) (j : Fin 512) : EReal := ∑ c : Fin 8, layer (acts2 m d r) (inW m 2 c) (outW m 2 c) j

theorem sv0_at (c : Dev nD) (b r : Fin 8) (j : Fin 512) :
    sv0 m c (ix4 0 b r j) = layer (fun k => xB m c (ix2 ⟨b.val * 8 + r.val, by omega⟩ k)) (inW m 0 c) (outW m 0 c) j := by
  refine (both_halves (xB m c) (w0lo m c) (w0hi m c) (o0lo m c) (o0hi m c) b r j).trans ?_
  exact (sum_halves (unitOut (fun k => xB m c (ix2 ⟨b.val * 8 + r.val, by omega⟩ k)) (inW m 0 c) (outW m 0 c) j)).symm

theorem gv0_at (b r : Fin 8) (j : Fin 512) : gv0 m (ix4 0 b r j) = acts1 m b r j := by
  have e : k0_pay7 (k0_pay6 (gath (sv0 m) b)) = k0_pay12 (gath (sv0 m) b) := rfl
  show k0_pay7 (k0_pay6 (gath (sv0 m) b)) (ix4 0 0 r j) = _
  rw [e]
  refine (sum_block (gath (sv0 m) b) r j).trans (Finset.sum_congr rfl fun c _ => ?_)
  exact sv0_at m c b r j

theorem sv1_at (c : Dev nD) (b r : Fin 8) (j : Fin 512) : sv1 m c (ix4 0 b r j) = layer (acts1 m b r) (inW m 1 c) (outW m 1 c) j := by
  have e : k0_pay10 (hiHalf (gv0 m)) (wRow m c 1) (oRow m c 1) = k0_pay9 (hiHalf (gv0 m)) (wRow m c 1) (oRow m c 1) := rfl
  unfold sv1
  rw [e]
  refine (eight_blocks (gv0 m) (wRow m c 1) (oRow m c 1) b r j).trans ?_
  rw [show (fun k => gv0 m (ix4 0 b r k)) = acts1 m b r from funext fun k => gv0_at m b r k]
  rfl

theorem gv1_at (b r : Fin 8) (j : Fin 512) : gv1 m (ix4 0 b r j) = acts2 m b r j := by
  show k0_pay12 (gath (sv1 m) b) (ix4 0 0 r j) = _
  refine (sum_block (gath (sv1 m) b) r j).trans (Finset.sum_congr rfl fun c _ => ?_)
  exact sv1_at m c b r j

theorem sv2_at (c : Dev nD) (b r : Fin 8) (j : Fin 512) : sv2 m c (ix4 0 b r j) = layer (acts2 m b r) (inW m 2 c) (outW m 2 c) j := by
  have e : k0_pay15 (k0_pay14 (loHalf (gv1 m)) (wRow m c 2) (oRow m c 2)) = k0_pay9 (loHalf (gv1 m)) (wRow m c 2) (oRow m c 2) := rfl
  have e' : k0_pay17 (k0_pay16 (hiHalf (gv1 m))) (wRow m c 2) (oRow m c 2) = k0_pay9 (hiHalf (gv1 m)) (wRow m c 2) (oRow m c 2) := rfl
  unfold sv2
  rw [e, e']
  refine (eight_blocks (gv1 m) (wRow m c 2) (oRow m c 2) b r j).trans ?_
  rw [show (fun k => gv1 m (ix4 0 b r k)) = acts2 m b r from funext fun k => gv1_at m b r k]
  rfl

/-- Row `r` of device `d`'s result. -/
theorem outV_at (d : Dev nD) (r : Fin 8) (j : Fin 512) : outV m d (ix2 r j) = acts3 m d r j := by
  unfold outV
  refine (result_block (gath (sv2 m) d) r j).trans (Finset.sum_congr rfl fun c _ => ?_)
  exact sv2_at m c d r j

end Cert.P
-- ==== Proof.Rvalue.lean ====
/-
What the reference computes: three layers, row by row, over all hidden units.
-/
module

public import proofs.«01_k».proof.Proof.Gen.ReferenceIdeal.Run
public import proofs.«01_k».proof.Proof.Sums
public import Idealize.ShloMosaic.Lib.StackMember
public import Idealize.ShloMosaic.Lib.Pointwise.Index
public import Idealize.ShloMosaic.Lib.Pointwise.IndexBridge

@[expose] public section

noncomputable section

namespace Cert.P

open Idealize.ShloMosaic
open scoped BigOperators

open Cert.ReferenceIdeal Cert.ReferenceIdeal.Gen

/-- One layer of the reference on the whole batch. -/
def wholeLayer (X : FVec Ideal S64x512 .f32) (W : FVec Ideal S512x8192 .f32) (O : FVec Ideal S8192x512 .f32) : FVec Ideal S64x512 .f32 :=
  Host.dotGeneral dot_S64x8192_S8192x512_S64x512_1_0_0_1_n_n none
    (maximumf (Host.dotGeneral dot_S64x512_S512x8192_S64x8192_1_0_0_1_n_n none X W) (broadcastInDim S64x8192 ![] bcast_S_S64x8192 (constant S_ .f32 0x00000000#32))) O

/-- A product of the reference, read at a row and a column. -/
theorem host_product {M K N : ℕ} (A : FVec Ideal ⟨2, ![M, K]⟩ .f32) (B : FVec Ideal ⟨2, ![K, N]⟩ .f32) (r : Fin M) (j : Fin N) :
    (Host.dotGeneral (DotDims.plain M K N) none A B : FVec Ideal ⟨2, ![M, N]⟩ .f32) (ix2 r j) = ∑ k : Fin K, A (ix2 r k) * B (ix2 k j) := by
  rw [ix2_eq_valueIdx]
  refine (StackMember.dotGeneral_plain_apply none A B r j).trans ?_
  exact Finset.sum_congr rfl fun k _ => by rw [← ix2_eq_valueIdx, ← ix2_eq_valueIdx]

theorem wholeLayer_at (X : FVec Ideal S64x512 .f32) (W : FVec Ideal S512x8192 .f32) (O : FVec Ideal S8192x512 .f32) (q : Fin 64) (j : Fin 512) :
    wholeLayer X W O (ix2 q j) = layer (fun k => X (ix2 q k)) (fun k h => W (ix2 k h)) (fun h j => O (ix2 h j)) j := by
  refine (host_product (M := 64) (K := 8192) (N := 512) _ O q j).trans (Finset.sum_congr rfl fun h _ => ?_)
  refine congrArg (· * O (ix2 h j)) ?_
  show max ((Host.dotGeneral (DotDims.plain 64 512 8192) none X W : FVec Ideal ⟨2, ![64, 8192]⟩ .f32) (ix2 q h)) (Ideal.ofBits .f32 0x00000000#32) = _
  rw [host_product (M := 64) (K := 512) (N := 8192) X W q h, Ideal.ofBits_zero_f32]

/-- One layer of the reference, device by device. -/
theorem wholeLayer_devices (X : FVec Ideal S64x512 .f32) (W : FVec Ideal S512x8192 .f32) (O : FVec Ideal S8192x512 .f32) (q : Fin 64) (j : Fin 512) :
    wholeLayer X W O (ix2 q j) = ∑ c : Fin 8, layer (fun k => X (ix2 q k)) (fun k (h : Fin 1024) => W (ix2 k ⟨c.val * 1024 + h.val, by omega⟩))
      (fun (h : Fin 1024) j => O (ix2 ⟨c.val * 1024 + h.val, by omega⟩ j)) j :=
  (wholeLayer_at X W O q j).trans (layer_devices _ _ _ j)

end Cert.P
-- ==== Proof.Equation.lean ====
/-
The equation: a device's result array is its block of what the reference computes, when its arguments are its blocks of the reference's arguments.
-/
module

public import proofs.«01_k».proof.Proof.Kvalue
public import proofs.«01_k».proof.Proof.Rvalue
public import Idealize.ShloMosaic.Lib.Layout

@[expose] public section

noncomputable section

namespace Cert.P

open Idealize.ShloMosaic
open scoped BigOperators

open Cert.KernelIdeal
open Idealize.ShloMosaic.TcCoe

variable (m : (ℓ : Loc nD τ sig) → Buf (Elt Ideal) ℓ)

/-- The whole arrays: the input, the in-projections and the out-projections of the three layers. -/
structure Whole where
  x : FVec Ideal ⟨2, ![64, 512]⟩ .f32
  w : Fin 3 → FVec Ideal ⟨2, ![512, 8192]⟩ .f32
  o : Fin 3 → FVec Ideal ⟨2, ![8192, 512]⟩ .f32

/-- Every device holds the input and its blocks of the projections. -/
structure Holds (A : Whole) : Prop where
  x : ∀ c, xB m c = A.x
  w : ∀ l c k h, inW m l c k h = A.w l (ix2 k ⟨c.val * 1024 + h.val, by have : c.val < 8 := c.isLt; omega⟩)
  o : ∀ l c h j, outW m l c h j = A.o l (ix2 ⟨c.val * 1024 + h.val, by have : c.val < 8 := c.isLt; omega⟩ j)

/-- A column block of an in-projection, by coordinates. -/
theorem in_block (W : FVec Ideal ⟨2, ![512, 8192]⟩ .f32) (c k h) (hc : c.val * 1024 + h.val < 8192) :
    Layout.block ⟨2, ![512, 1024]⟩ ⟨2, ![512, 8192]⟩ 1 8 c W (by decide) (ix2 k h) = W (ix2 k ⟨c.val * 1024 + h.val, hc⟩) := by
  refine congrArg W (funext fun a => ?_)
  match a with
  | ⟨0, _⟩ => rfl
  | ⟨1, _⟩ => rfl

/-- A row block of an out-projection, by coordinates. -/
theorem out_block (O : FVec Ideal ⟨2, ![8192, 512]⟩ .f32) (c h j) (hc : c.val * 1024 + h.val < 8192) :
    Layout.block ⟨2, ![1024, 512]⟩ ⟨2, ![8192, 512]⟩ 0 8 c O (by decide) (ix2 h j) = O (ix2 ⟨c.val * 1024 + h.val, hc⟩ j) := by
  refine congrArg O (funext fun a => ?_)
  match a with
  | ⟨0, _⟩ => rfl
  | ⟨1, _⟩ => rfl

/-- A row block of the result, by coordinates. -/
theorem row_block (V : FVec Ideal ⟨2, ![64, 512]⟩ .f32) (c : Fin 8) (r : Fin 8) (j : Fin 512) :
    Layout.block ⟨2, ![8, 512]⟩ ⟨2, ![64, 512]⟩ 0 8 c V (by decide) (ix2 r j) = V (ix2 ⟨c.val * 8 + r.val, by omega⟩ j) := by
  refine congrArg V (funext fun a => ?_)
  match a with
  | ⟨0, _⟩ => rfl
  | ⟨1, _⟩ => rfl

/-- What the reference computes of the whole arrays, layer by layer. -/
def Whole.y1 (A : Whole) := wholeLayer A.x (A.w 0) (A.o 0)
def Whole.y2 (A : Whole) := wholeLayer A.y1 (A.w 1) (A.o 1)
def Whole.y3 (A : Whole) := wholeLayer A.y2 (A.w 2) (A.o 2)

variable {m} {A : Whole}

theorem Holds.in_eq (H : Holds m A) (l : Fin 3) (c : Fin 8) : (fun k (h : Fin 1024) => A.w l (ix2 k ⟨c.val * 1024 + h.val, by omega⟩)) = inW m l c :=
  funext fun k => funext fun h => (H.w l c k h).symm
theorem Holds.out_eq (H : Holds m A) (l : Fin 3) (c : Fin 8) : (fun (h : Fin 1024) j => A.o l (ix2 ⟨c.val * 1024 + h.val, by omega⟩ j)) = outW m l c :=
  funext fun h => funext fun j => (H.o l c h j).symm

/-- One layer of the reference on rows that are the devices' rows. -/
theorem Holds.step (H : Holds m A) (l : Fin 3) (X : FVec Ideal ⟨2, ![64, 512]⟩ .f32) (d r : Fin 8) (j : Fin 512) :
    wholeLayer X (A.w l) (A.o l) (ix2 ⟨d.val * 8 + r.val, by omega⟩ j)
      = ∑ c : Fin 8, layer (fun k => X (ix2 ⟨d.val * 8 + r.val, by omega⟩ k)) (inW m l c) (outW m l c) j := by
  refine (wholeLayer_devices X (A.w l) (A.o l) _ j).trans (Finset.sum_congr rfl fun c _ => ?_)
  rw [H.in_eq l c, H.out_eq l c]

theorem Holds.y1_eq (H : Holds m A) (d r : Fin 8) (j : Fin 512) : A.y1 (ix2 ⟨d.val * 8 + r.val, by omega⟩ j) = acts1 m d r j := by
  refine (H.step 0 A.x d r j).trans (Finset.sum_congr rfl fun c _ => ?_)
  rw [H.x c]

theorem Holds.y2_eq (H : Holds m A) (d r : Fin 8) (j : Fin 512) : A.y2 (ix2 ⟨d.val * 8 + r.val, by omega⟩ j) = acts2 m d r j := by
  refine (H.step 1 A.y1 d r j).trans (Finset.sum_congr rfl fun c _ => ?_)
  rw [show (fun k => A.y1 (ix2 ⟨d.val * 8 + r.val, by omega⟩ k)) = acts1 m d r from funext fun k => H.y1_eq d r k]

theorem Holds.y3_eq (H : Holds m A) (d r : Fin 8) (j : Fin 512) : A.y3 (ix2 ⟨d.val * 8 + r.val, by omega⟩ j) = acts3 m d r j := by
  refine (H.step 2 A.y2 d r j).trans (Finset.sum_congr rfl fun c _ => ?_)
  rw [show (fun k => A.y2 (ix2 ⟨d.val * 8 + r.val, by omega⟩ k)) = acts2 m d r from funext fun k => H.y2_eq d r k]

/-- Device `c` ends with its rows of the reference's result. -/
theorem Holds.result (H : Holds m A) (c : Dev nD) :
    outV m c = Layout.block ⟨2, ![8, 512]⟩ ⟨2, ![64, 512]⟩ 0 8 c A.y3 (by decide) := by
  funext i
  obtain ⟨r, j, rfl⟩ : ∃ (r : Fin 8) (j : Fin 512), i = ix2 r j := ⟨i 0, i 1, eq_ix2 i⟩
  exact (outV_at m c r j).trans ((H.y3_eq c r j).symm.trans (row_block A.y3 c r j).symm)

end Cert.P
-- ==== Proof.lean ====
/-
The claims put together: the three programs run and end quiescent with their arguments unchanged, the ideal program is
the printed one, and every device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Result
public import proofs.«01_k».proof.Proof.Same
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The printed program is the same text as the ideal one: its run is the ideal one's at the machine's floats. -/
theorem frame_kernel : Cert.quiescent_Kernel := fun m ρ _ => by
  rw [Cert.P.defs_same]
  exact (θ_run Cert.KernelIdeal.defs (onTc Cert.KernelIdeal.main) ⟨m, fun _ => 0, ρ⟩).mono
    (fun _ h => ⟨fun c => (h.1 c).2, h.2⟩) (Cert.P.run_main (F := Bits) m ρ)

theorem frame_kernelIdeal : Cert.quiescent_KernelIdeal := fun m ρ _ =>
  (θ_run Cert.KernelIdeal.defs _ _).mono (fun _ h => ⟨fun c => (h.1 c).2, h.2⟩) (Cert.P.run_main (F := Ideal) m ρ)

/-- The reference is a straight line of operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's arguments as whole arrays. -/
def whole (m' : (ℓ : Loc Cert.ReferenceIdeal.nD Cert.ReferenceIdeal.τ Cert.ReferenceIdeal.sig) → Buf (Elt Ideal) ℓ) : Cert.P.Whole where
  x := m' (((0 : Dev Cert.ReferenceIdeal.nD).tc : Thread _ Cert.ReferenceIdeal.τ).loc Cert.ReferenceIdeal.main_arg0)
  w l := match l with
    | ⟨0, _⟩ => m' (((0 : Dev Cert.ReferenceIdeal.nD).tc : Thread _ Cert.ReferenceIdeal.τ).loc Cert.ReferenceIdeal.main_arg1)
    | ⟨1, _⟩ => m' (((0 : Dev Cert.ReferenceIdeal.nD).tc : Thread _ Cert.ReferenceIdeal.τ).loc Cert.ReferenceIdeal.main_arg2)
    | ⟨2, _⟩ => m' (((0 : Dev Cert.ReferenceIdeal.nD).tc : Thread _ Cert.ReferenceIdeal.τ).loc Cert.ReferenceIdeal.main_arg3)
  o l := match l with
    | ⟨0, _⟩ => m' (((0 : Dev Cert.ReferenceIdeal.nD).tc : Thread _ Cert.ReferenceIdeal.τ).loc Cert.ReferenceIdeal.main_arg4)
    | ⟨1, _⟩ => m' (((0 : Dev Cert.ReferenceIdeal.nD).tc : Thread _ Cert.ReferenceIdeal.τ).loc Cert.ReferenceIdeal.main_arg5)
    | ⟨2, _⟩ => m' (((0 : Dev Cert.ReferenceIdeal.nD).tc : Thread _ Cert.ReferenceIdeal.τ).loc Cert.ReferenceIdeal.main_arg6)

theorem algebraic : Cert.algebraic_KernelIdeal_ReferenceIdeal := by
  intro m ρ m' ρ' _ hag
  have H : Cert.P.Holds m (whole m') := by
    refine ⟨fun c => (hag c).1, fun l c k h => ?_, fun l c h j => ?_⟩
    · have hc : c.val * 1024 + h.val < 8192 := by have : c.val < 8 := c.isLt; omega
      obtain ⟨-, h1, h2, h3, -⟩ := hag c
      match l with
      | ⟨0, _⟩ => exact (congrFun h1 (ix2 k h)).trans (Cert.P.in_block _ c k h hc)
      | ⟨1, _⟩ => exact (congrFun h2 (ix2 k h)).trans (Cert.P.in_block _ c k h hc)
      | ⟨2, _⟩ => exact (congrFun h3 (ix2 k h)).trans (Cert.P.in_block _ c k h hc)
    · have hc : c.val * 1024 + h.val < 8192 := by have : c.val < 8 := c.isLt; omega
      obtain ⟨-, -, -, -, h4, h5, h6⟩ := hag c
      match l with
      | ⟨0, _⟩ => exact (congrFun h4 (ix2 h j)).trans (Cert.P.out_block _ c h j hc)
      | ⟨1, _⟩ => exact (congrFun h5 (ix2 h j)).trans (Cert.P.out_block _ c h j hc)
      | ⟨2, _⟩ => exact (congrFun h6 (ix2 h j)).trans (Cert.P.out_block _ c h j hc)
  refine ⟨(whole m').y3, ?_, ?_⟩
  · exact (θ_run Cert.KernelIdeal.defs _ _).mono
      (fun _ h c => ⟨(h.1 c).1.trans ((Cert.P.arr_end m c).trans (H.result c)), (h.1 c).2⟩) (Cert.P.run_main (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
